-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "scale" .f32 0x3E3504F3#32 (((Real.sqrt 32)⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_v275) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x128 : Shape := ⟨2, ![2048, 128]⟩
abbrev S4096x128 : Shape := ⟨2, ![4096, 128]⟩
abbrev S4096x2048 : Shape := ⟨2, ![4096, 2048]⟩
abbrev S2048x4096 : Shape := ⟨2, ![2048, 4096]⟩
abbrev S128 : Shape := ⟨1, ![128]⟩
abbrev S2x128x128 : Shape := ⟨3, ![2, 128, 128]⟩
abbrev S2x128 : Shape := ⟨2, ![2, 128]⟩
abbrev S2x128x256 : Shape := ⟨3, ![2, 128, 256]⟩
abbrev S2x256 : Shape := ⟨2, ![2, 256]⟩
abbrev S2x256x128 : Shape := ⟨3, ![2, 256, 128]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S4096 : Shape := ⟨1, ![4096]⟩
abbrev S4096x1 : Shape := ⟨2, ![4096, 1]⟩
abbrev S4096x4x32 : Shape := ⟨3, ![4096, 4, 32]⟩
abbrev S2048 : Shape := ⟨1, ![2048]⟩
abbrev S2048x1 : Shape := ⟨2, ![2048, 1]⟩
abbrev S2048x4x32 : Shape := ⟨3, ![2048, 4, 32]⟩
abbrev S4x4096x2048 : Shape := ⟨3, ![4, 4096, 2048]⟩
abbrev S4x2048x4096 : Shape := ⟨3, ![4, 2048, 4096]⟩
abbrev S1x4096x2048 : Shape := ⟨3, ![1, 4096, 2048]⟩
abbrev S1x2048x4096 : Shape := ⟨3, ![1, 2048, 4096]⟩

class Facts : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  shapeCasts_S128_S1x128 : S128.ShapeCasts S1x128
  bcast_S1x128_S4096x128_0_1 : S1x128.BroadcastsInDim S4096x128 (![0, 1] : Fin 2 → Fin S4096x128.rank)
  shapeCasts_S4096x128_S4096x4x32 : S4096x128.ShapeCasts S4096x4x32
  reducesTo_S2048x128_S2048_d1 : S2048x128.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  shapeCasts_S2048x128_S2048x4x32 : S2048x128.ShapeCasts S2048x4x32
  bcast_S_S4x4096x2048 : S_.BroadcastsInDim S4x4096x2048 (![] : Fin 0 → Fin S4x4096x2048.rank)
  slices_S2x128x128_S1x128x128_1_0_0 : S2x128x128.Slices ![1, 0, 0] S1x128x128
  slices_S2x128_S1x128_1_0 : S2x128.Slices ![1, 0] S1x128
  bcast_S_S4x2048x4096 : S_.BroadcastsInDim S4x2048x4096 (![] : Fin 0 → Fin S4x2048x4096.rank)
  bcast_S4096x2048_S1x4096x2048_1_2 : S4096x2048.BroadcastsInDim S1x4096x2048 (![1, 2] : Fin 2 → Fin S1x4096x2048.rank)
  bcast_S1x4096x2048_S4x4096x2048_0_1_2 : S1x4096x2048.BroadcastsInDim S4x4096x2048 (![0, 1, 2] : Fin 3 → Fin S4x4096x2048.rank)
  bcast_S2048x4096_S1x2048x4096_1_2 : S2048x4096.BroadcastsInDim S1x2048x4096 (![1, 2] : Fin 2 → Fin S1x2048x4096.rank)
  bcast_S1x2048x4096_S4x2048x4096_0_1_2 : S1x2048x4096.BroadcastsInDim S4x2048x4096 (![0, 1, 2] : Fin 3 → Fin S4x2048x4096.rank)
  dot_S4096x128_S128x128_S4096x128_1_0_0_1_n_n_wf : DotDims.WF S4096x128 S128x128 S4096x128 [1] [0] [0] [1] [] []
  dot_S2048x128_S128x128_S2048x128_1_0_0_1_n_n_wf : DotDims.WF S2048x128 S128x128 S2048x128 [1] [0] [0] [1] [] []
  dot_S4096x4x32_S2048x4x32_S4x4096x2048_2_2_0_0_1_1_wf : DotDims.WF S4096x4x32 S2048x4x32 S4x4096x2048 [2] [2] [0] [0] [1] [1]
  dot_S2048x4x32_S4096x4x32_S4x2048x4096_2_2_0_0_1_1_wf : DotDims.WF S2048x4x32 S4096x4x32 S4x2048x4096 [2] [2] [0] [0] [1] [1]

variable [Facts]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4096x4x32_S2048x4x32_S4x4096x2048_2_2_0_0_1_1 : DotDims S4096x4x32 S2048x4x32 S4x4096x2048 where
  lhsContracting := [2]
  rhsContracting := [2]
  lhsNonContracting := [0]
  rhsNonContracting := [0]
  lhsBatch := [1]
  rhsBatch := [1]
  wf := dot_S4096x4x32_S2048x4x32_S4x4096x2048_2_2_0_0_1_1_wf
def dot_S2048x4x32_S4096x4x32_S4x2048x4096_2_2_0_0_1_1 : DotDims S2048x4x32 S4096x4x32 S4x2048x4096 where
  lhsContracting := [2]
  rhsContracting := [2]
  lhsNonContracting := [0]
  rhsNonContracting := [0]
  lhsBatch := [1]
  rhsBatch := [1]
  wf := dot_S2048x4x32_S4096x4x32_S4x2048x4096_2_2_0_0_1_1_wf
def fn_part7 {F : FTy → Type} [FloatOps F] (main_v131 : FVec F S4x2048x4096 .f32) (main_v135 : IVec S2048x4096 1) (main_v143 : IVec S4x4096x2048 1) : IVec S4x4096x2048 1 × IVec S4x2048x4096 1 :=
  let main_cst_23 : FVec F S_ .f32 := constant S_ .f32 0xFF800000#32
  let main_v144 : FVec F S4x2048x4096 .f32 := broadcastInDim S4x2048x4096 ![] bcast_S_S4x2048x4096 main_cst_23
  let main_v145 : IVec S4x2048x4096 1 := cmpf .ogt main_v131 main_v144
  let main_cst_24 : FVec F S_ .f32 := constant S_ .f32 0x42A00000#32
  let main_v146 : FVec F S4x2048x4096 .f32 := broadcastInDim S4x2048x4096 ![] bcast_S_S4x2048x4096 main_cst_24
  let main_v147 : IVec S4x2048x4096 1 := cmpf .ole main_v131 main_v146
  let main_v148 : IVec S4x2048x4096 1 := andi main_v145 main_v147
  let main_v149 : IVec S1x2048x4096 1 := broadcastInDim S1x2048x4096 ![1, 2] bcast_S2048x4096_S1x2048x4096_1_2 main_v135
  let main_v150 : IVec S4x2048x4096 1 := broadcastInDim S4x2048x4096 ![0, 1, 2] bcast_S1x2048x4096_S4x2048x4096_0_1_2 main_v149
  let main_v151 : IVec S4x2048x4096 1 := ori main_v148 main_v150
  (main_v143, main_v151)

def fn_part6 {F : FTy → Type} [FloatOps F] (main_arg2 : IVec S4096x2048 1) (main_arg3 : IVec S4096x2048 1) (main_arg4 : IVec S2048x4096 1) (main_arg5 : IVec S2048x4096 1) (main_v65 : FVec F S4x4096x2048 .f32) (main_v71 : FVec F S128x128 .f32) (main_v73 : FVec F S128 .f32) (main_v100 : FVec F S2048x4x32 .f32) (main_v122 : FVec F S4096x128 .f32) : IVec S4x4096x2048 1 × IVec S4x2048x4096 1 :=
  let main_v123 : FVec F S4096x128 .f32 := (fun l r => Host.dotGeneral dot_S4096x128_S128x128_S4096x128_1_0_0_1_n_n none l r) main_v122 main_v71
  let main_v124 : FVec F S1x128 .f32 := shapeCast S1x128 main_v73 shapeCasts_S128_S1x128
  let main_v125 : FVec F S4096x128 .f32 := broadcastInDim S4096x128 ![0, 1] bcast_S1x128_S4096x128_0_1 main_v124
  let main_v126 : FVec F S4096x128 .f32 := addf main_v123 main_v125
  let main_v127 : FVec F S4096x4x32 .f32 := shapeCast S4096x4x32 main_v126 shapeCasts_S4096x128_S4096x4x32
  let main_v128 : FVec F S4x2048x4096 .f32 := (fun l r => Host.dotGeneral dot_S2048x4x32_S4096x4x32_S4x2048x4096_2_2_0_0_1_1 none l r) main_v100 main_v127
  let main_cst_20 : FVec F S_ .f32 := constant S_ .f32 0x42000000#32
  let main_v129 : FVec F S_ .f32 := Host.sqrt main_cst_20
  let main_v130 : FVec F S4x2048x4096 .f32 := broadcastInDim S4x2048x4096 ![] bcast_S_S4x2048x4096 main_v129
  let main_v131 : FVec F S4x2048x4096 .f32 := Host.divf main_v128 main_v130
  let main_v132 : IVec S4096x2048 1 := andi main_arg2 main_arg3
  let main_v133 : IVec S4096x2048 1 := noti main_v132
  let main_v134 : IVec S2048x4096 1 := andi main_arg4 main_arg5
  let main_v135 : IVec S2048x4096 1 := noti main_v134
  let main_cst_21 : FVec F S_ .f32 := constant S_ .f32 0xFF800000#32
  let main_v136 : FVec F S4x4096x2048 .f32 := broadcastInDim S4x4096x2048 ![] bcast_S_S4x4096x2048 main_cst_21
  let main_v137 : IVec S4x4096x2048 1 := cmpf .ogt main_v65 main_v136
  let main_cst_22 : FVec F S_ .f32 := constant S_ .f32 0x42A00000#32
  let main_v138 : FVec F S4x4096x2048 .f32 := broadcastInDim S4x4096x2048 ![] bcast_S_S4x4096x2048 main_cst_22
  let main_v139 : IVec S4x4096x2048 1 := cmpf .ole main_v65 main_v138
  let main_v140 : IVec S4x4096x2048 1 := andi main_v137 main_v139
  let main_v141 : IVec S1x4096x2048 1 := broadcastInDim S1x4096x2048 ![1, 2] bcast_S4096x2048_S1x4096x2048_1_2 main_v133
  let main_v142 : IVec S4x4096x2048 1 := broadcastInDim S4x4096x2048 ![0, 1, 2] bcast_S1x4096x2048_S4x4096x2048_0_1_2 main_v141
  let main_v143 : IVec S4x4096x2048 1 := ori main_v140 main_v142
  fn_part7 (F := F) main_v131 main_v135 main_v143

def fn_part5 {F : FTy → Type} [FloatOps F] (main_arg1 : FVec F S4096x128 .f32) (main_arg2 : IVec S4096x2048 1) (main_arg3 : IVec S4096x2048 1) (main_arg4 : IVec S2048x4096 1) (main_arg5 : IVec S2048x4096 1) (main_arg8 : FVec F S128 .f32) (main_arg9 : FVec F S128 .f32) (main_v65 : FVec F S4x4096x2048 .f32) (main_v71 : FVec F S128x128 .f32) (main_v73 : FVec F S128 .f32) (main_v100 : FVec F S2048x4x32 .f32) (main_v102 : FVec F S4096x1 .f32) : IVec S4x4096x2048 1 × IVec S4x2048x4096 1 :=
  let main_cst_16 : FVec F S_ .f32 := constant S_ .f32 0x43000000#32
  let main_v103 : FVec F S4096x1 .f32 := broadcastInDim S4096x1 ![] bcast_S_S4096x1 main_cst_16
  let main_v104 : FVec F S4096x1 .f32 := Host.divf main_v102 main_v103
  let main_v105 : FVec F S4096x128 .f32 := broadcastInDim S4096x128 ![0, 1] bcast_S4096x1_S4096x128_0_1 main_v104
  let main_v106 : FVec F S4096x128 .f32 := subf main_arg1 main_v105
  let main_v107 : FVec F S4096x128 .f32 := mulf main_v106 main_v106
  let main_cst_17 : FVec F S_ .f32 := constant S_ .f32 0x00000000#32
  let main_v108 : FVec F S4096 .f32 := (fun x v => Host.reduceAdd x v reducesTo_S4096x128_S4096_d1 h_S_) main_v107 main_cst_17
  let main_v109 : FVec F S4096x1 .f32 := broadcastInDim S4096x1 ![0] bcast_S4096_S4096x1_0 main_v108
  let main_cst_18 : FVec F S_ .f32 := constant S_ .f32 0x43000000#32
  let main_v110 : FVec F S4096x1 .f32 := broadcastInDim S4096x1 ![] bcast_S_S4096x1 main_cst_18
  let main_v111 : FVec F S4096x1 .f32 := Host.divf main_v109 main_v110
  let main_cst_19 : FVec F S_ .f32 := constant S_ .f32 0x3727C5AC#32
  let main_v112 : FVec F S4096x1 .f32 := broadcastInDim S4096x1 ![] bcast_S_S4096x1 main_cst_19
  let main_v113 : FVec F S4096x1 .f32 := addf main_v111 main_v112
  let main_v114 : FVec F S4096x1 .f32 := Host.rsqrt main_v113
  let main_v115 : FVec F S4096x128 .f32 := broadcastInDim S4096x128 ![0, 1] bcast_S4096x1_S4096x128_0_1 main_v114
  let main_v116 : FVec F S4096x128 .f32 := mulf main_v106 main_v115
  let main_v117 : FVec F S1x128 .f32 := shapeCast S1x128 main_arg8 shapeCasts_S128_S1x128
  let main_v118 : FVec F S4096x128 .f32 := broadcastInDim S4096x128 ![0, 1] bcast_S1x128_S4096x128_0_1 main_v117
  let main_v119 : FVec F S4096x128 .f32 := mulf main_v116 main_v118
  let main_v120 : FVec F S1x128 .f32 := shapeCast S1x128 main_arg9 shapeCasts_S128_S1x128
  let main_v121 : FVec F S4096x128 .f32 := broadcastInDim S4096x128 ![0, 1] bcast_S1x128_S4096x128_0_1 main_v120
  let main_v122 : FVec F S4096x128 .f32 := addf main_v119 main_v121
  fn_part6 (F := F) main_arg2 main_arg3 main_arg4 main_arg5 main_v65 main_v71 main_v73 main_v100 main_v122

def fn_part4 {F : FTy → Type} [FloatOps F] (main_arg1 : FVec F S4096x128 .f32) (main_arg2 : IVec S4096x2048 1) (main_arg3 : IVec S4096x2048 1) (main_arg4 : IVec S2048x4096 1) (main_arg5 : IVec S2048x4096 1) (main_arg6 : FVec F S128 .f32) (main_arg7 : FVec F S128 .f32) (main_arg8 : FVec F S128 .f32) (main_arg9 : FVec F S128 .f32) (main_v65 : FVec F S4x4096x2048 .f32) (main_v67 : FVec F S128x128 .f32) (main_v69 : FVec F S128 .f32) (main_v71 : FVec F S128x128 .f32) (main_v73 : FVec F S128 .f32) (main_v79 : FVec F S2048x128 .f32) (main_v81 : FVec F S2048 .f32) : IVec S4x4096x2048 1 × IVec S4x2048x4096 1 :=
  let main_v82 : FVec F S2048x1 .f32 := broadcastInDim S2048x1 ![0] bcast_S2048_S2048x1_0 main_v81
  let main_cst_13 : FVec F S_ .f32 := constant S_ .f32 0x43000000#32
  let main_v83 : FVec F S2048x1 .f32 := broadcastInDim S2048x1 ![] bcast_S_S2048x1 main_cst_13
  let main_v84 : FVec F S2048x1 .f32 := Host.divf main_v82 main_v83
  let main_cst_14 : FVec F S_ .f32 := constant S_ .f32 0x3727C5AC#32
  let main_v85 : FVec F S2048x1 .f32 := broadcastInDim S2048x1 ![] bcast_S_S2048x1 main_cst_14
  let main_v86 : FVec F S2048x1 .f32 := addf main_v84 main_v85
  let main_v87 : FVec F S2048x1 .f32 := Host.rsqrt main_v86
  let main_v88 : FVec F S2048x128 .f32 := broadcastInDim S2048x128 ![0, 1] bcast_S2048x1_S2048x128_0_1 main_v87
  let main_v89 : FVec F S2048x128 .f32 := mulf main_v79 main_v88
  let main_v90 : FVec F S1x128 .f32 := shapeCast S1x128 main_arg6 shapeCasts_S128_S1x128
  let main_v91 : FVec F S2048x128 .f32 := broadcastInDim S2048x128 ![0, 1] bcast_S1x128_S2048x128_0_1 main_v90
  let main_v92 : FVec F S2048x128 .f32 := mulf main_v89 main_v91
  let main_v93 : FVec F S1x128 .f32 := shapeCast S1x128 main_arg7 shapeCasts_S128_S1x128
  let main_v94 : FVec F S2048x128 .f32 := broadcastInDim S2048x128 ![0, 1] bcast_S1x128_S2048x128_0_1 main_v93
  let main_v95 : FVec F S2048x128 .f32 := addf main_v92 main_v94
  let main_v96 : FVec F S2048x128 .f32 := (fun l r => Host.dotGeneral dot_S2048x128_S128x128_S2048x128_1_0_0_1_n_n none l r) main_v95 main_v67
  let main_v97 : FVec F S1x128 .f32 := shapeCast S1x128 main_v69 shapeCasts_S128_S1x128
  let main_v98 : FVec F S2048x128 .f32 := broadcastInDim S2048x128 ![0, 1] bcast_S1x128_S2048x128_0_1 main_v97
  let main_v99 : FVec F S2048x128 .f32 := addf main_v96 main_v98
  let main_v100 : FVec F S2048x4x32 .f32 := shapeCast S2048x4x32 main_v99 shapeCasts_S2048x128_S2048x4x32
  let main_cst_15 : FVec F S_ .f32 := constant S_ .f32 0x00000000#32
  let main_v101 : FVec F S4096 .f32 := (fun x v => Host.reduceAdd x v reducesTo_S4096x128_S4096_d1 h_S_) main_arg1 main_cst_15
  let main_v102 : FVec F S4096x1 .f32 := broadcastInDim S4096x1 ![0] bcast_S4096_S4096x1_0 main_v101
  fn_part5 (F := F) main_arg1 main_arg2 main_arg3 main_arg4 main_arg5 main_arg8 main_arg9 main_v65 main_v71 main_v73 main_v100 main_v102

def fn_part3 {F : FTy → Type} [FloatOps F] (main_arg0 : FVec F S2048x128 .f32) (main_arg1 : FVec F S4096x128 .f32) (main_arg2 : IVec S4096x2048 1) (main_arg3 : IVec S4096x2048 1) (main_arg4 : IVec S2048x4096 1) (main_arg5 : IVec S2048x4096 1) (main_arg6 : FVec F S128 .f32) (main_arg7 : FVec F S128 .f32) (main_arg8 : FVec F S128 .f32) (main_arg9 : FVec F S128 .f32) (main_arg10 : FVec F S2x128x128 .f32) (main_arg11 : FVec F S2x128 .f32) (main_arg12 : FVec F S2x128x128 .f32) (main_arg13 : FVec F S2x128 .f32) (main_v34 : FVec F S4096x4x32 .f32) (main_v61 : FVec F S2048x4x32 .f32) : IVec S4x4096x2048 1 × IVec S4x2048x4096 1 :=
  let main_v62 : FVec F S4x4096x2048 .f32 := (fun l r => Host.dotGeneral dot_S4096x4x32_S2048x4x32_S4x4096x2048_2_2_0_0_1_1 none l r) main_v34 main_v61
  let main_cst_9 : FVec F S_ .f32 := constant S_ .f32 0x42000000#32
  let main_v63 : FVec F S_ .f32 := Host.sqrt main_cst_9
  let main_v64 : FVec F S4x4096x2048 .f32 := broadcastInDim S4x4096x2048 ![] bcast_S_S4x4096x2048 main_v63
  let main_v65 : FVec F S4x4096x2048 .f32 := Host.divf main_v62 main_v64
  let main_v66 : FVec F S1x128x128 .f32 := (extractStridedSlice S1x128x128 ![1, 0, 0] · slices_S2x128x128_S1x128x128_1_0_0) main_arg10
  let main_v67 : FVec F S128x128 .f32 := shapeCast S128x128 main_v66 shapeCasts_S1x128x128_S128x128
  let main_v68 : FVec F S1x128 .f32 := (extractStridedSlice S1x128 ![1, 0] · slices_S2x128_S1x128_1_0) main_arg11
  let main_v69 : FVec F S128 .f32 := shapeCast S128 main_v68 shapeCasts_S1x128_S128
  let main_v70 : FVec F S1x128x128 .f32 := (extractStridedSlice S1x128x128 ![1, 0, 0] · slices_S2x128x128_S1x128x128_1_0_0) main_arg12
  let main_v71 : FVec F S128x128 .f32 := shapeCast S128x128 main_v70 shapeCasts_S1x128x128_S128x128
  let main_v72 : FVec F S1x128 .f32 := (extractStridedSlice S1x128 ![1, 0] · slices_S2x128_S1x128_1_0) main_arg13
  let main_v73 : FVec F S128 .f32 := shapeCast S128 main_v72 shapeCasts_S1x128_S128
  let main_cst_10 : FVec F S_ .f32 := constant S_ .f32 0x00000000#32
  let main_v74 : FVec F S2048 .f32 := (fun x v => Host.reduceAdd x v reducesTo_S2048x128_S2048_d1 h_S_) main_arg0 main_cst_10
  let main_v75 : FVec F S2048x1 .f32 := broadcastInDim S2048x1 ![0] bcast_S2048_S2048x1_0 main_v74
  let main_cst_11 : FVec F S_ .f32 := constant S_ .f32 0x43000000#32
  let main_v76 : FVec F S2048x1 .f32 := broadcastInDim S2048x1 ![] bcast_S_S2048x1 main_cst_11
  let main_v77 : FVec F S2048x1 .f32 := Host.divf main_v75 main_v76
  let main_v78 : FVec F S2048x128 .f32 := broadcastInDim S2048x128 ![0, 1] bcast_S2048x1_S2048x128_0_1 main_v77
  let main_v79 : FVec F S2048x128 .f32 := subf main_arg0 main_v78
  let main_v80 : FVec F S2048x128 .f32 := mulf main_v79 main_v79
  let main_cst_12 : FVec F S_ .f32 := constant S_ .f32 0x00000000#32
  let main_v81 : FVec F S2048 .f32 := (fun x v => Host.reduceAdd x v reducesTo_S2048x128_S2048_d1 h_S_) main_v80 main_cst_12
  fn_part4 (F := F) main_arg1 main_arg2 main_arg3 main_arg4 main_arg5 main_arg6 main_arg7 main_arg8 main_arg9 main_v65 main_v67 main_v69 main_v71 main_v73 main_v79 main_v81

def fn_part2 {F : FTy → Type} [FloatOps F] (main_arg0 : FVec F S2048x128 .f32) (main_arg1 : FVec F S4096x128 .f32) (main_arg2 : IVec S4096x2048 1) (main_arg3 : IVec S4096x2048 1) (main_arg4 : IVec S2048x4096 1) (main_arg5 : IVec S2048x4096 1) (main_arg6 : FVec F S128 .f32) (main_arg7 : FVec F S128 .f32) (main_arg8 : FVec F S128 .f32) (main_arg9 : FVec F S128 .f32) (main_arg10 : FVec F S2x128x128 .f32) (main_arg11 : FVec F S2x128 .f32) (main_arg12 : FVec F S2x128x128 .f32) (main_arg13 : FVec F S2x128 .f32) (main_v5 : FVec F S128x128 .f32) (main_v7 : FVec F S128 .f32) (main_v34 : FVec F S4096x4x32 .f32) (main_v40 : FVec F S2048x128 .f32) : IVec S4x4096x2048 1 × IVec S4x2048x4096 1 :=
  let main_v41 : FVec F S2048x128 .f32 := mulf main_v40 main_v40
  let main_cst_6 : FVec F S_ .f32 := constant S_ .f32 0x00000000#32
  let main_v42 : FVec F S2048 .f32 := (fun x v => Host.reduceAdd x v reducesTo_S2048x128_S2048_d1 h_S_) main_v41 main_cst_6
  let main_v43 : FVec F S2048x1 .f32 := broadcastInDim S2048x1 ![0] bcast_S2048_S2048x1_0 main_v42
  let main_cst_7 : FVec F S_ .f32 := constant S_ .f32 0x43000000#32
  let main_v44 : FVec F S2048x1 .f32 := broadcastInDim S2048x1 ![] bcast_S_S2048x1 main_cst_7
  let main_v45 : FVec F S2048x1 .f32 := Host.divf main_v43 main_v44
  let main_cst_8 : FVec F S_ .f32 := constant S_ .f32 0x3727C5AC#32
  let main_v46 : FVec F S2048x1 .f32 := broadcastInDim S2048x1 ![] bcast_S_S2048x1 main_cst_8
  let main_v47 : FVec F S2048x1 .f32 := addf main_v45 main_v46
  let main_v48 : FVec F S2048x1 .f32 := Host.rsqrt main_v47
  let main_v49 : FVec F S2048x128 .f32 := broadcastInDim S2048x128 ![0, 1] bcast_S2048x1_S2048x128_0_1 main_v48
  let main_v50 : FVec F S2048x128 .f32 := mulf main_v40 main_v49
  let main_v51 : FVec F S1x128 .f32 := shapeCast S1x128 main_arg6 shapeCasts_S128_S1x128
  let main_v52 : FVec F S2048x128 .f32 := broadcastInDim S2048x128 ![0, 1] bcast_S1x128_S2048x128_0_1 main_v51
  let main_v53 : FVec F S2048x128 .f32 := mulf main_v50 main_v52
  let main_v54 : FVec F S1x128 .f32 := shapeCast S1x128 main_arg7 shapeCasts_S128_S1x128
  let main_v55 : FVec F S2048x128 .f32 := broadcastInDim S2048x128 ![0, 1] bcast_S1x128_S2048x128_0_1 main_v54
  let main_v56 : FVec F S2048x128 .f32 := addf main_v53 main_v55
  let main_v57 : FVec F S2048x128 .f32 := (fun l r => Host.dotGeneral dot_S2048x128_S128x128_S2048x128_1_0_0_1_n_n none l r) main_v56 main_v5
  let main_v58 : FVec F S1x128 .f32 := shapeCast S1x128 main_v7 shapeCasts_S128_S1x128
  let main_v59 : FVec F S2048x128 .f32 := broadcastInDim S2048x128 ![0, 1] bcast_S1x128_S2048x128_0_1 main_v58
  let main_v60 : FVec F S2048x128 .f32 := addf main_v57 main_v59
  let main_v61 : FVec F S2048x4x32 .f32 := shapeCast S2048x4x32 main_v60 shapeCasts_S2048x128_S2048x4x32
  fn_part3 (F := F) main_arg0 main_arg1 main_arg2 main_arg3 main_arg4 main_arg5 main_arg6 main_arg7 main_arg8 main_arg9 main_arg10 main_arg11 main_arg12 main_arg13 main_v34 main_v61

def fn_part1 {F : FTy → Type} [FloatOps F] (main_arg0 : FVec F S2048x128 .f32) (main_arg1 : FVec F S4096x128 .f32) (main_arg2 : IVec S4096x2048 1) (main_arg3 : IVec S4096x2048 1) (main_arg4 : IVec S2048x4096 1) (main_arg5 : IVec S2048x4096 1) (main_arg6 : FVec F S128 .f32) (main_arg7 : FVec F S128 .f32) (main_arg8 : FVec F S128 .f32) (main_arg9 : FVec F S128 .f32) (main_arg10 : FVec F S2x128x128 .f32) (main_arg11 : FVec F S2x128 .f32) (main_arg12 : FVec F S2x128x128 .f32) (main_arg13 : FVec F S2x128 .f32) (main_v1 : FVec F S128x128 .f32) (main_v3 : FVec F S128 .f32) (main_v5 : FVec F S128x128 .f32) (main_v7 : FVec F S128 .f32) (main_v13 : FVec F S4096x128 .f32) (main_v18 : FVec F S4096x1 .f32) (main_cst_3 : FVec F S_ .f32) : IVec S4x4096x2048 1 × IVec S4x2048x4096 1 :=
  let main_v19 : FVec F S4096x1 .f32 := broadcastInDim S4096x1 ![] bcast_S_S4096x1 main_cst_3
  let main_v20 : FVec F S4096x1 .f32 := addf main_v18 main_v19
  let main_v21 : FVec F S4096x1 .f32 := Host.rsqrt main_v20
  let main_v22 : FVec F S4096x128 .f32 := broadcastInDim S4096x128 ![0, 1] bcast_S4096x1_S4096x128_0_1 main_v21
  let main_v23 : FVec F S4096x128 .f32 := mulf main_v13 main_v22
  let main_v24 : FVec F S1x128 .f32 := shapeCast S1x128 main_arg8 shapeCasts_S128_S1x128
  let main_v25 : FVec F S4096x128 .f32 := broadcastInDim S4096x128 ![0, 1] bcast_S1x128_S4096x128_0_1 main_v24
  let main_v26 : FVec F S4096x128 .f32 := mulf main_v23 main_v25
  let main_v27 : FVec F S1x128 .f32 := shapeCast S1x128 main_arg9 shapeCasts_S128_S1x128
  let main_v28 : FVec F S4096x128 .f32 := broadcastInDim S4096x128 ![0, 1] bcast_S1x128_S4096x128_0_1 main_v27
  let main_v29 : FVec F S4096x128 .f32 := addf main_v26 main_v28
  let main_v30 : FVec F S4096x128 .f32 := (fun l r => Host.dotGeneral dot_S4096x128_S128x128_S4096x128_1_0_0_1_n_n none l r) main_v29 main_v1
  let main_v31 : FVec F S1x128 .f32 := shapeCast S1x128 main_v3 shapeCasts_S128_S1x128
  let main_v32 : FVec F S4096x128 .f32 := broadcastInDim S4096x128 ![0, 1] bcast_S1x128_S4096x128_0_1 main_v31
  let main_v33 : FVec F S4096x128 .f32 := addf main_v30 main_v32
  let main_v34 : FVec F S4096x4x32 .f32 := shapeCast S4096x4x32 main_v33 shapeCasts_S4096x128_S4096x4x32
  let main_cst_4 : FVec F S_ .f32 := constant S_ .f32 0x00000000#32
  let main_v35 : FVec F S2048 .f32 := (fun x v => Host.reduceAdd x v reducesTo_S2048x128_S2048_d1 h_S_) main_arg0 main_cst_4
  let main_v36 : FVec F S2048x1 .f32 := broadcastInDim S2048x1 ![0] bcast_S2048_S2048x1_0 main_v35
  let main_cst_5 : FVec F S_ .f32 := constant S_ .f32 0x43000000#32
  let main_v37 : FVec F S2048x1 .f32 := broadcastInDim S2048x1 ![] bcast_S_S2048x1 main_cst_5
  let main_v38 : FVec F S2048x1 .f32 := Host.divf main_v36 main_v37
  let main_v39 : FVec F S2048x128 .f32 := broadcastInDim S2048x128 ![0, 1] bcast_S2048x1_S2048x128_0_1 main_v38
  let main_v40 : FVec F S2048x128 .f32 := subf main_arg0 main_v39
  fn_part2 (F := F) main_arg0 main_arg1 main_arg2 main_arg3 main_arg4 main_arg5 main_arg6 main_arg7 main_arg8 main_arg9 main_arg10 main_arg11 main_arg12 main_arg13 main_v5 main_v7 main_v34 main_v40

def fn {F : FTy → Type} [FloatOps F] (main_arg0 : FVec F S2048x128 .f32) (main_arg1 : FVec F S4096x128 .f32) (main_arg2 : IVec S4096x2048 1) (main_arg3 : IVec S4096x2048 1) (main_arg4 : IVec S2048x4096 1) (main_arg5 : IVec S2048x4096 1) (main_arg6 : FVec F S128 .f32) (main_arg7 : FVec F S128 .f32) (main_arg8 : FVec F S128 .f32) (main_arg9 : FVec F S128 .f32) (main_arg10 : FVec F S2x128x128 .f32) (main_arg11 : FVec F S2x128 .f32) (main_arg12 : FVec F S2x128x128 .f32) (main_arg13 : FVec F S2x128 .f32) (main_arg14 : FVec F S2x128x128 .f32) (main_arg15 : FVec F S2x128 .f32) (main_arg16 : FVec F S2x128x128 .f32) (main_arg17 : FVec F S2x128 .f32) (main_arg18 : FVec F S2x128 .f32) (main_arg19 : FVec F S2x128 .f32) (main_arg20 : FVec F S2x128x256 .f32) (main_arg21 : FVec F S2x256 .f32) (main_arg22 : FVec F S2x256x128 .f32) (main_arg23 : FVec F S2x128 .f32) : IVec S4x4096x2048 1 × IVec S4x2048x4096 1 :=
  let main_v0 : FVec F S1x128x128 .f32 := (extractStridedSlice S1x128x128 ![0, 0, 0] · slices_S2x128x128_S1x128x128_0_0_0) main_arg10
  let main_v1 : FVec F S128x128 .f32 := shapeCast S128x128 main_v0 shapeCasts_S1x128x128_S128x128
  let main_v2 : FVec F S1x128 .f32 := (extractStridedSlice S1x128 ![0, 0] · slices_S2x128_S1x128_0_0) main_arg11
  let main_v3 : FVec F S128 .f32 := shapeCast S128 main_v2 shapeCasts_S1x128_S128
  let main_v4 : FVec F S1x128x128 .f32 := (extractStridedSlice S1x128x128 ![0, 0, 0] · slices_S2x128x128_S1x128x128_0_0_0) main_arg12
  let main_v5 : FVec F S128x128 .f32 := shapeCast S128x128 main_v4 shapeCasts_S1x128x128_S128x128
  let main_v6 : FVec F S1x128 .f32 := (extractStridedSlice S1x128 ![0, 0] · slices_S2x128_S1x128_0_0) main_arg13
  let main_v7 : FVec F S128 .f32 := shapeCast S128 main_v6 shapeCasts_S1x128_S128
  let main_cst : FVec F S_ .f32 := constant S_ .f32 0x00000000#32
  let main_v8 : FVec F S4096 .f32 := (fun x v => Host.reduceAdd x v reducesTo_S4096x128_S4096_d1 h_S_) main_arg1 main_cst
  let main_v9 : FVec F S4096x1 .f32 := broadcastInDim S4096x1 ![0] bcast_S4096_S4096x1_0 main_v8
  let main_cst_0 : FVec F S_ .f32 := constant S_ .f32 0x43000000#32
  let main_v10 : FVec F S4096x1 .f32 := broadcastInDim S4096x1 ![] bcast_S_S4096x1 main_cst_0
  let main_v11 : FVec F S4096x1 .f32 := Host.divf main_v9 main_v10
  let main_v12 : FVec F S4096x128 .f32 := broadcastInDim S4096x128 ![0, 1] bcast_S4096x1_S4096x128_0_1 main_v11
  let main_v13 : FVec F S4096x128 .f32 := subf main_arg1 main_v12
  let main_v14 : FVec F S4096x128 .f32 := mulf main_v13 main_v13
  let main_cst_1 : FVec F S_ .f32 := constant S_ .f32 0x00000000#32
  let main_v15 : FVec F S4096 .f32 := (fun x v => Host.reduceAdd x v reducesTo_S4096x128_S4096_d1 h_S_) main_v14 main_cst_1
  let main_v16 : FVec F S4096x1 .f32 := broadcastInDim S4096x1 ![0] bcast_S4096_S4096x1_0 main_v15
  let main_cst_2 : FVec F S_ .f32 := constant S_ .f32 0x43000000#32
  let main_v17 : FVec F S4096x1 .f32 := broadcastInDim S4096x1 ![] bcast_S_S4096x1 main_cst_2
  let main_v18 : FVec F S4096x1 .f32 := Host.divf main_v16 main_v17
  let main_cst_3 : FVec F S_ .f32 := constant S_ .f32 0x3727C5AC#32
  fn_part1 (F := F) main_arg0 main_arg1 main_arg2 main_arg3 main_arg4 main_arg5 main_arg6 main_arg7 main_arg8 main_arg9 main_arg10 main_arg11 main_arg12 main_arg13 main_v1 main_v3 main_v5 main_v7 main_v13 main_v18 main_cst_3
-- ==== Kernel.lean ====
abbrev S2048x128 : Shape := ⟨2, ![2048, 128]⟩
abbrev S4096x128 : Shape := ⟨2, ![4096, 128]⟩
abbrev S4096x2048 : Shape := ⟨2, ![4096, 2048]⟩
abbrev S2048x4096 : Shape := ⟨2, ![2048, 4096]⟩
abbrev S128 : Shape := ⟨1, ![128]⟩
abbrev S2x128x128 : Shape := ⟨3, ![2, 128, 128]⟩
abbrev S2x128 : Shape := ⟨2, ![2, 128]⟩
abbrev S2x128x256 : Shape := ⟨3, ![2, 128, 256]⟩
abbrev S2x256 : Shape := ⟨2, ![2, 256]⟩
abbrev S2x256x128 : Shape := ⟨3, ![2, 256, 128]⟩
abbrev S1x128x128 : Shape := ⟨3, ![1, 128, 128]⟩
abbrev S128x128 : Shape := ⟨2, ![128, 128]⟩
abbrev S1x128 : Shape := ⟨2, ![1, 128]⟩
abbrev S16x4x128x256 : Shape := ⟨4, ![16, 4, 128, 256]⟩
abbrev S8x128 : Shape := ⟨2, ![8, 128]⟩
abbrev S512x128 : Shape := ⟨2, ![512, 128]⟩
abbrev S4x4x128x256 : Shape := ⟨4, ![4, 4, 128, 256]⟩
abbrev S512 : Shape := ⟨1, ![512]⟩
abbrev S512x1 : Shape := ⟨2, ![512, 1]⟩
abbrev S128x256 : Shape := ⟨2, ![128, 256]⟩
abbrev S1x1x128x256 : Shape := ⟨4, ![1, 1, 128, 256]⟩
abbrev S64x8x128 : Shape := ⟨3, ![64, 8, 128]⟩
abbrev S8192x256 : Shape := ⟨2, ![8192, 256]⟩
abbrev S32x4x128x256 : Shape := ⟨4, ![32, 4, 128, 256]⟩
abbrev S16384x256 : Shape := ⟨2, ![16384, 256]⟩
abbrev S1x128x256 : Shape := ⟨3, ![1, 128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S512x2048 : Shape := ⟨2, ![512, 2048]⟩
abbrev S512x256 : Shape := ⟨2, ![512, 256]⟩
abbrev S512x512 : Shape := ⟨2, ![512, 512]⟩
abbrev S512x4096 : Shape := ⟨2, ![512, 4096]⟩

abbrev nBuf : Space → Nat
  | .hbm => 116
  | .vmem => 76
  | .smem => 0
  | _ => 0

abbrev bufTy : (tb : Table) → Fin (tcTables nBuf tb) → BufTy
  | .hbm, ⟨0, _⟩ => ⟨S2048x128, .f32⟩
  | .hbm, ⟨1, _⟩ => ⟨S4096x128, .f32⟩
  | .hbm, ⟨2, _⟩ => ⟨S4096x2048, .i1⟩
  | .hbm, ⟨3, _⟩ => ⟨S4096x2048, .i1⟩
  | .hbm, ⟨4, _⟩ => ⟨S2048x4096, .i1⟩
  | .hbm, ⟨5, _⟩ => ⟨S2048x4096, .i1⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2x128x128, .f32⟩
  | .hbm, ⟨11, _⟩ => ⟨S2x128, .f32⟩
  | .hbm, ⟨12, _⟩ => ⟨S2x128x128, .f32⟩
  | .hbm, ⟨13, _⟩ => ⟨S2x128, .f32⟩
  | .hbm, ⟨14, _⟩ => ⟨S2x128x128, .f32⟩
  | .hbm, ⟨15, _⟩ => ⟨S2x128, .f32⟩
  | .hbm, ⟨16, _⟩ => ⟨S2x128x128, .f32⟩
  | .hbm, ⟨17, _⟩ => ⟨S2x128, .f32⟩
  | .hbm, ⟨18, _⟩ => ⟨S2x128, .f32⟩
  | .hbm, ⟨19, _⟩ => ⟨S2x128, .f32⟩
  | .hbm, ⟨20, _⟩ => ⟨S2x128x256, .f32⟩
  | .hbm, ⟨21, _⟩ => ⟨S2x256, .f32⟩
  | .hbm, ⟨22, _⟩ => ⟨S2x256x128, .f32⟩
  | .hbm, ⟨23, _⟩ => ⟨S2x128, .f32⟩
  | .hbm, ⟨24, _⟩ => ⟨S1x128x128, .f32⟩
  | .hbm, ⟨25, _⟩ => ⟨S128x128, .f32⟩
  | .hbm, ⟨26, _⟩ => ⟨S1x128, .f32⟩
  | .hbm, ⟨27, _⟩ => ⟨S128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S2048x128, .f32⟩
  | .hbm, ⟨37, _⟩ => ⟨S2048x128, .bf16⟩
  | .hbm, ⟨38, _⟩ => ⟨S16x4x128x256, .bf16⟩
  | .hbm, ⟨39, _⟩ => ⟨S8x128, .f32⟩
  | .hbm, ⟨40, _⟩ => ⟨S8192x256, .bf16⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S4096x128, .f32⟩
  | .hbm, ⟨54, _⟩ => ⟨S4096x128, .bf16⟩
  | .hbm, ⟨55, _⟩ => ⟨S32x4x128x256, .bf16⟩
  | .hbm, ⟨56, _⟩ => ⟨S8x128, .f32⟩
  | .hbm, ⟨57, _⟩ => ⟨S16384x256, .bf16⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128x128, .f32⟩
  | .hbm, ⟨63, _⟩ => ⟨S128x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S128, .f32⟩
  | .hbm, ⟨70, _⟩ => ⟨S1x128x256, .f32⟩
  | .hbm, ⟨71, _⟩ => ⟨S128x256, .f32⟩
  | .hbm, ⟨72, _⟩ => ⟨S1x256, .f32⟩
  | .hbm, ⟨73, _⟩ => ⟨S256, .f32⟩
  | .hbm, ⟨74, _⟩ => ⟨S1x256x128, .f32⟩
  | .hbm, ⟨75, _⟩ => ⟨S256x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x256, .f32⟩
  | .hbm, ⟨83, _⟩ => ⟨S1x128, .f32⟩
  | .hbm, ⟨84, _⟩ => ⟨S4096x2048, .i32⟩
  | .hbm, ⟨85, _⟩ => ⟨S4096x2048, .i32⟩
  | .hbm, ⟨86, _⟩ => ⟨S4096x128, .f32⟩
  | .hbm, ⟨87, _⟩ => ⟨S1x128x128, .f32⟩
  | .hbm, ⟨88, _⟩ => ⟨S128x128, .f32⟩
  | .hbm, ⟨89, _⟩ => ⟨S1x128, .f32⟩
  | .hbm, ⟨90, _⟩ => ⟨S128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S128, .f32⟩
  | .hbm, ⟨99, _⟩ => ⟨S1x128x256, .f32⟩
  | .hbm, ⟨100, _⟩ => ⟨S128x256, .f32⟩
  | .hbm, ⟨101, _⟩ => ⟨S1x256, .f32⟩
  | .hbm, ⟨102, _⟩ => ⟨S256, .f32⟩
  | .hbm, ⟨103, _⟩ => ⟨S1x256x128, .f32⟩
  | .hbm, ⟨104, _⟩ => ⟨S256x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x256, .f32⟩
  | .hbm, ⟨112, _⟩ => ⟨S1x128, .f32⟩
  | .hbm, ⟨113, _⟩ => ⟨S2048x4096, .i32⟩
  | .hbm, ⟨114, _⟩ => ⟨S2048x4096, .i32⟩
  | .hbm, ⟨115, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S4x4x128x256, .bf16⟩
  | .local _ .vmem, ⟨13, _⟩ => ⟨S4x4x128x256, .bf16⟩
  | .local _ .vmem, ⟨14, _⟩ => ⟨S8x128, .f32⟩
  | .local _ .vmem, ⟨15, _⟩ => ⟨S512x128, .f32⟩
  | .local _ .vmem, ⟨16, _⟩ => ⟨S512x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S512x128, .f32⟩
  | .local _ .vmem, ⟨24, _⟩ => ⟨S512x128, .f32⟩
  | .local _ .vmem, ⟨25, _⟩ => ⟨S512x128, .bf16⟩
  | .local _ .vmem, ⟨26, _⟩ => ⟨S512x128, .bf16⟩
  | .local _ .vmem, ⟨27, _⟩ => ⟨S4x4x128x256, .bf16⟩
  | .local _ .vmem, ⟨28, _⟩ => ⟨S4x4x128x256, .bf16⟩
  | .local _ .vmem, ⟨29, _⟩ => ⟨S8x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S2048x128, .bf16⟩
  | .local _ .vmem, ⟨35, _⟩ => ⟨S8192x256, .bf16⟩
  | .local _ .vmem, ⟨36, _⟩ => ⟨S8x128, .f32⟩
  | .local _ .vmem, ⟨37, _⟩ => ⟨S512x2048, .i32⟩
  | .local _ .vmem, ⟨38, _⟩ => ⟨S512x2048, .i32⟩
  | .local _ .vmem, ⟨39, _⟩ => ⟨S512x2048, .i32⟩
  | .local _ .vmem, ⟨40, _⟩ => ⟨S512x2048, .i32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S128x256, .f32⟩
  | .local _ .vmem, ⟨48, _⟩ => ⟨S1x256, .f32⟩
  | .local _ .vmem, ⟨49, _⟩ => ⟨S256x128, .f32⟩
  | .local _ .vmem, ⟨50, _⟩ => ⟨S1x128, .f32⟩
  | .local _ .vmem, ⟨51, _⟩ => ⟨S512x128, .f32⟩
  | .local _ .vmem, ⟨52, _⟩ => ⟨S512x128, .f32⟩
  | .local _ .vmem, ⟨53, _⟩ => ⟨S512x128, .f32⟩
  | .local _ .vmem, ⟨54, _⟩ => ⟨S512x128, .f32⟩
  | .local _ .vmem, ⟨55, _⟩ => ⟨S512x128, .f32⟩
  | .local _ .vmem, ⟨56, _⟩ => ⟨S512x128, .f32⟩
  | .local _ .vmem, ⟨57, _⟩ => ⟨S4096x128, .bf16⟩
  | .local _ .vmem, ⟨58, _⟩ => ⟨S16384x256, .bf16⟩
  | .local _ .vmem, ⟨59, _⟩ => ⟨S8x128, .f32⟩
  | .local _ .vmem, ⟨60, _⟩ => ⟨S512x4096, .i32⟩
  | .local _ .vmem, ⟨61, _⟩ => ⟨S512x4096, .i32⟩
  | .local _ .vmem, ⟨62, _⟩ => ⟨S512x4096, .i32⟩
  | .local _ .vmem, ⟨63, _⟩ => ⟨S512x4096, .i32⟩
  | .local _ .vmem, ⟨64, _⟩ => ⟨S128x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S128x256, .f32⟩
  | .local _ .vmem, ⟨71, _⟩ => ⟨S1x256, .f32⟩
  | .local _ .vmem, ⟨72, _⟩ => ⟨S256x128, .f32⟩
  | .local _ .vmem, ⟨73, _⟩ => ⟨S1x128, .f32⟩
  | .local _ .vmem, ⟨74, _⟩ => ⟨S512x128, .f32⟩
  | .local _ .vmem, ⟨75, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v12_2 : Ref sig .tc := ⟨.hbm, 38, rfl⟩
abbrev main_v12_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev main_v26_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg13_0 : Ref sig .tc := ⟨.vmem, 47, rfl⟩
abbrev cc2_stg14_0 : Ref sig .tc := ⟨.vmem, 48, rfl⟩
abbrev cc2_stg15_0 : Ref sig .tc := ⟨.vmem, 49, rfl⟩
abbrev cc2_stg16_0 : Ref sig .tc := ⟨.vmem, 50, rfl⟩
abbrev cc2_stg17_0 : Ref sig .tc := ⟨.vmem, 51, rfl⟩
abbrev cc2_stg17_1 : Ref sig .tc := ⟨.vmem, 52, rfl⟩
abbrev cc3_stg0_0 : Ref sig .tc := ⟨.vmem, 53, rfl⟩
abbrev cc3_stg0_1 : Ref sig .tc := ⟨.vmem, 54, rfl⟩
abbrev cc3_stg1_0 : Ref sig .tc := ⟨.vmem, 55, rfl⟩
abbrev cc3_stg1_1 : Ref sig .tc := ⟨.vmem, 56, rfl⟩
abbrev cc3_stg2_0 : Ref sig .tc := ⟨.vmem, 57, rfl⟩
abbrev cc3_stg3_0 : Ref sig .tc := ⟨.vmem, 58, rfl⟩
abbrev cc3_stg4_0 : Ref sig .tc := ⟨.vmem, 59, rfl⟩
abbrev cc3_stg5_0 : Ref sig .tc := ⟨.vmem, 60, rfl⟩
abbrev cc3_stg5_1 : Ref sig .tc := ⟨.vmem, 61, rfl⟩
abbrev cc3_stg6_0 : Ref sig .tc := ⟨.vmem, 62, rfl⟩
abbrev cc3_stg6_1 : Ref sig .tc := ⟨.vmem, 63, rfl⟩
abbrev cc3_stg7_0 : Ref sig .tc := ⟨.vmem, 64, rfl⟩
abbrev cc3_stg8_0 : Ref sig .tc := ⟨.vmem, 65, rfl⟩
abbrev cc3_stg9_0 : Ref sig .tc := ⟨.vmem, 66, rfl⟩
abbrev cc3_stg10_0 : Ref sig .tc := ⟨.vmem, 67, rfl⟩
abbrev cc3_stg11_0 : Ref sig .tc := ⟨.vmem, 68, rfl⟩
abbrev cc3_stg12_0 : Ref sig .tc := ⟨.vmem, 69, rfl⟩
abbrev cc3_stg13_0 : Ref sig .tc := ⟨.vmem, 70, rfl⟩
abbrev cc3_stg14_0 : Ref sig .tc := ⟨.vmem, 71, rfl⟩
abbrev cc3_stg15_0 : Ref sig .tc := ⟨.vmem, 72, rfl⟩
abbrev cc3_stg16_0 : Ref sig .tc := ⟨.vmem, 73, rfl⟩
abbrev cc3_stg17_0 : Ref sig .tc := ⟨.vmem, 74, rfl⟩
abbrev cc3_stg17_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem5_1 : DmaSem sig := 38
abbrev cc2_sem6_0 : DmaSem sig := 39
abbrev cc2_sem6_1 : DmaSem sig := 40
abbrev cc2_sem7_0 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem13_0 : DmaSem sig := 47
abbrev cc2_sem14_0 : DmaSem sig := 48
abbrev cc2_sem15_0 : DmaSem sig := 49
abbrev cc2_sem16_0 : DmaSem sig := 50
abbrev cc2_sem17_0 : DmaSem sig := 51
abbrev cc2_sem17_1 : DmaSem sig := 52
abbrev cc3_sem0_0 : DmaSem sig := 53
abbrev cc3_sem0_1 : DmaSem sig := 54
abbrev cc3_sem1_0 : DmaSem sig := 55
abbrev cc3_sem1_1 : DmaSem sig := 56
abbrev cc3_sem2_0 : DmaSem sig := 57
abbrev cc3_sem3_0 : DmaSem sig := 58
abbrev cc3_sem4_0 : DmaSem sig := 59
abbrev cc3_sem5_0 : DmaSem sig := 60
abbrev cc3_sem5_1 : DmaSem sig := 61
abbrev cc3_sem6_0 : DmaSem sig := 62
abbrev cc3_sem6_1 : DmaSem sig := 63
abbrev cc3_sem7_0 : DmaSem sig := 64
abbrev cc3_sem8_0 : DmaSem sig := 65
abbrev cc3_sem9_0 : DmaSem sig := 66
abbrev cc3_sem10_0 : DmaSem sig := 67
abbrev cc3_sem11_0 : DmaSem sig := 68
abbrev cc3_sem12_0 : DmaSem sig := 69
abbrev cc3_sem13_0 : DmaSem sig := 70
abbrev cc3_sem14_0 : DmaSem sig := 71
abbrev cc3_sem15_0 : DmaSem sig := 72
abbrev cc3_sem16_0 : DmaSem sig := 73
abbrev cc3_sem17_0 : DmaSem sig := 74
abbrev cc3_sem17_1 : DmaSem sig := 75

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x4x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x4x128x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2048 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x2048 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S256x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S512x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16384x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x4096 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x4096 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x256 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S256x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 2 → Memref sig .tc .vmem S512x128 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]
-- ==== KernelIdeal.lean ====
variable {F : FTy → Type} [FloatOps F] [Named F]
def κ : String → Option EReal := fun
  | "scale" => some (((Real.sqrt 32)⁻¹ : ℝ) : EReal)
  | _ => none
-- ==== ReferenceIdeal.lean ====
abbrev S2048x128 : Shape := ⟨2, ![2048, 128]⟩
abbrev S4096x128 : Shape := ⟨2, ![4096, 128]⟩
abbrev S4096x2048 : Shape := ⟨2, ![4096, 2048]⟩
abbrev S2048x4096 : Shape := ⟨2, ![2048, 4096]⟩
abbrev S128 : Shape := ⟨1, ![128]⟩
abbrev S2x128x128 : Shape := ⟨3, ![2, 128, 128]⟩
abbrev S2x128 : Shape := ⟨2, ![2, 128]⟩
abbrev S2x128x256 : Shape := ⟨3, ![2, 128, 256]⟩
abbrev S2x256 : Shape := ⟨2, ![2, 256]⟩
abbrev S2x256x128 : Shape := ⟨3, ![2, 256, 128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S4096 : Shape := ⟨1, ![4096]⟩
abbrev S4096x1 : Shape := ⟨2, ![4096, 1]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S4096x4x32 : Shape := ⟨3, ![4096, 4, 32]⟩
abbrev S4x4096x32 : Shape := ⟨3, ![4, 4096, 32]⟩
abbrev S2048x4x32 : Shape := ⟨3, ![2048, 4, 32]⟩
abbrev S4x2048x32 : Shape := ⟨3, ![4, 2048, 32]⟩
abbrev S4x4096x2048 : Shape := ⟨3, ![4, 4096, 2048]⟩
abbrev S1x4096x2048 : Shape := ⟨3, ![1, 4096, 2048]⟩
abbrev S1x4096x1 : Shape := ⟨3, ![1, 4096, 1]⟩
abbrev S4x4096 : Shape := ⟨2, ![4, 4096]⟩
abbrev S4x4096x1 : Shape := ⟨3, ![4, 4096, 1]⟩
abbrev S4096x256 : Shape := ⟨2, ![4096, 256]⟩
abbrev S4x2048x4096 : Shape := ⟨3, ![4, 2048, 4096]⟩
abbrev S1x2048x4096 : Shape := ⟨3, ![1, 2048, 4096]⟩
abbrev S1x2048x1 : Shape := ⟨3, ![1, 2048, 1]⟩
abbrev S4x2048 : Shape := ⟨2, ![4, 2048]⟩
abbrev S4x2048x1 : Shape := ⟨3, ![4, 2048, 1]⟩
abbrev S2048x256 : Shape := ⟨2, ![2048, 256]⟩
abbrev S1x2048x128 : Shape := ⟨3, ![1, 2048, 128]⟩
abbrev S1x4096x128 : Shape := ⟨3, ![1, 4096, 128]⟩

abbrev nBuf : Space → Nat
  | .hbm => 438
  | .vmem => 0
  | .smem => 0
  | _ => 0

abbrev hbmTy0_0 (i : Nat) : BufTy := match i % 128 with
  | 0 => ⟨S2048x128, .f32⟩
  | 1 => ⟨S4096x128, .f32⟩
  | 2 => ⟨S4096x2048, .i1⟩
  | 3 => ⟨S4096x2048, .i1⟩
  | 4 => ⟨S2048x4096, .i1⟩
  | 5 => ⟨S2048x4096, .i1⟩
  | 6 => ⟨S128, .f32⟩
  | 7 => ⟨S128, .f32⟩
  | 8 => ⟨S128, .f32⟩
  | 9 => ⟨S128, .f32⟩
  | 10 => ⟨S2x128x128, .f32⟩
  | 11 => ⟨S2x128, .f32⟩
  | 12 => ⟨S2x128x128, .f32⟩
  | 13 => ⟨S2x128, .f32⟩
  | 14 => ⟨S2x128x128, .f32⟩
  | 15 => ⟨S2x128, .f32⟩
  | 16 => ⟨S2x128x128, .f32⟩
  | 17 => ⟨S2x128, .f32⟩
  | 18 => ⟨S2x128, .f32⟩
  | 19 => ⟨S2x128, .f32⟩
  | 20 => ⟨S2x128x256, .f32⟩
  | 21 => ⟨S2x256, .f32⟩
  | 22 => ⟨S2x256x128, .f32⟩
  | 23 => ⟨S2x128, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S_, .i32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048x128, .f32⟩
  | 40 => ⟨S_, .f32⟩
  | 41 => ⟨S_, .f32⟩
  | 42 => ⟨S_, .f32⟩
  | 43 => ⟨S_, .f32⟩
  | 44 => ⟨S2048, .f32⟩
  | 45 => ⟨S2048x1, .f32⟩
  | 46 => ⟨S2048x1, .f32⟩
  | 47 => ⟨S2048x1, .f32⟩
  | 48 => ⟨S_, .f32⟩
  | 49 => ⟨S_, .i1⟩
  | 50 => ⟨S_, .f32⟩
  | 51 => ⟨S_, .f32⟩
  | 52 => ⟨S2048x1, .f32⟩
  | 53 => ⟨S2048x1, .f32⟩
  | 54 => ⟨S2048x128, .f32⟩
  | 55 => ⟨S2048x128, .f32⟩
  | 56 => ⟨S_, .f32⟩
  | 57 => ⟨S2048x1, .f32⟩
  | 58 => ⟨S2048x1, .f32⟩
  | 59 => ⟨S2048x1, .f32⟩
  | 60 => ⟨S2048x128, .f32⟩
  | 61 => ⟨S2048x128, .f32⟩
  | 62 => ⟨S1x128, .f32⟩
  | 63 => ⟨S2048x128, .f32⟩
  | 64 => ⟨S2048x128, .f32⟩
  | 65 => ⟨S1x128, .f32⟩
  | 66 => ⟨S2048x128, .f32⟩
  | 67 => ⟨S2048x128, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .i32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S4096x128, .f32⟩
  | 82 => ⟨S4096x128, .f32⟩
  | 83 => ⟨S4096x128, .f32⟩
  | 84 => ⟨S_, .f32⟩
  | 85 => ⟨S_, .f32⟩
  | 86 => ⟨S_, .f32⟩
  | 87 => ⟨S_, .f32⟩
  | 88 => ⟨S4096, .f32⟩
  | 89 => ⟨S4096x1, .f32⟩
  | 90 => ⟨S4096x1, .f32⟩
  | 91 => ⟨S4096x1, .f32⟩
  | 92 => ⟨S_, .f32⟩
  | 93 => ⟨S_, .i1⟩
  | 94 => ⟨S_, .f32⟩
  | 95 => ⟨S_, .f32⟩
  | 96 => ⟨S4096x1, .f32⟩
  | 97 => ⟨S4096x1, .f32⟩
  | 98 => ⟨S4096x128, .f32⟩
  | 99 => ⟨S4096x128, .f32⟩
  | 100 => ⟨S_, .f32⟩
  | 101 => ⟨S4096x1, .f32⟩
  | 102 => ⟨S4096x1, .f32⟩
  | 103 => ⟨S4096x1, .f32⟩
  | 104 => ⟨S4096x128, .f32⟩
  | 105 => ⟨S4096x128, .f32⟩
  | 106 => ⟨S1x128, .f32⟩
  | 107 => ⟨S4096x128, .f32⟩
  | 108 => ⟨S4096x128, .f32⟩
  | 109 => ⟨S1x128, .f32⟩
  | 110 => ⟨S4096x128, .f32⟩
  | 111 => ⟨S4096x128, .f32⟩
  | 112 => ⟨S1x128x128, .f32⟩
  | 113 => ⟨S128x128, .f32⟩
  | 114 => ⟨S1x128, .f32⟩
  | 115 => ⟨S128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S2048x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128x256, .f32⟩
  | 5 => ⟨S128x256, .f32⟩
  | 6 => ⟨S1x256, .f32⟩
  | 7 => ⟨S256, .f32⟩
  | 8 => ⟨S1x256x128, .f32⟩
  | 9 => ⟨S256x128, .f32⟩
  | 10 => ⟨S1x128, .f32⟩
  | 11 => ⟨S128, .f32⟩
  | 12 => ⟨S4096x128, .f32⟩
  | 13 => ⟨S1x128, .f32⟩
  | 14 => ⟨S4096x128, .f32⟩
  | 15 => ⟨S4096x128, .f32⟩
  | 16 => ⟨S4096x4x32, .f32⟩
  | 17 => ⟨S4x4096x32, .f32⟩
  | 18 => ⟨S2048x128, .f32⟩
  | 19 => ⟨S1x128, .f32⟩
  | 20 => ⟨S2048x128, .f32⟩
  | 21 => ⟨S2048x128, .f32⟩
  | 22 => ⟨S2048x4x32, .f32⟩
  | 23 => ⟨S4x2048x32, .f32⟩
  | 24 => ⟨S2048x128, .f32⟩
  | 25 => ⟨S1x128, .f32⟩
  | 26 => ⟨S2048x128, .f32⟩
  | 27 => ⟨S2048x128, .f32⟩
  | 28 => ⟨S2048x4x32, .f32⟩
  | 29 => ⟨S4x2048x32, .f32⟩
  | 30 => ⟨S4x4096x2048, .f32⟩
  | 31 => ⟨S_, .f32⟩
  | 32 => ⟨S_, .f32⟩
  | 33 => ⟨S4x4096x2048, .f32⟩
  | 34 => ⟨S4x4096x2048, .f32⟩
  | 35 => ⟨S4096x2048, .i1⟩
  | 36 => ⟨S_, .i1⟩
  | 37 => ⟨S4096, .i1⟩
  | 38 => ⟨S4096x1, .i1⟩
  | 39 => ⟨S_, .f32⟩
  | 40 => ⟨S_, .f32⟩
  | 41 => ⟨S4096x1, .f32⟩
  | 42 => ⟨S4096x1, .f32⟩
  | 43 => ⟨S4096x1, .f32⟩
  | 44 => ⟨S1x4096x2048, .i1⟩
  | 45 => ⟨S1x4096x1, .f32⟩
  | 46 => ⟨S4x4096x2048, .i1⟩
  | 47 => ⟨S4x4096x2048, .f32⟩
  | 48 => ⟨S4x4096x2048, .f32⟩
  | 49 => ⟨S_, .f32⟩
  | 50 => ⟨S4x4096, .f32⟩
  | 51 => ⟨S_, .f32⟩
  | 52 => ⟨S4x4096, .f32⟩
  | 53 => ⟨S4x4096, .f32⟩
  | 54 => ⟨S4x4096x1, .f32⟩
  | 55 => ⟨S4x4096x2048, .f32⟩
  | 56 => ⟨S4x4096x2048, .f32⟩
  | 57 => ⟨S4x4096x2048, .f32⟩
  | 58 => ⟨S_, .f32⟩
  | 59 => ⟨S4x4096, .f32⟩
  | 60 => ⟨S4x4096x1, .f32⟩
  | 61 => ⟨S4x4096x2048, .f32⟩
  | 62 => ⟨S4x4096x2048, .f32⟩
  | 63 => ⟨S4x4096x32, .f32⟩
  | 64 => ⟨S4096x4x32, .f32⟩
  | 65 => ⟨S4096x128, .f32⟩
  | 66 => ⟨S4096x128, .f32⟩
  | 67 => ⟨S4096x128, .f32⟩
  | 68 => ⟨S1x128, .f32⟩
  | 69 => ⟨S4096x128, .f32⟩
  | 70 => ⟨S4096x128, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S_, .i32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S4096x128, .f32⟩
  | 85 => ⟨S4096x128, .f32⟩
  | 86 => ⟨S4096x128, .f32⟩
  | 87 => ⟨S_, .f32⟩
  | 88 => ⟨S_, .f32⟩
  | 89 => ⟨S_, .f32⟩
  | 90 => ⟨S_, .f32⟩
  | 91 => ⟨S4096, .f32⟩
  | 92 => ⟨S4096x1, .f32⟩
  | 93 => ⟨S4096x1, .f32⟩
  | 94 => ⟨S4096x1, .f32⟩
  | 95 => ⟨S_, .f32⟩
  | 96 => ⟨S_, .i1⟩
  | 97 => ⟨S_, .f32⟩
  | 98 => ⟨S_, .f32⟩
  | 99 => ⟨S4096x1, .f32⟩
  | 100 => ⟨S4096x1, .f32⟩
  | 101 => ⟨S4096x128, .f32⟩
  | 102 => ⟨S4096x128, .f32⟩
  | 103 => ⟨S_, .f32⟩
  | 104 => ⟨S4096x1, .f32⟩
  | 105 => ⟨S4096x1, .f32⟩
  | 106 => ⟨S4096x1, .f32⟩
  | 107 => ⟨S4096x128, .f32⟩
  | 108 => ⟨S4096x128, .f32⟩
  | 109 => ⟨S1x128, .f32⟩
  | 110 => ⟨S4096x128, .f32⟩
  | 111 => ⟨S4096x128, .f32⟩
  | 112 => ⟨S1x128, .f32⟩
  | 113 => ⟨S4096x128, .f32⟩
  | 114 => ⟨S4096x128, .f32⟩
  | 115 => ⟨S4096x256, .f32⟩
  | 116 => ⟨S1x256, .f32⟩
  | 117 => ⟨S4096x256, .f32⟩
  | 118 => ⟨S4096x256, .f32⟩
  | 119 => ⟨S4096x256, .f32⟩
  | 120 => ⟨S4096x256, .f32⟩
  | 121 => ⟨S_, .f32⟩
  | 122 => ⟨S4096x256, .f32⟩
  | 123 => ⟨S4096x256, .f32⟩
  | 124 => ⟨S4096x256, .f32⟩
  | 125 => ⟨S_, .f32⟩
  | 126 => ⟨S4096x256, .f32⟩
  | 127 => ⟨S4096x256, .f32⟩
  | _ => ⟨S2048x128, .f32⟩

abbrev hbmTy0_2 (i : Nat) : BufTy := match i % 128 with
  | 0 => ⟨S4096x256, .f32⟩
  | 1 => ⟨S_, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S4096x256, .f32⟩
  | 8 => ⟨S4096x128, .f32⟩
  | 9 => ⟨S4096x128, .f32⟩
  | 10 => ⟨S1x128, .f32⟩
  | 11 => ⟨S4096x128, .f32⟩
  | 12 => ⟨S4096x128, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128x128, .f32⟩
  | 22 => ⟨S128x128, .f32⟩
  | 23 => ⟨S1x128, .f32⟩
  | 24 => ⟨S128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128x256, .f32⟩
  | 34 => ⟨S128x256, .f32⟩
  | 35 => ⟨S1x256, .f32⟩
  | 36 => ⟨S256, .f32⟩
  | 37 => ⟨S1x256x128, .f32⟩
  | 38 => ⟨S256x128, .f32⟩
  | 39 => ⟨S1x128, .f32⟩
  | 40 => ⟨S128, .f32⟩
  | 41 => ⟨S2048x128, .f32⟩
  | 42 => ⟨S1x128, .f32⟩
  | 43 => ⟨S2048x128, .f32⟩
  | 44 => ⟨S2048x128, .f32⟩
  | 45 => ⟨S2048x4x32, .f32⟩
  | 46 => ⟨S4x2048x32, .f32⟩
  | 47 => ⟨S4096x128, .f32⟩
  | 48 => ⟨S1x128, .f32⟩
  | 49 => ⟨S4096x128, .f32⟩
  | 50 => ⟨S4096x128, .f32⟩
  | 51 => ⟨S4096x4x32, .f32⟩
  | 52 => ⟨S4x4096x32, .f32⟩
  | 53 => ⟨S4096x128, .f32⟩
  | 54 => ⟨S1x128, .f32⟩
  | 55 => ⟨S4096x128, .f32⟩
  | 56 => ⟨S4096x128, .f32⟩
  | 57 => ⟨S4096x4x32, .f32⟩
  | 58 => ⟨S4x4096x32, .f32⟩
  | 59 => ⟨S4x2048x4096, .f32⟩
  | 60 => ⟨S_, .f32⟩
  | 61 => ⟨S_, .f32⟩
  | 62 => ⟨S4x2048x4096, .f32⟩
  | 63 => ⟨S4x2048x4096, .f32⟩
  | 64 => ⟨S2048x4096, .i1⟩
  | 65 => ⟨S_, .i1⟩
  | 66 => ⟨S2048, .i1⟩
  | 67 => ⟨S2048x1, .i1⟩
  | 68 => ⟨S_, .f32⟩
  | 69 => ⟨S_, .f32⟩
  | 70 => ⟨S2048x1, .f32⟩
  | 71 => ⟨S2048x1, .f32⟩
  | 72 => ⟨S2048x1, .f32⟩
  | 73 => ⟨S1x2048x4096, .i1⟩
  | 74 => ⟨S1x2048x1, .f32⟩
  | 75 => ⟨S4x2048x4096, .i1⟩
  | 76 => ⟨S4x2048x4096, .f32⟩
  | 77 => ⟨S4x2048x4096, .f32⟩
  | 78 => ⟨S_, .f32⟩
  | 79 => ⟨S4x2048, .f32⟩
  | 80 => ⟨S_, .f32⟩
  | 81 => ⟨S4x2048, .f32⟩
  | 82 => ⟨S4x2048, .f32⟩
  | 83 => ⟨S4x2048x1, .f32⟩
  | 84 => ⟨S4x2048x4096, .f32⟩
  | 85 => ⟨S4x2048x4096, .f32⟩
  | 86 => ⟨S4x2048x4096, .f32⟩
  | 87 => ⟨S_, .f32⟩
  | 88 => ⟨S4x2048, .f32⟩
  | 89 => ⟨S4x2048x1, .f32⟩
  | 90 => ⟨S4x2048x4096, .f32⟩
  | 91 => ⟨S4x2048x4096, .f32⟩
  | 92 => ⟨S4x2048x32, .f32⟩
  | 93 => ⟨S2048x4x32, .f32⟩
  | 94 => ⟨S2048x128, .f32⟩
  | 95 => ⟨S2048x128, .f32⟩
  | 96 => ⟨S2048x128, .f32⟩
  | 97 => ⟨S1x128, .f32⟩
  | 98 => ⟨S2048x128, .f32⟩
  | 99 => ⟨S2048x128, .f32⟩
  | 100 => ⟨S_, .f32⟩
  | 101 => ⟨S2048, .f32⟩
  | 102 => ⟨S2048x1, .f32⟩
  | 103 => ⟨S_, .f32⟩
  | 104 => ⟨S2048x1, .f32⟩
  | 105 => ⟨S2048x1, .f32⟩
  | 106 => ⟨S_, .i32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S2048x128, .f32⟩
  | 114 => ⟨S2048x128, .f32⟩
  | 115 => ⟨S2048x128, .f32⟩
  | 116 => ⟨S_, .f32⟩
  | 117 => ⟨S_, .f32⟩
  | 118 => ⟨S_, .f32⟩
  | 119 => ⟨S_, .f32⟩
  | 120 => ⟨S2048, .f32⟩
  | 121 => ⟨S2048x1, .f32⟩
  | 122 => ⟨S2048x1, .f32⟩
  | 123 => ⟨S2048x1, .f32⟩
  | 124 => ⟨S_, .f32⟩
  | 125 => ⟨S_, .i1⟩
  | 126 => ⟨S_, .f32⟩
  | 127 => ⟨S_, .f32⟩
  | _ => ⟨S2048x128, .f32⟩

abbrev hbmTy0_3 (i : Nat) : BufTy := match i % 128 with
  | 0 => ⟨S2048x1, .f32⟩
  | 1 => ⟨S2048x1, .f32⟩
  | 2 => ⟨S2048x128, .f32⟩
  | 3 => ⟨S2048x128, .f32⟩
  | 4 => ⟨S_, .f32⟩
  | 5 => ⟨S2048x1, .f32⟩
  | 6 => ⟨S2048x1, .f32⟩
  | 7 => ⟨S2048x1, .f32⟩
  | 8 => ⟨S2048x128, .f32⟩
  | 9 => ⟨S2048x128, .f32⟩
  | 10 => ⟨S1x128, .f32⟩
  | 11 => ⟨S2048x128, .f32⟩
  | 12 => ⟨S2048x128, .f32⟩
  | 13 => ⟨S1x128, .f32⟩
  | 14 => ⟨S2048x128, .f32⟩
  | 15 => ⟨S2048x128, .f32⟩
  | 16 => ⟨S2048x256, .f32⟩
  | 17 => ⟨S1x256, .f32⟩
  | 18 => ⟨S2048x256, .f32⟩
  | 19 => ⟨S2048x256, .f32⟩
  | 20 => ⟨S2048x256, .f32⟩
  | 21 => ⟨S2048x256, .f32⟩
  | 22 => ⟨S_, .f32⟩
  | 23 => ⟨S2048x256, .f32⟩
  | 24 => ⟨S2048x256, .f32⟩
  | 25 => ⟨S2048x256, .f32⟩
  | 26 => ⟨S_, .f32⟩
  | 27 => ⟨S2048x256, .f32⟩
  | 28 => ⟨S2048x256, .f32⟩
  | 29 => ⟨S2048x256, .f32⟩
  | 30 => ⟨S_, .f32⟩
  | 31 => ⟨S2048x256, .f32⟩
  | 32 => ⟨S2048x256, .f32⟩
  | 33 => ⟨S_, .f32⟩
  | 34 => ⟨S2048x256, .f32⟩
  | 35 => ⟨S2048x256, .f32⟩
  | 36 => ⟨S2048x256, .f32⟩
  | 37 => ⟨S2048x128, .f32⟩
  | 38 => ⟨S2048x128, .f32⟩
  | 39 => ⟨S1x128, .f32⟩
  | 40 => ⟨S2048x128, .f32⟩
  | 41 => ⟨S2048x128, .f32⟩
  | 42 => ⟨S1x2048x128, .f32⟩
  | 43 => ⟨S_, .f32⟩
  | 44 => ⟨S2048x128, .f32⟩
  | 45 => ⟨S_, .f32⟩
  | 46 => ⟨S2048x128, .f32⟩
  | 47 => ⟨S2048x128, .f32⟩
  | 48 => ⟨S1x4096x128, .f32⟩
  | 49 => ⟨S_, .f32⟩
  | 50 => ⟨S4096x128, .f32⟩
  | 51 => ⟨S_, .f32⟩
  | 52 => ⟨S4096x128, .f32⟩
  | 53 => ⟨S4096x128, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_cst_3 : Ref sig .tc := ⟨.hbm, 48, rfl⟩
abbrev main_call0_v13 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_cst_1 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_cst_2 : Ref sig .tc := ⟨.hbm, 68, rfl⟩
abbrev main_v18 : Ref sig .tc := ⟨.hbm, 69, rfl⟩
abbrev main_v19 : Ref sig .tc := ⟨.hbm, 70, rfl⟩
abbrev main_cst_3 : Ref sig .tc := ⟨.hbm, 71, rfl⟩
abbrev main_v20 : Ref sig .tc := ⟨.hbm, 72, rfl⟩
abbrev main_v21 : Ref sig .tc := ⟨.hbm, 73, rfl⟩
abbrev main_c_4 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_cst_3 : Ref sig .tc := ⟨.hbm, 92, rfl⟩
abbrev main_call1_v13 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_cst_5 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_6 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_c_7 : Ref sig .tc := ⟨.hbm, 164, rfl⟩
abbrev main_v87 : Ref sig .tc := ⟨.hbm, 165, rfl⟩
abbrev main_v88 : Ref sig .tc := ⟨.hbm, 166, rfl⟩
abbrev main_cst_8 : Ref sig .tc := ⟨.hbm, 167, rfl⟩
abbrev main_cst_9 : Ref sig .tc := ⟨.hbm, 168, rfl⟩
abbrev main_call2_v0 : Ref sig .tc := ⟨.hbm, 169, rfl⟩
abbrev main_call2_v1 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_call3_v0 : Ref sig .tc := ⟨.hbm, 174, rfl⟩
abbrev main_call3_v1 : Ref sig .tc := ⟨.hbm, 175, rfl⟩
abbrev main_v92 : Ref sig .tc := ⟨.hbm, 176, rfl⟩
abbrev main_cst_10 : Ref sig .tc := ⟨.hbm, 177, rfl⟩
abbrev main_v93 : Ref sig .tc := ⟨.hbm, 178, rfl⟩
abbrev main_cst_11 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_12 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_cst_13 : Ref sig .tc := ⟨.hbm, 199, rfl⟩
abbrev main_v112 : Ref sig .tc := ⟨.hbm, 200, rfl⟩
abbrev main_v113 : Ref sig .tc := ⟨.hbm, 201, rfl⟩
abbrev main_cst_14 : Ref sig .tc := ⟨.hbm, 202, rfl⟩
abbrev main_v114 : Ref sig .tc := ⟨.hbm, 203, rfl⟩
abbrev main_v115 : Ref sig .tc := ⟨.hbm, 204, rfl⟩
abbrev main_c_15 : Ref sig .tc := ⟨.hbm, 205, rfl⟩
abbrev main_call4_cst : Ref sig .tc := ⟨.hbm, 206, rfl⟩
abbrev main_call4_v0 : Ref sig .tc := ⟨.hbm, 207, rfl⟩
abbrev main_call4_v1 : Ref sig .tc := ⟨.hbm, 208, rfl⟩
abbrev main_call4_cst_0 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_v7 : Ref sig .tc := ⟨.hbm, 215, rfl⟩
abbrev main_call4_cst_1 : Ref sig .tc := ⟨.hbm, 216, rfl⟩
abbrev main_call4_v8 : Ref sig .tc := ⟨.hbm, 217, rfl⟩
abbrev main_call4_cst_2 : Ref sig .tc := ⟨.hbm, 218, rfl⟩
abbrev main_call4_v9 : Ref sig .tc := ⟨.hbm, 219, rfl⟩
abbrev main_call4_v10 : Ref sig .tc := ⟨.hbm, 220, rfl⟩
abbrev main_call4_v11 : Ref sig .tc := ⟨.hbm, 221, rfl⟩
abbrev main_call4_v12 : Ref sig .tc := ⟨.hbm, 222, rfl⟩
abbrev main_call4_cst_3 : Ref sig .tc := ⟨.hbm, 223, rfl⟩
abbrev main_call4_v13 : Ref sig .tc := ⟨.hbm, 224, rfl⟩
abbrev main_call4_cst_4 : Ref sig .tc := ⟨.hbm, 225, rfl⟩
abbrev main_call4_call0_v0 : Ref sig .tc := ⟨.hbm, 226, rfl⟩
abbrev main_call4_call0_v1 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_cst_16 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_cst_17 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_cst_18 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_cst_19 : Ref sig .tc := ⟨.hbm, 257, rfl⟩
abbrev main_v142 : Ref sig .tc := ⟨.hbm, 258, rfl⟩
abbrev main_v143 : Ref sig .tc := ⟨.hbm, 259, rfl⟩
abbrev main_cst_20 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_v198 : Ref sig .tc := ⟨.hbm, 315, rfl⟩
abbrev main_cst_21 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_c_22 : Ref sig .tc := ⟨.hbm, 321, rfl⟩
abbrev main_v203 : Ref sig .tc := ⟨.hbm, 322, rfl⟩
abbrev main_v204 : Ref sig .tc := ⟨.hbm, 323, rfl⟩
abbrev main_cst_23 : Ref sig .tc := ⟨.hbm, 324, rfl⟩
abbrev main_cst_24 : Ref sig .tc := ⟨.hbm, 325, rfl⟩
abbrev main_call5_v0 : Ref sig .tc := ⟨.hbm, 326, rfl⟩
abbrev main_call5_v1 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_call6_v0 : Ref sig .tc := ⟨.hbm, 331, rfl⟩
abbrev main_call6_v1 : Ref sig .tc := ⟨.hbm, 332, rfl⟩
abbrev main_v208 : Ref sig .tc := ⟨.hbm, 333, rfl⟩
abbrev main_cst_25 : Ref sig .tc := ⟨.hbm, 334, rfl⟩
abbrev main_v209 : Ref sig .tc := ⟨.hbm, 335, rfl⟩
abbrev main_cst_26 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_cst_27 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_cst_28 : Ref sig .tc := ⟨.hbm, 356, rfl⟩
abbrev main_v228 : Ref sig .tc := ⟨.hbm, 357, rfl⟩
abbrev main_v229 : Ref sig .tc := ⟨.hbm, 358, rfl⟩
abbrev main_cst_29 : Ref sig .tc := ⟨.hbm, 359, rfl⟩
abbrev main_v230 : Ref sig .tc := ⟨.hbm, 360, rfl⟩
abbrev main_v231 : Ref sig .tc := ⟨.hbm, 361, rfl⟩
abbrev main_c_30 : Ref sig .tc := ⟨.hbm, 362, rfl⟩
abbrev main_call7_cst : Ref sig .tc := ⟨.hbm, 363, rfl⟩
abbrev main_call7_v0 : Ref sig .tc := ⟨.hbm, 364, rfl⟩
abbrev main_call7_v1 : Ref sig .tc := ⟨.hbm, 365, rfl⟩
abbrev main_call7_cst_0 : Ref sig .tc := ⟨.hbm, 366, rfl⟩
abbrev main_call7_v2 : Ref sig .tc := ⟨.hbm, 367, rfl⟩
abbrev main_call7_v3 : Ref sig .tc := ⟨.hbm, 368, rfl⟩
abbrev main_call7_v4 : Ref sig .tc := ⟨.hbm, 369, rfl⟩
abbrev main_call7_v5 : Ref sig .tc := ⟨.hbm, 370, rfl⟩
abbrev main_call7_v6 : Ref sig .tc := ⟨.hbm, 371, rfl⟩
abbrev main_call7_v7 : Ref sig .tc := ⟨.hbm, 372, rfl⟩
abbrev main_call7_cst_1 : Ref sig .tc := ⟨.hbm, 373, rfl⟩
abbrev main_call7_v8 : Ref sig .tc := ⟨.hbm, 374, rfl⟩
abbrev main_call7_cst_2 : Ref sig .tc := ⟨.hbm, 375, rfl⟩
abbrev main_call7_v9 : Ref sig .tc := ⟨.hbm, 376, rfl⟩
abbrev main_call7_v10 : Ref sig .tc := ⟨.hbm, 377, rfl⟩
abbrev main_call7_v11 : Ref sig .tc := ⟨.hbm, 378, rfl⟩
abbrev main_call7_v12 : Ref sig .tc := ⟨.hbm, 379, rfl⟩
abbrev main_call7_cst_3 : Ref sig .tc := ⟨.hbm, 380, rfl⟩
abbrev main_call7_v13 : Ref sig .tc := ⟨.hbm, 381, rfl⟩
abbrev main_call7_cst_4 : Ref sig .tc := ⟨.hbm, 382, rfl⟩
abbrev main_call7_call0_v0 : Ref sig .tc := ⟨.hbm, 383, rfl⟩
abbrev main_call7_call0_v1 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_cst_31 : Ref sig .tc := ⟨.hbm, 388, rfl⟩
abbrev main_v235 : Ref sig .tc := ⟨.hbm, 389, rfl⟩
abbrev main_v236 : Ref sig .tc := ⟨.hbm, 390, rfl⟩
abbrev main_v237 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_v246 : Ref sig .tc := ⟨.hbm, 400, rfl⟩
abbrev main_v247 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_v251 : Ref sig .tc := ⟨.hbm, 405, rfl⟩
abbrev main_cst_32 : Ref sig .tc := ⟨.hbm, 406, rfl⟩
abbrev main_v252 : Ref sig .tc := ⟨.hbm, 407, rfl⟩
abbrev main_v253 : Ref sig .tc := ⟨.hbm, 408, rfl⟩
abbrev main_v254 : Ref sig .tc := ⟨.hbm, 409, rfl⟩
abbrev main_cst_33 : Ref sig .tc := ⟨.hbm, 410, rfl⟩
abbrev main_v255 : Ref sig .tc := ⟨.hbm, 411, rfl⟩
abbrev main_v256 : Ref sig .tc := ⟨.hbm, 412, rfl⟩
abbrev main_v257 : Ref sig .tc := ⟨.hbm, 413, rfl⟩
abbrev main_cst_34 : Ref sig .tc := ⟨.hbm, 414, rfl⟩
abbrev main_v258 : Ref sig .tc := ⟨.hbm, 415, rfl⟩
abbrev main_v259 : Ref sig .tc := ⟨.hbm, 416, rfl⟩
abbrev main_cst_35 : Ref sig .tc := ⟨.hbm, 417, rfl⟩
abbrev main_v260 : Ref sig .tc := ⟨.hbm, 418, rfl⟩
abbrev main_v261 : Ref sig .tc := ⟨.hbm, 419, rfl⟩
abbrev main_v262 : Ref sig .tc := ⟨.hbm, 420, rfl⟩
abbrev main_v263 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_cst_36 : Ref sig .tc := ⟨.hbm, 427, rfl⟩
abbrev main_v269 : Ref sig .tc := ⟨.hbm, 428, rfl⟩
abbrev main_cst_37 : Ref sig .tc := ⟨.hbm, 429, rfl⟩
abbrev main_v270 : Ref sig .tc := ⟨.hbm, 430, rfl⟩
abbrev main_v271 : Ref sig .tc := ⟨.hbm, 431, rfl⟩
abbrev main_v272 : Ref sig .tc := ⟨.hbm, 432, rfl⟩
abbrev main_cst_38 : Ref sig .tc := ⟨.hbm, 433, rfl⟩
abbrev main_v273 : Ref sig .tc := ⟨.hbm, 434, rfl⟩
abbrev main_cst_39 : Ref sig .tc := ⟨.hbm, 435, rfl⟩
abbrev main_v274 : Ref sig .tc := ⟨.hbm, 436, rfl⟩
abbrev main_v275 : Ref sig .tc := ⟨.hbm, 437, rfl⟩

abbrev nD : Nat := 1
abbrev τ : Topo := Topo.v7x

variable {F : FTy → Type} [FloatOps F]
-- ==== Proof.FrameIdeal.Region2.lean ====
/- Pipeline 2 (the attention block that writes result 1): its blocks, what its body leaves in each window, and the proof that the body does so. Taken over from the generated frame so that one declaration may have a larger step budget. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__attn_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x128 := Rect.unit (s := S512x128) ![0, 0] S512x128.size inb_S512x128_S512x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S512x2048 := Rect.unit (s := S512x2048) ![0, 0] S512x2048.size inb_S512x2048_S512x2048_0_0
abbrev r2_4 : Rect S2048x128 := Rect.unit (s := S2048x128) ![0, 0] S128x128.size inb_S2048x128_S128x128_0_0
abbrev r2_5 : Rect S8192x256 := Rect.unit (s := S8192x256) ![0, 0] S512x256.size inb_S8192x256_S512x256_0_0
abbrev r2_6 : Rect S2048x128 := Rect.unit (s := S2048x128) ![128, 0] S128x128.size inb_S2048x128_S128x128_128_0
abbrev r2_7 : Rect S8192x256 := Rect.unit (s := S8192x256) ![512, 0] S512x256.size inb_S8192x256_S512x256_512_0
abbrev r2_8 : Rect S2048x128 := Rect.unit (s := S2048x128) ![256, 0] S128x128.size inb_S2048x128_S128x128_256_0
abbrev r2_9 : Rect S8192x256 := Rect.unit (s := S8192x256) ![1024, 0] S512x256.size inb_S8192x256_S512x256_1024_0
abbrev r2_10 : Rect S2048x128 := Rect.unit (s := S2048x128) ![384, 0] S128x128.size inb_S2048x128_S128x128_384_0
abbrev r2_11 : Rect S8192x256 := Rect.unit (s := S8192x256) ![1536, 0] S512x256.size inb_S8192x256_S512x256_1536_0
abbrev r2_12 : Rect S2048x128 := Rect.unit (s := S2048x128) ![512, 0] S128x128.size inb_S2048x128_S128x128_512_0
abbrev r2_13 : Rect S8192x256 := Rect.unit (s := S8192x256) ![2048, 0] S512x256.size inb_S8192x256_S512x256_2048_0
abbrev r2_14 : Rect S2048x128 := Rect.unit (s := S2048x128) ![640, 0] S128x128.size inb_S2048x128_S128x128_640_0
abbrev r2_15 : Rect S8192x256 := Rect.unit (s := S8192x256) ![2560, 0] S512x256.size inb_S8192x256_S512x256_2560_0
abbrev r2_16 : Rect S2048x128 := Rect.unit (s := S2048x128) ![768, 0] S128x128.size inb_S2048x128_S128x128_768_0
abbrev r2_17 : Rect S8192x256 := Rect.unit (s := S8192x256) ![3072, 0] S512x256.size inb_S8192x256_S512x256_3072_0
abbrev r2_18 : Rect S2048x128 := Rect.unit (s := S2048x128) ![896, 0] S128x128.size inb_S2048x128_S128x128_896_0
abbrev r2_19 : Rect S8192x256 := Rect.unit (s := S8192x256) ![3584, 0] S512x256.size inb_S8192x256_S512x256_3584_0
abbrev r2_20 : Rect S2048x128 := Rect.unit (s := S2048x128) ![1024, 0] S128x128.size inb_S2048x128_S128x128_1024_0
abbrev r2_21 : Rect S8192x256 := Rect.unit (s := S8192x256) ![4096, 0] S512x256.size inb_S8192x256_S512x256_4096_0
abbrev r2_22 : Rect S2048x128 := Rect.unit (s := S2048x128) ![1152, 0] S128x128.size inb_S2048x128_S128x128_1152_0
abbrev r2_23 : Rect S8192x256 := Rect.unit (s := S8192x256) ![4608, 0] S512x256.size inb_S8192x256_S512x256_4608_0
abbrev r2_24 : Rect S2048x128 := Rect.unit (s := S2048x128) ![1280, 0] S128x128.size inb_S2048x128_S128x128_1280_0
abbrev r2_25 : Rect S8192x256 := Rect.unit (s := S8192x256) ![5120, 0] S512x256.size inb_S8192x256_S512x256_5120_0
abbrev r2_26 : Rect S2048x128 := Rect.unit (s := S2048x128) ![1408, 0] S128x128.size inb_S2048x128_S128x128_1408_0
abbrev r2_27 : Rect S8192x256 := Rect.unit (s := S8192x256) ![5632, 0] S512x256.size inb_S8192x256_S512x256_5632_0
abbrev r2_28 : Rect S2048x128 := Rect.unit (s := S2048x128) ![1536, 0] S128x128.size inb_S2048x128_S128x128_1536_0
abbrev r2_29 : Rect S8192x256 := Rect.unit (s := S8192x256) ![6144, 0] S512x256.size inb_S8192x256_S512x256_6144_0
abbrev r2_30 : Rect S2048x128 := Rect.unit (s := S2048x128) ![1664, 0] S128x128.size inb_S2048x128_S128x128_1664_0
abbrev r2_31 : Rect S8192x256 := Rect.unit (s := S8192x256) ![6656, 0] S512x256.size inb_S8192x256_S512x256_6656_0
abbrev r2_32 : Rect S2048x128 := Rect.unit (s := S2048x128) ![1792, 0] S128x128.size inb_S2048x128_S128x128_1792_0
abbrev r2_33 : Rect S8192x256 := Rect.unit (s := S8192x256) ![7168, 0] S512x256.size inb_S8192x256_S512x256_7168_0
abbrev r2_34 : Rect S2048x128 := Rect.unit (s := S2048x128) ![1920, 0] S128x128.size inb_S2048x128_S128x128_1920_0
abbrev r2_35 : Rect S8192x256 := Rect.unit (s := S8192x256) ![7680, 0] S512x256.size inb_S8192x256_S512x256_7680_0
abbrev r2_36 : Rect S8x128 := Rect.unit (s := S8x128) ![0, 0] S8x128.size inb_S8x128_S8x128_0_0
abbrev r2_37 : Rect S128x256 := Rect.unit (s := S128x256) ![0, 0] S128x256.size inb_S128x256_S128x256_0_0
abbrev r2_38 : Rect S1x256 := Rect.unit (s := S1x256) ![0, 0] S1x256.size inb_S1x256_S1x256_0_0
abbrev r2_39 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k2_pay36` …, after `k2_pay35`), so that
    `out2_W` and the values after it name it instead of spelling it out (`unfold out2_W` opens a canon
    with them, `unfold_payloads` opens them with the payloads); the comment after each is the printed function's
    name for the value (a count appended where that name is bound again). -/

def k2_pay36 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k2_pay2 (View.ld x1 r2_0) (View.ld x7 r2_1) (View.ld x8 r2_2) -- `v11`
def k2_pay37 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k2_pay3 (View.ld x1 r2_0) (View.ld x7 r2_1) (View.ld x8 r2_2) -- `v19`
def k2_pay38 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k2_pay4 (View.ld x1 r2_0) (View.ld x7 r2_1) (View.ld x8 r2_2) -- `v26`
def k2_pay39 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k2_pay5 (View.ld x1 r2_0) (View.ld x7 r2_1) (View.ld x8 r2_2) -- `v33`
def k2_pay40 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : IVec S512x128 1 :=
  k2_pay6 -- `v38`
def k2_pay41 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S2048x128 .bf16 :=
  k2_pay7 (k2_pay36 x0 x1 x2 x3 x4 x5 x6 x7 x8 x9 x10 x11 x12 x13 x14 x15 x16) (k2_pay37 x0 x1 x2 x3 x4 x5 x6 x7 x8 x9 x10 x11 x12 x13 x14 x15 x16) (k2_pay38 x0 x1 x2 x3 x4 x5 x6 x7 x8 x9 x10 x11 x12 x13 x14 x15 x16) (k2_pay39 x0 x1 x2 x3 x4 x5 x6 x7 x8 x9 x10 x11 x12 x13 x14 x15 x16) (k2_pay40 x0 x1 x2 x3 x4 x5 x6 x7 x8 x9 x10 x11 x12 x13 x14 x15 x16) (Scalar.ofBits .bf16 0x0000#16) -- `v41`
def k2_pay42 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x2048 .bf16 :=
  k2_pay8 (View.ld x5 r2_3) (View.ld x6 r2_3) -- `v49`
def k2_pay43 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x256 .f32 :=
  k2_pay27 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay25 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay24 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay21 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay19 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay13 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay9 (k2_pay36 x0 x1 x2 x3 x4 x5 x6 x7 x8 x9 x10 x11 x12 x13 x14 x15 x16) (k2_pay37 x0 x1 x2 x3 x4 x5 x6 x7 x8 x9 x10 x11 x12 x13 x14 x15 x16) (k2_pay38 x0 x1 x2 x3 x4 x5 x6 x7 x8 x9 x10 x11 x12 x13 x14 x15 x16) (k2_pay39 x0 x1 x2 x3 x4 x5 x6 x7 x8 x9 x10 x11 x12 x13 x14 x15 x16) (k2_pay40 x0 x1 x2 x3 x4 x5 x6 x7 x8 x9 x10 x11 x12 x13 x14 x15 x16) (Scalar.ofBits .bf16 0x0000#16) (View.ld x5 r2_3) (View.ld x6 r2_3) (View.ld x2 r2_4) (View.ld x3 r2_5)) (k2_pay10 (k2_pay36 x0 x1 x2 x3 x4 x5 x6 x7 x8 x9 x10 x11 x12 x13 x14 x15 x16) (k2_pay37 x0 x1 x2 x3 x4 x5 x6 x7 x8 x9 x10 x11 x12 x13 x14 x15 x16) (k2_pay38 x0 x1 x2 x3 x4 x5 x6 x7 x8 x9 x10 x11 x12 x13 x14 x15 x16) (k2_pay39 x0 x1 x2 x3 x4 x5 x6 x7 x8 x9 x10 x11 x12 x13 x14 x15 x16) (k2_pay40 x0 x1 x2 x3 x4 x5 x6 x7 x8 x9 x10 x11 x12 x13 x14 x15 x16) (Scalar.ofBits .bf16 0x0000#16) (View.ld x2 r2_6)) (k2_pay11 (View.ld x5 r2_3) (View.ld x6 r2_3)) (k2_pay12 (k2_pay36 x0 x1 x2 x3 x4 x5 x6 x7 x8 x9 x10 x11 x12 x13 x14 x15 x16) (k2_pay37 x0 x1 x2 x3 x4 x5 x6 x7 x8 x9 x10 x11 x12 x13 x14 x15 x16) (k2_pay38 x0 x1 x2 x3 x4 x5 x6 x7 x8 x9 x10 x11 x12 x13 x14 x15 x16) (k2_pay39 x0 x1 x2 x3 x4 x5 x6 x7 x8 x9 x10 x11 x12 x13 x14 x15 x16) (k2_pay40 x0 x1 x2 x3 x4 x5 x6 x7 x8 x9 x10 x11 x12 x13 x14 x15 x16) (Scalar.ofBits .bf16 0x0000#16) (View.ld x2 r2_6)) (View.ld x3 r2_7) (View.ld x2 r2_8) (View.ld x3 r2_9)) (k2_pay14 (k2_pay41 x0 x1 x2 x3 x4 x5 x6 x7 x8 x9 x10 x11 x12 x13 x14 x15 x16) (View.ld x2 r2_10)) (k2_pay15 (k2_pay42 x0 x1 x2 x3 x4 x5 x6 x7 x8 x9 x10 x11 x12 x13 x14 x15 x16)) (k2_pay16 (k2_pay41 x0 x1 x2 x3 x4 x5 x6 x7 x8 x9 x10 x11 x12 x13 x14 x15 x16) (k2_pay42 x0 x1 x2 x3 x4 x5 x6 x7 x8 x9 x10 x11 x12 x13 x14 x15 x16) (View.ld x2 r2_10)) (k2_pay17 (k2_pay41 x0 x1 x2 x3 x4 x5 x6 x7 x8 x9 x10 x11 x12 x13 x14 x15 x16) (k2_pay42 x0 x1 x2 x3 x4 x5 x6 x7 x8 x9 x10 x11 x12 x13 x14 x15 x16) (View.ld x2 r2_10)) (k2_pay18 (k2_pay41 x0 x1 x2 x3 x4 x5 x6 x7 x8 x9 x10 x11 x12 x13 x14 x15 x16) (View.ld x2 r2_10)) (View.ld x3 r2_11) (View.ld x2 r2_12) (View.ld x3 r2_13)) (k2_pay20 (k2_pay41 x0 x1 x2 x3 x4 x5 x6 x7 x8 x9 x10 x11 x12 x13 x14 x15 x16) (k2_pay42 x0 x1 x2 x3 x4 x5 x6 x7 x8 x9 x10 x11 x12 x13 x14 x15 x16) (View.ld x2 r2_14)) (View.ld x3 r2_15) (View.ld x2 r2_16) (View.ld x3 r2_17)) (k2_pay22 (k2_pay41 x0 x1 x2 x3 x4 x5 x6 x7 x8 x9 x10 x11 x12 x13 x14 x15 x16) (k2_pay42 x0 x1 x2 x3 x4 x5 x6 x7 x8 x9 x10 x11 x12 x13 x14 x15 x16) (View.ld x2 r2_18)) (k2_pay23 (View.ld x3 r2_19)) (View.ld x2 r2_20) (View.ld x3 r2_21) (View.ld x2 r2_22) (View.ld x3 r2_23)) (View.ld x2 r2_24) (View.ld x3 r2_25) (View.ld x2 r2_26) (View.ld x3 r2_27)) (k2_pay26 (View.ld x2 r2_28)) (constant S2048x128 .f32 0x00000000#32) (View.ld x3 r2_29) (View.ld x2 r2_30) (View.ld x3 r2_31) -- `v344`
def k2_pay44 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S2048x128 .bf16 :=
  k2_pay28 (k2_pay41 x0 x1 x2 x3 x4 x5 x6 x7 x8 x9 x10 x11 x12 x13 x14 x15 x16) (View.ld x2 r2_32) -- `v348`
def k2_pay45 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S2048x128 .bf16 :=
  k2_pay29 (F := F) -- `v349`
def k2_pay46 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .f32 :=
  k2_pay31 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay43 x0 x1 x2 x3 x4 x5 x6 x7 x8 x9 x10 x11 x12 x13 x14 x15 x16) (k2_pay44 x0 x1 x2 x3 x4 x5 x6 x7 x8 x9 x10 x11 x12 x13 x14 x15 x16) (k2_pay45 x0 x1 x2 x3 x4 x5 x6 x7 x8 x9 x10 x11 x12 x13 x14 x15 x16) (View.ld x3 r2_33) (View.ld x2 r2_34) (View.ld x3 r2_35) -- `v387`
def k2_pay47 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .f32 :=
  k2_pay32 (k2_pay41 x0 x1 x2 x3 x4 x5 x6 x7 x8 x9 x10 x11 x12 x13 x14 x15 x16) (k2_pay42 x0 x1 x2 x3 x4 x5 x6 x7 x8 x9 x10 x11 x12 x13 x14 x15 x16) (k2_pay43 x0 x1 x2 x3 x4 x5 x6 x7 x8 x9 x10 x11 x12 x13 x14 x15 x16) (k2_pay44 x0 x1 x2 x3 x4 x5 x6 x7 x8 x9 x10 x11 x12 x13 x14 x15 x16) (k2_pay45 x0 x1 x2 x3 x4 x5 x6 x7 x8 x9 x10 x11 x12 x13 x14 x15 x16) (View.ld x3 r2_33) (View.ld x2 r2_34) (View.ld x3 r2_35) -- `v388`
def k2_pay48 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S1x128 .f32 :=
  k2_pay33 (View.ld x4 r2_36) -- `v394`

/-- Window 17's staging buffer after the body, from the input windows' blocks: its 1 store as pieces, LAST
    FIRST (Lib/Pipeline/FrameBody.lean `View.canon`; the payloads are the skeleton's and the values stated above). -/
def out2_17 (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : Vec F S512x128 .f32 :=
  View.canon [⟨r2_0, k2_pay1 (k2_pay34 (k2_pay46 x0 x1 x2 x3 x4 x5 x6 x7 x8 x9 x10 x11 x12 x13 x14 x15 x16) (k2_pay47 x0 x1 x2 x3 x4 x5 x6 x7 x8 x9 x10 x11 x12 x13 x14 x15 x16) (k2_pay48 x0 x1 x2 x3 x4 x5 x6 x7 x8 x9 x10 x11 x12 x13 x14 x15 x16) (Scalar.ofBits .f32 0x00000000#32) (View.ld x0 r2_0) (View.ld x9 r2_1) (View.ld x10 r2_2)) (k2_pay35 (k2_pay46 x0 x1 x2 x3 x4 x5 x6 x7 x8 x9 x10 x11 x12 x13 x14 x15 x16) (k2_pay47 x0 x1 x2 x3 x4 x5 x6 x7 x8 x9 x10 x11 x12 x13 x14 x15 x16) (k2_pay48 x0 x1 x2 x3 x4 x5 x6 x7 x8 x9 x10 x11 x12 x13 x14 x15 x16) (Scalar.ofBits .f32 0x00000000#32) (View.ld x0 r2_0) (View.ld x9 r2_1) (View.ld x10 r2_2) (View.ld x11 r2_2) (View.ld x12 r2_2)) (View.ld x13 r2_37) (View.ld x14 r2_38) (View.ld x15 r2_39) (View.ld x16 r2_2)⟩]

/-- Its stores tile the buffer (checked by evaluation), so they cover it. -/
theorem cover2_17 (p0 : Vec F S512x128 .f32) (y : S512x128.Idx) :
    ∃ pc ∈ ([⟨r2_0, p0⟩] : List (View.Piece (Elt F) S512x128 .f32)), y ∈ pc.1.set :=
  View.cover_of_tiled [⟨r2_0, p0⟩] S512x128.size (by rfl) y

/-! ## The body's triple -/

set_option maxHeartbeats 1372000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S512x128 .f32) (harg1 : arg1.IsWhole) (arg2 : Memref sig .tc .vmem S512x128 .f32) (harg2 : arg2.IsWhole) (arg3 : Memref sig .tc .vmem S2048x128 .bf16) (harg3 : arg3.IsWhole) (arg4 : Memref sig .tc .vmem S8192x256 .bf16) (harg4 : arg4.IsWhole) (arg5 : Memref sig .tc .vmem S8x128 .f32) (harg5 : arg5.IsWhole) (arg6 : Memref sig .tc .vmem S512x2048 .i32) (harg6 : arg6.IsWhole) (arg7 : Memref sig .tc .vmem S512x2048 .i32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S512x128 .f32) (harg18 : arg18.IsWhole)
    (x0 : Vec F S512x128 .f32) (x1 : Vec F S512x128 .f32) (x2 : Vec F S2048x128 .bf16) (x3 : Vec F S8192x256 .bf16) (x4 : Vec F S8x128 .f32) (x5 : Vec F S512x2048 .i32) (x6 : Vec F S512x2048 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out2_17 x0 x1 x2 x3 x4 x5 x6 x7 x8 x9 x10 x11 x12 x13 x14 x15 x16)) -∗ K ⟨⟩))
      ⊢ wp frame (wpE (defs₀ (F := F)) Variants.none c none) E (cc2__attn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc2__attn_body_eq_skeleton]; unfold cc2__attn_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  refine (View.read_writes_eq_canon _ _ _ (cover2_17 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => out2_17 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)
    | ⟨_ + 18, h⟩ => absurd h (Nat.not_lt.2 (Nat.le_add_left _ _))
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = out2_17 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel2 c Set.univ (grid2.coords t) _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

set_option maxHeartbeats 2000000 in
/-- The body obligation at every point of the grid. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.FrameIdeal.Region3.lean ====
/- Pipeline 3 (the attention block that writes result 0): its blocks, what its body leaves in each window, and the proof that the body does so. Taken over from the generated frame so that one declaration may have a larger step budget. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__attn_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x128 := Rect.unit (s := S512x128) ![0, 0] S512x128.size inb_S512x128_S512x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0
abbrev r3_3 : Rect S512x4096 := Rect.unit (s := S512x4096) ![0, 0] S512x4096.size inb_S512x4096_S512x4096_0_0
abbrev r3_4 : Rect S4096x128 := Rect.unit (s := S4096x128) ![0, 0] S128x128.size inb_S4096x128_S128x128_0_0
abbrev r3_5 : Rect S16384x256 := Rect.unit (s := S16384x256) ![0, 0] S512x256.size inb_S16384x256_S512x256_0_0
abbrev r3_6 : Rect S4096x128 := Rect.unit (s := S4096x128) ![128, 0] S128x128.size inb_S4096x128_S128x128_128_0
abbrev r3_7 : Rect S16384x256 := Rect.unit (s := S16384x256) ![512, 0] S512x256.size inb_S16384x256_S512x256_512_0
abbrev r3_8 : Rect S4096x128 := Rect.unit (s := S4096x128) ![256, 0] S128x128.size inb_S4096x128_S128x128_256_0
abbrev r3_9 : Rect S16384x256 := Rect.unit (s := S16384x256) ![1024, 0] S512x256.size inb_S16384x256_S512x256_1024_0
abbrev r3_10 : Rect S4096x128 := Rect.unit (s := S4096x128) ![384, 0] S128x128.size inb_S4096x128_S128x128_384_0
abbrev r3_11 : Rect S16384x256 := Rect.unit (s := S16384x256) ![1536, 0] S512x256.size inb_S16384x256_S512x256_1536_0
abbrev r3_12 : Rect S4096x128 := Rect.unit (s := S4096x128) ![512, 0] S128x128.size inb_S4096x128_S128x128_512_0
abbrev r3_13 : Rect S16384x256 := Rect.unit (s := S16384x256) ![2048, 0] S512x256.size inb_S16384x256_S512x256_2048_0
abbrev r3_14 : Rect S4096x128 := Rect.unit (s := S4096x128) ![640, 0] S128x128.size inb_S4096x128_S128x128_640_0
abbrev r3_15 : Rect S16384x256 := Rect.unit (s := S16384x256) ![2560, 0] S512x256.size inb_S16384x256_S512x256_2560_0
abbrev r3_16 : Rect S4096x128 := Rect.unit (s := S4096x128) ![768, 0] S128x128.size inb_S4096x128_S128x128_768_0
abbrev r3_17 : Rect S16384x256 := Rect.unit (s := S16384x256) ![3072, 0] S512x256.size inb_S16384x256_S512x256_3072_0
abbrev r3_18 : Rect S4096x128 := Rect.unit (s := S4096x128) ![896, 0] S128x128.size inb_S4096x128_S128x128_896_0
abbrev r3_19 : Rect S16384x256 := Rect.unit (s := S16384x256) ![3584, 0] S512x256.size inb_S16384x256_S512x256_3584_0
abbrev r3_20 : Rect S4096x128 := Rect.unit (s := S4096x128) ![1024, 0] S128x128.size inb_S4096x128_S128x128_1024_0
abbrev r3_21 : Rect S16384x256 := Rect.unit (s := S16384x256) ![4096, 0] S512x256.size inb_S16384x256_S512x256_4096_0
abbrev r3_22 : Rect S4096x128 := Rect.unit (s := S4096x128) ![1152, 0] S128x128.size inb_S4096x128_S128x128_1152_0
abbrev r3_23 : Rect S16384x256 := Rect.unit (s := S16384x256) ![4608, 0] S512x256.size inb_S16384x256_S512x256_4608_0
abbrev r3_24 : Rect S4096x128 := Rect.unit (s := S4096x128) ![1280, 0] S128x128.size inb_S4096x128_S128x128_1280_0
abbrev r3_25 : Rect S16384x256 := Rect.unit (s := S16384x256) ![5120, 0] S512x256.size inb_S16384x256_S512x256_5120_0
abbrev r3_26 : Rect S4096x128 := Rect.unit (s := S4096x128) ![1408, 0] S128x128.size inb_S4096x128_S128x128_1408_0
abbrev r3_27 : Rect S16384x256 := Rect.unit (s := S16384x256) ![5632, 0] S512x256.size inb_S16384x256_S512x256_5632_0
abbrev r3_28 : Rect S4096x128 := Rect.unit (s := S4096x128) ![1536, 0] S128x128.size inb_S4096x128_S128x128_1536_0
abbrev r3_29 : Rect S16384x256 := Rect.unit (s := S16384x256) ![6144, 0] S512x256.size inb_S16384x256_S512x256_6144_0
abbrev r3_30 : Rect S4096x128 := Rect.unit (s := S4096x128) ![1664, 0] S128x128.size inb_S4096x128_S128x128_1664_0
abbrev r3_31 : Rect S16384x256 := Rect.unit (s := S16384x256) ![6656, 0] S512x256.size inb_S16384x256_S512x256_6656_0
abbrev r3_32 : Rect S4096x128 := Rect.unit (s := S4096x128) ![1792, 0] S128x128.size inb_S4096x128_S128x128_1792_0
abbrev r3_33 : Rect S16384x256 := Rect.unit (s := S16384x256) ![7168, 0] S512x256.size inb_S16384x256_S512x256_7168_0
abbrev r3_34 : Rect S4096x128 := Rect.unit (s := S4096x128) ![1920, 0] S128x128.size inb_S4096x128_S128x128_1920_0
abbrev r3_35 : Rect S16384x256 := Rect.unit (s := S16384x256) ![7680, 0] S512x256.size inb_S16384x256_S512x256_7680_0
abbrev r3_36 : Rect S4096x128 := Rect.unit (s := S4096x128) ![2048, 0] S128x128.size inb_S4096x128_S128x128_2048_0
abbrev r3_37 : Rect S16384x256 := Rect.unit (s := S16384x256) ![8192, 0] S512x256.size inb_S16384x256_S512x256_8192_0
abbrev r3_38 : Rect S4096x128 := Rect.unit (s := S4096x128) ![2176, 0] S128x128.size inb_S4096x128_S128x128_2176_0
abbrev r3_39 : Rect S16384x256 := Rect.unit (s := S16384x256) ![8704, 0] S512x256.size inb_S16384x256_S512x256_8704_0
abbrev r3_40 : Rect S4096x128 := Rect.unit (s := S4096x128) ![2304, 0] S128x128.size inb_S4096x128_S128x128_2304_0
abbrev r3_41 : Rect S16384x256 := Rect.unit (s := S16384x256) ![9216, 0] S512x256.size inb_S16384x256_S512x256_9216_0
abbrev r3_42 : Rect S4096x128 := Rect.unit (s := S4096x128) ![2432, 0] S128x128.size inb_S4096x128_S128x128_2432_0
abbrev r3_43 : Rect S16384x256 := Rect.unit (s := S16384x256) ![9728, 0] S512x256.size inb_S16384x256_S512x256_9728_0
abbrev r3_44 : Rect S4096x128 := Rect.unit (s := S4096x128) ![2560, 0] S128x128.size inb_S4096x128_S128x128_2560_0
abbrev r3_45 : Rect S16384x256 := Rect.unit (s := S16384x256) ![10240, 0] S512x256.size inb_S16384x256_S512x256_10240_0
abbrev r3_46 : Rect S4096x128 := Rect.unit (s := S4096x128) ![2688, 0] S128x128.size inb_S4096x128_S128x128_2688_0
abbrev r3_47 : Rect S16384x256 := Rect.unit (s := S16384x256) ![10752, 0] S512x256.size inb_S16384x256_S512x256_10752_0
abbrev r3_48 : Rect S4096x128 := Rect.unit (s := S4096x128) ![2816, 0] S128x128.size inb_S4096x128_S128x128_2816_0
abbrev r3_49 : Rect S16384x256 := Rect.unit (s := S16384x256) ![11264, 0] S512x256.size inb_S16384x256_S512x256_11264_0
abbrev r3_50 : Rect S4096x128 := Rect.unit (s := S4096x128) ![2944, 0] S128x128.size inb_S4096x128_S128x128_2944_0
abbrev r3_51 : Rect S16384x256 := Rect.unit (s := S16384x256) ![11776, 0] S512x256.size inb_S16384x256_S512x256_11776_0
abbrev r3_52 : Rect S4096x128 := Rect.unit (s := S4096x128) ![3072, 0] S128x128.size inb_S4096x128_S128x128_3072_0
abbrev r3_53 : Rect S16384x256 := Rect.unit (s := S16384x256) ![12288, 0] S512x256.size inb_S16384x256_S512x256_12288_0
abbrev r3_54 : Rect S4096x128 := Rect.unit (s := S4096x128) ![3200, 0] S128x128.size inb_S4096x128_S128x128_3200_0
abbrev r3_55 : Rect S16384x256 := Rect.unit (s := S16384x256) ![12800, 0] S512x256.size inb_S16384x256_S512x256_12800_0
abbrev r3_56 : Rect S4096x128 := Rect.unit (s := S4096x128) ![3328, 0] S128x128.size inb_S4096x128_S128x128_3328_0
abbrev r3_57 : Rect S16384x256 := Rect.unit (s := S16384x256) ![13312, 0] S512x256.size inb_S16384x256_S512x256_13312_0
abbrev r3_58 : Rect S4096x128 := Rect.unit (s := S4096x128) ![3456, 0] S128x128.size inb_S4096x128_S128x128_3456_0
abbrev r3_59 : Rect S16384x256 := Rect.unit (s := S16384x256) ![13824, 0] S512x256.size inb_S16384x256_S512x256_13824_0
abbrev r3_60 : Rect S4096x128 := Rect.unit (s := S4096x128) ![3584, 0] S128x128.size inb_S4096x128_S128x128_3584_0
abbrev r3_61 : Rect S16384x256 := Rect.unit (s := S16384x256) ![14336, 0] S512x256.size inb_S16384x256_S512x256_14336_0
abbrev r3_62 : Rect S4096x128 := Rect.unit (s := S4096x128) ![3712, 0] S128x128.size inb_S4096x128_S128x128_3712_0
abbrev r3_63 : Rect S16384x256 := Rect.unit (s := S16384x256) ![14848, 0] S512x256.size inb_S16384x256_S512x256_14848_0
abbrev r3_64 : Rect S4096x128 := Rect.unit (s := S4096x128) ![3840, 0] S128x128.size inb_S4096x128_S128x128_3840_0
abbrev r3_65 : Rect S16384x256 := Rect.unit (s := S16384x256) ![15360, 0] S512x256.size inb_S16384x256_S512x256_15360_0
abbrev r3_66 : Rect S4096x128 := Rect.unit (s := S4096x128) ![3968, 0] S128x128.size inb_S4096x128_S128x128_3968_0
abbrev r3_67 : Rect S16384x256 := Rect.unit (s := S16384x256) ![15872, 0] S512x256.size inb_S16384x256_S512x256_15872_0
abbrev r3_68 : Rect S8x128 := Rect.unit (s := S8x128) ![0, 0] S8x128.size inb_S8x128_S8x128_0_0
abbrev r3_69 : Rect S128x256 := Rect.unit (s := S128x256) ![0, 0] S128x256.size inb_S128x256_S128x256_0_0
abbrev r3_70 : Rect S1x256 := Rect.unit (s := S1x256) ![0, 0] S1x256.size inb_S1x256_S1x256_0_0
abbrev r3_71 : Rect S256x128 := Rect.unit (s := S256x128) ![0, 0] S256x128.size inb_S256x128_S256x128_0_0

/-! ## What the body leaves in each output window's buffer -/

/-! ### Values of the body that the stores' payloads, spelt out, would write more than once

    Each is a vector the body binds (often a part call's result), stated over the input windows' blocks and
    numbered on from the skeleton's payload functions (`k3_pay60` …, after `k3_pay59`), so that
    `out3_W` and the values after it name it instead of spelling it out (`unfold out3_W` opens a canon
    with them, `unfold_payloads` opens them with the payloads); the comment after each is the printed function's
    name for the value (a count appended where that name is bound again). -/

def k3_pay60 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k3_pay2 (View.ld x1 r3_0) (View.ld x7 r3_1) (View.ld x8 r3_2) -- `v11`
def k3_pay61 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k3_pay3 (View.ld x1 r3_0) (View.ld x7 r3_1) (View.ld x8 r3_2) -- `v19`
def k3_pay62 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k3_pay4 (View.ld x1 r3_0) (View.ld x7 r3_1) (View.ld x8 r3_2) -- `v26`
def k3_pay63 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k3_pay5 (View.ld x1 r3_0) (View.ld x7 r3_1) (View.ld x8 r3_2) -- `v33`
def k3_pay64 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : IVec S512x128 1 :=
  k3_pay6 -- `v38`
def k3_pay65 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S2048x128 .bf16 :=
  k3_pay7 (k3_pay60 x0 x1 x2 x3 x4 x5 x6 x7 x8 x9 x10 x11 x12 x13 x14 x15 x16) (k3_pay61 x0 x1 x2 x3 x4 x5 x6 x7 x8 x9 x10 x11 x12 x13 x14 x15 x16) (k3_pay62 x0 x1 x2 x3 x4 x5 x6 x7 x8 x9 x10 x11 x12 x13 x14 x15 x16) (k3_pay63 x0 x1 x2 x3 x4 x5 x6 x7 x8 x9 x10 x11 x12 x13 x14 x15 x16) (k3_pay64 x0 x1 x2 x3 x4 x5 x6 x7 x8 x9 x10 x11 x12 x13 x14 x15 x16) (Scalar.ofBits .bf16 0x0000#16) -- `v41`
def k3_pay66 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x4096 .bf16 :=
  k3_pay8 (View.ld x5 r3_3) (View.ld x6 r3_3) -- `v49`
def k3_pay67 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x256 .f32 :=
  k3_pay51 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay48 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay46 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay45 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay42 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay40 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay34 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay30 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay27 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay25 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay24 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay21 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay19 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay13 (k3_pay65 x0 x1 x2 x3 x4 x5 x6 x7 x8 x9 x10 x11 x12 x13 x14 x15 x16) (k3_pay66 x0 x1 x2 x3 x4 x5 x6 x7 x8 x9 x10 x11 x12 x13 x14 x15 x16) (k3_pay9 (k3_pay60 x0 x1 x2 x3 x4 x5 x6 x7 x8 x9 x10 x11 x12 x13 x14 x15 x16) (k3_pay61 x0 x1 x2 x3 x4 x5 x6 x7 x8 x9 x10 x11 x12 x13 x14 x15 x16) (k3_pay62 x0 x1 x2 x3 x4 x5 x6 x7 x8 x9 x10 x11 x12 x13 x14 x15 x16) (k3_pay63 x0 x1 x2 x3 x4 x5 x6 x7 x8 x9 x10 x11 x12 x13 x14 x15 x16) (k3_pay64 x0 x1 x2 x3 x4 x5 x6 x7 x8 x9 x10 x11 x12 x13 x14 x15 x16) (Scalar.ofBits .bf16 0x0000#16) (View.ld x5 r3_3) (View.ld x6 r3_3) (View.ld x2 r3_4) (View.ld x3 r3_5)) (k3_pay10 (k3_pay60 x0 x1 x2 x3 x4 x5 x6 x7 x8 x9 x10 x11 x12 x13 x14 x15 x16) (k3_pay61 x0 x1 x2 x3 x4 x5 x6 x7 x8 x9 x10 x11 x12 x13 x14 x15 x16) (k3_pay62 x0 x1 x2 x3 x4 x5 x6 x7 x8 x9 x10 x11 x12 x13 x14 x15 x16) (k3_pay63 x0 x1 x2 x3 x4 x5 x6 x7 x8 x9 x10 x11 x12 x13 x14 x15 x16) (k3_pay64 x0 x1 x2 x3 x4 x5 x6 x7 x8 x9 x10 x11 x12 x13 x14 x15 x16) (Scalar.ofBits .bf16 0x0000#16) (View.ld x2 r3_6)) (k3_pay11 (View.ld x5 r3_3) (View.ld x6 r3_3)) (k3_pay12 (k3_pay60 x0 x1 x2 x3 x4 x5 x6 x7 x8 x9 x10 x11 x12 x13 x14 x15 x16) (k3_pay61 x0 x1 x2 x3 x4 x5 x6 x7 x8 x9 x10 x11 x12 x13 x14 x15 x16) (k3_pay62 x0 x1 x2 x3 x4 x5 x6 x7 x8 x9 x10 x11 x12 x13 x14 x15 x16) (k3_pay63 x0 x1 x2 x3 x4 x5 x6 x7 x8 x9 x10 x11 x12 x13 x14 x15 x16) (k3_pay64 x0 x1 x2 x3 x4 x5 x6 x7 x8 x9 x10 x11 x12 x13 x14 x15 x16) (Scalar.ofBits .bf16 0x0000#16) (View.ld x2 r3_6)) (View.ld x3 r3_7) (View.ld x2 r3_8) (View.ld x3 r3_9)) (k3_pay14 (k3_pay65 x0 x1 x2 x3 x4 x5 x6 x7 x8 x9 x10 x11 x12 x13 x14 x15 x16) (View.ld x2 r3_10)) (k3_pay15 (k3_pay66 x0 x1 x2 x3 x4 x5 x6 x7 x8 x9 x10 x11 x12 x13 x14 x15 x16)) (k3_pay16 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_10)) (k3_pay17 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_10)) (k3_pay18 (k3_pay65 x0 x1 x2 x3 x4 x5 x6 x7 x8 x9 x10 x11 x12 x13 x14 x15 x16) (View.ld x2 r3_10)) (View.ld x3 r3_11) (View.ld x2 r3_12) (View.ld x3 r3_13)) (k3_pay20 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_14)) (View.ld x3 r3_15) (View.ld x2 r3_16) (View.ld x3 r3_17)) (k3_pay22 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_18)) (k3_pay23 (View.ld x3 r3_19)) (View.ld x2 r3_20) (View.ld x3 r3_21) (View.ld x2 r3_22) (View.ld x3 r3_23)) (View.ld x2 r3_24) (View.ld x3 r3_25) (View.ld x2 r3_26) (View.ld x3 r3_27)) (k3_pay26 (View.ld x2 r3_28)) (constant S2048x128 .f32 0x00000000#32) (View.ld x3 r3_29) (View.ld x2 r3_30) (View.ld x3 r3_31)) (k3_pay28 (k3_pay65 x0 x1 x2 x3 x4 x5 x6 x7 x8 x9 x10 x11 x12 x13 x14 x15 x16) (View.ld x2 r3_32)) (k3_pay29 (F := F)) (View.ld x3 r3_33) (View.ld x2 r3_34) (View.ld x3 r3_35)) (k3_pay31 (k3_pay65 x0 x1 x2 x3 x4 x5 x6 x7 x8 x9 x10 x11 x12 x13 x14 x15 x16) (View.ld x2 r3_36)) (k3_pay32 (k3_pay66 x0 x1 x2 x3 x4 x5 x6 x7 x8 x9 x10 x11 x12 x13 x14 x15 x16)) (k3_pay33 (k3_pay65 x0 x1 x2 x3 x4 x5 x6 x7 x8 x9 x10 x11 x12 x13 x14 x15 x16) (View.ld x2 r3_36)) (View.ld x3 r3_37) (View.ld x2 r3_38) (View.ld x3 r3_39)) (k3_pay35 (k3_pay65 x0 x1 x2 x3 x4 x5 x6 x7 x8 x9 x10 x11 x12 x13 x14 x15 x16) (View.ld x2 r3_40)) (k3_pay36 (k3_pay66 x0 x1 x2 x3 x4 x5 x6 x7 x8 x9 x10 x11 x12 x13 x14 x15 x16)) (k3_pay37 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_40)) (k3_pay38 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_40)) (k3_pay39 (k3_pay65 x0 x1 x2 x3 x4 x5 x6 x7 x8 x9 x10 x11 x12 x13 x14 x15 x16) (View.ld x2 r3_40)) (View.ld x3 r3_41) (View.ld x2 r3_42) (View.ld x3 r3_43)) (k3_pay41 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_44)) (View.ld x3 r3_45) (View.ld x2 r3_46) (View.ld x3 r3_47)) (k3_pay43 (k3_pay65 x0 x1 x2 x3 x4 x5 x6 x7 x8 x9 x10 x11 x12 x13 x14 x15 x16) (k3_pay66 x0 x1 x2 x3 x4 x5 x6 x7 x8 x9 x10 x11 x12 x13 x14 x15 x16) (View.ld x2 r3_48)) (k3_pay44 (View.ld x3 r3_49)) (View.ld x2 r3_50) (View.ld x3 r3_51) (View.ld x2 r3_52) (View.ld x3 r3_53)) (View.ld x2 r3_54) (View.ld x3 r3_55) (View.ld x2 r3_56) (View.ld x3 r3_57)) (k3_pay47 (View.ld x2 r3_58)) (constant S2048x128 .f32 0x00000000#32) (View.ld x3 r3_59) (View.ld x2 r3_60) (View.ld x3 r3_61)) (k3_pay49 (k3_pay65 x0 x1 x2 x3 x4 x5 x6 x7 x8 x9 x10 x11 x12 x13 x14 x15 x16) (View.ld x2 r3_62)) (k3_pay50 (F := F)) (View.ld x3 r3_63) (View.ld x2 r3_64) (View.ld x3 r3_65) -- `v701`
def k3_pay68 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S2048x128 .bf16 :=
  k3_pay52 (k3_pay65 x0 x1 x2 x3 x4 x5 x6 x7 x8 x9 x10 x11 x12 x13 x14 x15 x16) (View.ld x2 r3_66) -- `v708`
def k3_pay69 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k3_pay53 (k3_pay66 x0 x1 x2 x3 x4 x5 x6 x7 x8 x9 x10 x11 x12 x13 x14 x15 x16) -- `v709`
def k3_pay70 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .bf16 :=
  k3_pay54 (k3_pay65 x0 x1 x2 x3 x4 x5 x6 x7 x8 x9 x10 x11 x12 x13 x14 x15 x16) (View.ld x2 r3_66) -- `v710`
def k3_pay71 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : FVec F S512x128 .f32 :=
  k3_pay55 (k3_pay67 x0 x1 x2 x3 x4 x5 x6 x7 x8 x9 x10 x11 x12 x13 x14 x15 x16) (k3_pay68 x0 x1 x2 x3 x4 x5 x6 x7 x8 x9 x10 x11 x12 x13 x14 x15 x16) (k3_pay69 x0 x1 x2 x3 x4 x5 x6 x7 x8 x9 x10 x11 x12 x13 x14 x15 x16) (k3_pay70 x0 x1 x2 x3 x4 x5 x6 x7 x8 x9 x10 x11 x12 x13 x14 x15 x16) (View.ld x3 r3_67) (View.ld x4 r3_68) (View.ld x0 r3_0) (View.ld x9 r3_1) (View.ld x10 r3_2) -- `v745`

/-- Window 17's staging buffer after the body, from the input windows' blocks: its 1 store as pieces, LAST
    FIRST (Lib/Pipeline/FrameBody.lean `View.canon`; the payloads are the skeleton's and the values stated above). -/
def out3_17 (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) : Vec F S512x128 .f32 :=
  View.canon [⟨r3_0, k3_pay1 (k3_pay71 x0 x1 x2 x3 x4 x5 x6 x7 x8 x9 x10 x11 x12 x13 x14 x15 x16) (k3_pay59 (k3_pay71 x0 x1 x2 x3 x4 x5 x6 x7 x8 x9 x10 x11 x12 x13 x14 x15 x16) (k3_pay56 (View.ld x11 r3_2)) (k3_pay57 (View.ld x12 r3_2)) (k3_pay58 (k3_pay67 x0 x1 x2 x3 x4 x5 x6 x7 x8 x9 x10 x11 x12 x13 x14 x15 x16) (k3_pay68 x0 x1 x2 x3 x4 x5 x6 x7 x8 x9 x10 x11 x12 x13 x14 x15 x16) (k3_pay69 x0 x1 x2 x3 x4 x5 x6 x7 x8 x9 x10 x11 x12 x13 x14 x15 x16) (k3_pay70 x0 x1 x2 x3 x4 x5 x6 x7 x8 x9 x10 x11 x12 x13 x14 x15 x16) (View.ld x3 r3_67) (View.ld x4 r3_68) (View.ld x0 r3_0) (View.ld x9 r3_1) (View.ld x10 r3_2)) (View.ld x13 r3_69) (View.ld x14 r3_70) (View.ld x15 r3_71)) (View.ld x16 r3_2)⟩]

/-- Its stores tile the buffer (checked by evaluation), so they cover it. -/
theorem cover3_17 (p0 : Vec F S512x128 .f32) (y : S512x128.Idx) :
    ∃ pc ∈ ([⟨r3_0, p0⟩] : List (View.Piece (Elt F) S512x128 .f32)), y ∈ pc.1.set :=
  View.cover_of_tiled [⟨r3_0, p0⟩] S512x128.size (by rfl) y

/-! ## The body's triple -/

set_option maxHeartbeats 2000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S512x128 .f32) (harg1 : arg1.IsWhole) (arg2 : Memref sig .tc .vmem S512x128 .f32) (harg2 : arg2.IsWhole) (arg3 : Memref sig .tc .vmem S4096x128 .bf16) (harg3 : arg3.IsWhole) (arg4 : Memref sig .tc .vmem S16384x256 .bf16) (harg4 : arg4.IsWhole) (arg5 : Memref sig .tc .vmem S8x128 .f32) (harg5 : arg5.IsWhole) (arg6 : Memref sig .tc .vmem S512x4096 .i32) (harg6 : arg6.IsWhole) (arg7 : Memref sig .tc .vmem S512x4096 .i32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S512x128 .f32) (harg18 : arg18.IsWhole)
    (x0 : Vec F S512x128 .f32) (x1 : Vec F S512x128 .f32) (x2 : Vec F S4096x128 .bf16) (x3 : Vec F S16384x256 .bf16) (x4 : Vec F S8x128 .f32) (x5 : Vec F S512x4096 .i32) (x6 : Vec F S512x4096 .i32) (x7 : Vec F S128x128 .f32) (x8 : Vec F S1x128 .f32) (x9 : Vec F S128x128 .f32) (x10 : Vec F S1x128 .f32) (x11 : Vec F S1x128 .f32) (x12 : Vec F S1x128 .f32) (x13 : Vec F S128x256 .f32) (x14 : Vec F S1x256 .f32) (x15 : Vec F S256x128 .f32) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out3_17 x0 x1 x2 x3 x4 x5 x6 x7 x8 x9 x10 x11 x12 x13 x14 x15 x16)) -∗ K ⟨⟩))
      ⊢ wp frame (wpE (defs₀ (F := F)) Variants.none c none) E (cc3__attn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__attn_body_eq_skeleton]; unfold cc3__attn_body_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton, k3_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  refine (View.read_writes_eq_canon _ _ _ (cover3_17 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
    | ⟨_ + 18, h⟩ => absurd h (Nat.not_lt.2 (Nat.le_add_left _ _))
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel3 c Set.univ (grid3.coords t) _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

set_option maxHeartbeats 2000000 in
/-- The body obligation at every point of the grid. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.FrameIdeal.Fold0.lean ====
/- What every buffer holds between the four pipelines of the program. -/
module

public import proofs.«01_k».proof.Proof.Gen.KernelIdeal.Frame.Region0
public import proofs.«01_k».proof.Proof.Gen.KernelIdeal.Frame.Region1
public import proofs.«01_k».proof.Proof.FrameIdeal.Region2
public import proofs.«01_k».proof.Proof.FrameIdeal.Region3
public import proofs.«01_k».proof.Proof.Gen.KernelIdeal.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)
theorem W8_main_arg15 (c : Dev nD) : W8 m ρ c (Proc.devRef .tc main_arg15) = m ((c : Thread nD τ).loc main_arg15) :=
  W8_args m ρ c main_arg15 (by decide)
theorem W8_main_arg16 (c : Dev nD) : W8 m ρ c (Proc.devRef .tc main_arg16) = m ((c : Thread nD τ).loc main_arg16) :=
  W8_args m ρ c main_arg16 (by decide)
theorem W8_main_arg17 (c : Dev nD) : W8 m ρ c (Proc.devRef .tc main_arg17) = m ((c : Thread nD τ).loc main_arg17) :=
  W8_args m ρ c main_arg17 (by decide)
theorem W8_main_arg18 (c : Dev nD) : W8 m ρ c (Proc.devRef .tc main_arg18) = m ((c : Thread nD τ).loc main_arg18) :=
  W8_args m ρ c main_arg18 (by decide)
theorem W8_main_arg19 (c : Dev nD) : W8 m ρ c (Proc.devRef .tc main_arg19) = m ((c : Thread nD τ).loc main_arg19) :=
  W8_args m ρ c main_arg19 (by decide)
theorem W8_main_arg20 (c : Dev nD) : W8 m ρ c (Proc.devRef .tc main_arg20) = m ((c : Thread nD τ).loc main_arg20) :=
  W8_args m ρ c main_arg20 (by decide)
theorem W8_main_arg21 (c : Dev nD) : W8 m ρ c (Proc.devRef .tc main_arg21) = m ((c : Thread nD τ).loc main_arg21) :=
  W8_args m ρ c main_arg21 (by decide)
theorem W8_main_arg22 (c : Dev nD) : W8 m ρ c (Proc.devRef .tc main_arg22) = m ((c : Thread nD τ).loc main_arg22) :=
  W8_args m ρ c main_arg22 (by decide)
theorem W8_main_arg23 (c : Dev nD) : W8 m ρ c (Proc.devRef .tc main_arg23) = m ((c : Thread nD τ).loc main_arg23) :=
  W8_args m ρ c main_arg23 (by decide)
end Cert.KernelIdeal.Gen

end
-- ==== Proof.FrameIdeal.State.lean ====
/- The state carried between the program's segments. -/
module

public import proofs.«01_k».proof.Proof.FrameIdeal.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

end Cert.KernelIdeal.Gen

end
-- ==== Proof.FrameIdeal.Record0.lean ====
/- Pipeline 0 as one segment of the whole run. -/
module

public import proofs.«01_k».proof.Proof.FrameIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.FrameIdeal.Record1.lean ====
/- Pipeline 1 as one segment of the whole run. -/
module

public import proofs.«01_k».proof.Proof.FrameIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.FrameIdeal.Record2.lean ====
/- Pipeline 2 as one segment of the whole run. -/
module

public import proofs.«01_k».proof.Proof.FrameIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.FrameIdeal.Record3.lean ====
/- Pipeline 3 as one segment of the whole run. -/
module

public import proofs.«01_k».proof.Proof.FrameIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.FrameIdeal.Run.lean ====
/- The whole run: the program ends, with every buffer holding what the last boundary says and the arguments unchanged. -/
module

public import proofs.«01_k».proof.Proof.FrameIdeal.Record0
public import proofs.«01_k».proof.Proof.FrameIdeal.Record1
public import proofs.«01_k».proof.Proof.FrameIdeal.Record2
public import proofs.«01_k».proof.Proof.FrameIdeal.Record3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The whole run: the program ends with every buffer holding what the last boundary says and every counter at zero. -/
theorem run_ends : θ_run defs (onTc (τ := τ) (main (F := F))) ⟨m, fun _ => 0, ρ⟩ (fun r => (∀ c : Dev nD,
      ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c b hb, funext fun g => hz g (.inr (no_unscoped g.2))⟩)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun r h => ⟨(fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c),
       (h.1 c _ (mem_uc main_arg5 (by decide))).trans (W8_main_arg5 m ρ c),
       (h.1 c _ (mem_uc main_arg6 (by decide))).trans (W8_main_arg6 m ρ c),
       (h.1 c _ (mem_uc main_arg7 (by decide))).trans (W8_main_arg7 m ρ c),
       (h.1 c _ (mem_uc main_arg8 (by decide))).trans (W8_main_arg8 m ρ c),
       (h.1 c _ (mem_uc main_arg9 (by decide))).trans (W8_main_arg9 m ρ c),
       (h.1 c _ (mem_uc main_arg10 (by decide))).trans (W8_main_arg10 m ρ c),
       (h.1 c _ (mem_uc main_arg11 (by decide))).trans (W8_main_arg11 m ρ c),
       (h.1 c _ (mem_uc main_arg12 (by decide))).trans (W8_main_arg12 m ρ c),
       (h.1 c _ (mem_uc main_arg13 (by decide))).trans (W8_main_arg13 m ρ c),
       (h.1 c _ (mem_uc main_arg14 (by decide))).trans (W8_main_arg14 m ρ c),
       (h.1 c _ (mem_uc main_arg15 (by decide))).trans (W8_main_arg15 m ρ c),
       (h.1 c _ (mem_uc main_arg16 (by decide))).trans (W8_main_arg16 m ρ c),
       (h.1 c _ (mem_uc main_arg17 (by decide))).trans (W8_main_arg17 m ρ c),
       (h.1 c _ (mem_uc main_arg18 (by decide))).trans (W8_main_arg18 m ρ c),
       (h.1 c _ (mem_uc main_arg19 (by decide))).trans (W8_main_arg19 m ρ c),
       (h.1 c _ (mem_uc main_arg20 (by decide))).trans (W8_main_arg20 m ρ c),
       (h.1 c _ (mem_uc main_arg21 (by decide))).trans (W8_main_arg21 m ρ c),
       (h.1 c _ (mem_uc main_arg22 (by decide))).trans (W8_main_arg22 m ρ c),
       (h.1 c _ (mem_uc main_arg23 (by decide))).trans (W8_main_arg23 m ρ c)⟩), h.2⟩) (run_ends m ρ)

end Cert.KernelIdeal.Gen

end
-- ==== Proof.Spec.lean ====
/-
  The mathematics that both programs compute, over plain finite index types and extended reals, without any program:
  layer normalisation of a row, a dense layer, the score of a query against a key, attention written as the ratio of two
  masked sums and as a softmax average, and the row after the attention (output projection, residual, second layer
  normalisation, tanh-gelu network, residual). The main theorem `ratio_eq_softmax` says that where the scores that count are
  finite and do not pass the clamp the two ways of writing attention agree, fully masked queries included.
-/
module

public import Idealize.ShloMosaic.PureOps.Ideal
public import Idealize.ShloMosaic.PureOps.Ideal.Laws
public import Idealize.ShloMosaic.Lib.IdealHost

@[expose] public section

noncomputable section

namespace Cert.Spec

open Idealize.ShloMosaic
open scoped BigOperators

/-! ## The constants -/

/-- The number of features. -/
abbrev c128 : EReal := Ideal.ofBits .f32 0x43000000#32
/-- The layer normalisation's epsilon. -/
abbrev ceps : EReal := Ideal.ofBits .f32 0x3727C5AC#32

theorem c128_eq : c128 = ((128 : ℝ) : EReal) := by
  simp [c128, Ideal.ofBits, Ideal.ieee, -EReal.coe_mul]; norm_num
theorem c32_eq : Ideal.ofBits .f32 0x42000000#32 = ((32 : ℝ) : EReal) := by
  simp [Ideal.ofBits, Ideal.ieee, -EReal.coe_mul]; norm_num
theorem c80_eq : Ideal.ofBits .f32 0x42A00000#32 = ((80 : ℝ) : EReal) := by
  simp [Ideal.ofBits, Ideal.ieee, -EReal.coe_mul]; norm_num
theorem c80b_eq : Ideal.ofBits .bf16 0x42A0#16 = ((80 : ℝ) : EReal) := by
  simp [Ideal.ofBits, Ideal.ieee, -EReal.coe_mul]; norm_num
theorem inv2048_eq : Ideal.ofBits .f32 0x3A000000#32 = ((1 / 2048 : ℝ) : EReal) := by
  simp [Ideal.ofBits, Ideal.ieee, -EReal.coe_mul]; norm_num
theorem inv4096_eq : Ideal.ofBits .f32 0x39800000#32 = ((1 / 4096 : ℝ) : EReal) := by
  simp [Ideal.ofBits, Ideal.ieee, -EReal.coe_mul]; norm_num

/-! ## Rows -/

/-- The mean of a row of 128 features. -/
def mean (x : Fin 128 → EReal) : EReal := Ideal.div (∑ k, x k) c128
/-- The layer normalisation of a row. -/
def lnRow (x g b : Fin 128 → EReal) (j : Fin 128) : EReal :=
  (x j - mean x) * Ideal.rsqrt (mean (fun k => (x k - mean x) * (x k - mean x)) + ceps) * g j + b j
/-- A dense layer at one output feature. -/
def lin {n m : ℕ} (x : Fin n → EReal) (W : Fin n → Fin m → EReal) (b : Fin m → EReal) (j : Fin m) : EReal :=
  (∑ k, x k * W k j) + b j
/-- The tanh form of gelu. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))
/-- What follows the attention, on one row. -/
def post (h ctx : Fin 128 → EReal) (Wo : Fin 128 → Fin 128 → EReal) (bo g b : Fin 128 → EReal)
    (W1 : Fin 128 → Fin 256 → EReal) (b1 : Fin 256 → EReal) (W2 : Fin 256 → Fin 128 → EReal) (b2 : Fin 128 → EReal)
    (j : Fin 128) : EReal :=
  h j + (∑ k, ctx k * Wo k j) + bo j
    + (∑ k, gelu (lin (lnRow (fun l => h l + (∑ k, ctx k * Wo k l) + bo l) g b) W1 b1 k) * W2 k j) + b2 j

/-- The head a feature belongs to. -/
abbrev head (l : Fin 128) : Fin 4 := ⟨l.val / 32, by omega⟩
/-- Feature `d` of head `h`. -/
abbrev feat (h : Fin 4) (d : Fin 32) : Fin 128 := ⟨32 * h.val + d.val, by omega⟩

/-- The score of a query row against a key row in head `h`. -/
def score (q k : Fin 128 → EReal) (h : Fin 4) : EReal :=
  Ideal.div (∑ d : Fin 32, q (feat h d) * k (feat h d)) (Ideal.sqrt (Ideal.ofBits .f32 0x42000000#32))

/-- The kernel's score: the query is scaled first and cut to the head's features. -/
def kscore (c : EReal) (q k : Fin 128 → EReal) (h : Fin 4) : EReal :=
  ∑ d : Fin 128, (if head d = h then q d * c else 0) * k d

/-- The kernel's weight of a key. -/
def wt (s : EReal) (m : Prop) [Decidable m] : EReal :=
  Ideal.exp (min s (Ideal.ofBits .bf16 0x42A0#16)) * (if m then 1 else 0)

/-- Attention as a ratio of two masked sums, with a given value where nothing is allowed. -/
def ratio {n : ℕ} (s v : Fin n → EReal) (a : Fin n → Prop) [DecidablePred a] (vm : EReal) : EReal :=
  if 0 < ∑ j, wt (s j) (a j) then Ideal.div (∑ j, wt (s j) (a j) * v j) (∑ j, wt (s j) (a j)) else vm

/-- A masked score: a hidden key scores minus infinity, or zero when every key is hidden. -/
def masked {n : ℕ} (s : Fin n → EReal) (a : Fin n → Prop) [DecidablePred a] (j : Fin n) : EReal :=
  if a j then s j else if ∃ j, a j then ⊥ else 0

/-- Attention as the softmax average of the values. -/
def softmax {n : ℕ} (t v : Fin n → EReal) : EReal :=
  ∑ j, Ideal.div (Ideal.exp (t j - Finset.univ.sup t)) (∑ k, Ideal.exp (t k - Finset.univ.sup t)) * v j

/-! ## Finite values -/

/-- The value is a real number. -/
def Real' (x : EReal) : Prop := ∃ r : ℝ, x = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of any extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem sqrt32 : Ideal.sqrt (Ideal.ofBits .f32 0x42000000#32) = ((Real.sqrt 32 : ℝ) : EReal) := by
  rw [c32_eq, Ideal.sqrt_coe, if_neg (by norm_num)]

/-- The features, head by head. -/
theorem sum_heads {M : Type*} [AddCommMonoid M] (f : Fin 128 → M) (h : Fin 4) :
    (∑ d : Fin 128, if head d = h then f d else 0) = ∑ d : Fin 32, f (feat h d) := by
  rw [← Finset.sum_filter]
  symm
  refine Finset.sum_bij (fun d _ => feat h d) ?_ ?_ ?_ (fun _ _ => rfl)
  · intro d _; rw [Finset.mem_filter]; refine ⟨Finset.mem_univ _, Fin.ext ?_⟩
    show (32 * h.val + d.val) / 32 = h.val
    omega
  · intro a _ b _ hab
    have := congrArg Fin.val hab
    simp only [feat] at this
    exact Fin.ext (by omega)
  · intro d hd
    have := congrArg Fin.val (Finset.mem_filter.mp hd).2
    simp only [head] at this
    exact ⟨⟨d.val - 32 * h.val, by omega⟩, Finset.mem_univ _, Fin.ext (by simp only [feat]; omega)⟩

/-- The kernel's score is the score. -/
theorem kscore_eq (q k : Fin 128 → EReal) (h : Fin 4) : kscore (((Real.sqrt 32)⁻¹ : ℝ) : EReal) q k h = score q k h := by
  unfold kscore score
  have e1 : ∀ d : Fin 128, (if head d = h then q d * (((Real.sqrt 32)⁻¹ : ℝ) : EReal) else 0) * k d
      = if head d = h then q d * k d * (((Real.sqrt 32)⁻¹ : ℝ) : EReal) else 0 := by
    intro d
    split
    · exact mul_right_comm _ _ _
    · rw [zero_mul]
  rw [Finset.sum_congr rfl fun d _ => e1 d, sum_heads, sqrt32, Ideal.div_coe (by positivity), one_div,
    sum_mul_coe _ _ (by positivity)]

/-! ## The two forms of attention -/

/-- Where the scores that count are finite and stay below the clamp, the masked ratio is the softmax average of the masked
    scores, if the value given for a fully masked query is the values' mean. -/
theorem ratio_eq_softmax {n : ℕ} (hn : 0 < n) (s v : Fin n → EReal) (a : Fin n → Prop) [DecidablePred a] (vm : EReal)
    (hs : ∀ j, a j → Real' (s j) ∧ s j ≤ ((80 : ℝ) : EReal)) (hvm : vm = (∑ j, v j) * ((1 / (n : ℝ) : ℝ) : EReal)) :
    ratio s v a vm = softmax (masked s a) v := by
  choose! x hx using fun j (hj : a j) => (hs j hj).1
  have hw : ∀ j, wt (s j) (a j) = ((if a j then Real.exp (x j) else 0 : ℝ) : EReal) := fun j => by
    unfold wt
    by_cases ha : a j
    · rw [c80b_eq, if_pos ha, if_pos ha, mul_one, min_eq_left (hs j ha).2, hx j ha, Ideal.exp_coe]
    · rw [if_neg ha, if_neg ha, mul_zero]; rfl
  have hL : (∑ j, wt (s j) (a j)) = ((∑ j, if a j then Real.exp (x j) else 0 : ℝ) : EReal) := by
    rw [coe_sum]; exact Finset.sum_congr rfl fun j _ => hw j
  unfold ratio
  rw [hL]
  haveI : Nonempty (Fin n) := ⟨⟨0, hn⟩⟩
  by_cases hany : ∃ j, a j
  · -- some key is allowed: the maximum is the score of an allowed key
    obtain ⟨j0, hj0⟩ := hany
    have hpos : 0 < ∑ j, (if a j then Real.exp (x j) else 0) :=
      Finset.sum_pos' (fun j _ => by split <;> positivity) ⟨j0, Finset.mem_univ _, by rw [if_pos hj0]; positivity⟩
    rw [if_pos (by exact_mod_cast hpos), Ideal.div_coe hpos.ne', sum_mul_coe _ _ (one_div_nonneg.mpr hpos.le)]
    have hm : ∀ j, masked s a j = if a j then ((x j : ℝ) : EReal) else ⊥ := fun j => by
      have hex : ∃ j, a j := ⟨j0, hj0⟩
      unfold masked; rw [if_pos hex]
      by_cases ha : a j
      · rw [if_pos ha, if_pos ha, hx j ha]
      · rw [if_neg ha, if_neg ha]
    obtain ⟨j1, -, hj1⟩ := Finset.exists_mem_eq_sup Finset.univ Finset.univ_nonempty (masked s a)
    have hM : ∃ M : ℝ, Finset.univ.sup (masked s a) = (M : EReal) := by
      by_cases h1 : a j1
      · exact ⟨x j1, by rw [hj1, hm, if_pos h1]⟩
      · exfalso
        have h2 : masked s a j0 ≤ Finset.univ.sup (masked s a) := Finset.le_sup (Finset.mem_univ _)
        rw [hj1, hm, hm, if_pos hj0, if_neg h1, le_bot_iff] at h2
        exact EReal.coe_ne_bot _ h2
    obtain ⟨M, hM⟩ := hM
    have he : ∀ j, Ideal.exp (masked s a j - Finset.univ.sup (masked s a))
        = (((if a j then Real.exp (x j) else 0) * Real.exp (-M) : ℝ) : EReal) := fun j => by
      rw [hM, hm]
      by_cases h1 : a j
      · rw [if_pos h1, if_pos h1, ← EReal.coe_sub, Ideal.exp_coe, sub_eq_add_neg, Real.exp_add]
      · rw [if_neg h1, if_neg h1, EReal.bot_sub, Ideal.exp_bot, zero_mul]; rfl
    unfold softmax
    have hS : (∑ k, Ideal.exp (masked s a k - Finset.univ.sup (masked s a)))
        = (((∑ j, if a j then Real.exp (x j) else 0) * Real.exp (-M) : ℝ) : EReal) := by
      rw [Finset.sum_mul, coe_sum]; exact Finset.sum_congr rfl fun j _ => he j
    have hE : Real.exp (-M) ≠ 0 := (Real.exp_pos _).ne'
    rw [hS]
    refine Finset.sum_congr rfl fun j _ => ?_
    rw [he j, hw j, Ideal.div_coe (mul_ne_zero hpos.ne' hE), mul_right_comm, ← EReal.coe_mul, ← EReal.coe_mul]
    congr 2
    field_simp
  · -- every key is hidden: every score is zero
    have hall : ∀ j, ¬ a j := fun j hj => hany ⟨j, hj⟩
    have hL0 : (∑ j, (if a j then Real.exp (x j) else 0)) = 0 := Finset.sum_eq_zero fun j _ => if_neg (hall j)
    rw [hL0, if_neg (by norm_cast)]
    have hm : masked s a = fun _ => ((0 : ℝ) : EReal) := funext fun j => by
      unfold masked; rw [if_neg (hall j), if_neg hany, EReal.coe_zero]
    unfold softmax
    rw [hm, Finset.sup_const Finset.univ_nonempty]
    have h0 : Ideal.exp (((0 : ℝ) : EReal) - ((0 : ℝ) : EReal)) = ((1 : ℝ) : EReal) := by
      rw [← EReal.coe_sub, sub_zero, Ideal.exp_coe, Real.exp_zero]
    have hn' : (n : ℝ) ≠ 0 := by exact_mod_cast hn.ne'
    simp only [h0]
    rw [← coe_sum, Finset.sum_const, Finset.card_univ, Fintype.card_fin, nsmul_eq_mul, mul_one, hvm,
      sum_mul_coe _ _ (by positivity)]
    refine Finset.sum_congr rfl fun j _ => ?_
    rw [Ideal.div_coe hn', EReal.coe_one, one_mul, mul_comm]

end Cert.Spec

end
-- ==== Proof.Step.lean ====
/-
  The building blocks of the attention body of the kernel, each read at an index: the pass over one chunk of 128 keys, the
  block-diagonal query matrix, the masks, and the part after the attention.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Val

open Idealize.ShloMosaic Idealize.SL.Sem Cert.KernelIdeal Cert.KernelIdeal.Gen Cert.Spec
open scoped BigOperators

variable {F : FTy → Type} [FloatOps F] [Named F]

/-! ## Reading a window of a two-axis array -/

theorem ld2 {n0 n1 m0 m1 o0 o1 : ℕ} {α : EltTy → Type} {e : EltTy} (X : (⟨2, ![n0, n1]⟩ : Shape).Idx → α e)
    (inb : ∀ a, (![o0, o1] : Fin 2 → ℕ) a + (![m0, m1] : Fin 2 → ℕ) a ≤ (⟨2, ![n0, n1]⟩ : Shape).size a) (i : Fin m0) (j : Fin m1) :
    View.ld (Val := α) X (Rect.unit (s := ⟨2, ![n0, n1]⟩) ![o0, o1] ![m0, m1] inb) (ix2 i j)
      = X (ix2 (⟨o0 + i.val, lt_of_lt_of_le (Nat.add_lt_add_left i.isLt _) (inb 0)⟩ : Fin n0)
          (⟨o1 + j.val, lt_of_lt_of_le (Nat.add_lt_add_left j.isLt _) (inb 1)⟩ : Fin n1)) := by
  refine congrArg X (funext fun a => Fin.ext ?_)
  match a with
  | ⟨0, _⟩ => show o0 + 1 * i.val = o0 + i.val; omega
  | ⟨1, _⟩ => show o1 + 1 * j.val = o1 + j.val; omega

/-! ## One chunk of keys -/

/-- The exponentials of one chunk's clamped scores, the heads' query blocks below one another. -/
def expo (q : FVec F S2048x128 .bf16) (kc : Vec F S128x128 .bf16) : FVec F S2048x128 .bf16 :=
  exp (minimumf (truncf .bf16 (matmul dot_S2048x128_S128x128_S2048x128_1_1_0_0_n_n none q
    (shapeCast S128x128 kc shapeCasts_S128x128_S128x128) (constant S2048x128 .f32 0x00000000#32)) bitsLt_bf16_f32)
    (broadcast S2048x128 (Scalar.ofBits .bf16 0x42A0#16)))

/-- The masked exponentials, the heads side by side. -/
def sideBySide (e : FVec F S2048x128 .bf16) (mc : FVec F S512x128 .bf16) : FVec F S512x512 .bf16 :=
  concatenate S512x512 1
    [⟨S512x128, mulf (extractStridedSlice S512x128 ![0, 0] e slices_S2048x128_o0_0_S512x128) mc⟩,
     ⟨S512x128, mulf (extractStridedSlice S512x128 ![512, 0] e slices_S2048x128_o512_0_S512x128) mc⟩,
     ⟨S512x128, mulf (extractStridedSlice S512x128 ![1024, 0] e slices_S2048x128_o1024_0_S512x128) mc⟩,
     ⟨S512x128, mulf (extractStridedSlice S512x128 ![1536, 0] e slices_S2048x128_o1536_0_S512x128) mc⟩]
    concatenates_S512x128_S512x128_S512x128_S512x128_S512x512_d1

/-- One chunk added to the running sums. -/
def step (q : FVec F S2048x128 .bf16) (acc : FVec F S512x256 .f32) (kc : Vec F S128x128 .bf16) (vc : Vec F S512x256 .bf16)
    (mc : FVec F S512x128 .bf16) : FVec F S512x256 .f32 :=
  addf acc (matmul dot_S512x512_S512x256_S512x256_1_0_0_1_n_n none (sideBySide (expo q kc) mc)
    (shapeCast S512x256 vc shapeCasts_S512x256_S512x256) (constant S512x256 .f32 0x00000000#32))

theorem expo_apply (q : FVec Ideal S2048x128 .bf16) (kc : Vec Ideal S128x128 .bf16) (i : Fin 2048) (j : Fin 128) :
    expo q kc (ix2 i j) = Ideal.exp (min (∑ d : Fin 128, q (ix2 i d) * kc (ix2 j d)) (Ideal.ofBits .bf16 0x42A0#16)) := by
  pointwise [expo]

theorem sideBySide_apply (e : FVec Ideal S2048x128 .bf16) (mc : FVec Ideal S512x128 .bf16) (r : Fin 512) (h : Fin 4) (j : Fin 128) :
    sideBySide e mc (ix2 r (⟨128 * h.val + j.val, by omega⟩ : Fin 512))
      = e (ix2 (⟨512 * h.val + r.val, by omega⟩ : Fin 2048) j) * mc (ix2 r j) := by
  obtain ⟨h, hh⟩ := h
  interval_cases h
  · pointwise [sideBySide]
  · pointwise [sideBySide]
  · pointwise [sideBySide]
    rw [dif_neg (by omega), dif_neg (by omega), dif_pos (by omega)]
    congr <;> omega
  · pointwise [sideBySide]
    rw [dif_neg (by omega), dif_neg (by omega), dif_neg (by omega)]
    congr <;> omega

theorem step_apply (q : FVec Ideal S2048x128 .bf16) (acc : FVec Ideal S512x256 .f32) (kc : Vec Ideal S128x128 .bf16)
    (vc : Vec Ideal S512x256 .bf16) (mc : FVec Ideal S512x128 .bf16) (r : Fin 512) (l : Fin 256) :
    step q acc kc vc mc (ix2 r l) = acc (ix2 r l) + ∑ t : Fin 512, sideBySide (expo q kc) mc (ix2 r t) * vc (ix2 t l) := by
  pointwise [step]

/-! ## Which head a lane belongs to -/

theorem lanes0 : ∀ j : Fin 128, IntOp.andi (IntOp.cmpi CmpIPredicate.sge (BitVec.ofNat 32 j.val) 0#32)
    (IntOp.cmpi CmpIPredicate.slt (BitVec.ofNat 32 j.val) 32#32) = if head j = 0 then 1#1 else 0#1 := by decide +kernel
theorem lanes1 : ∀ j : Fin 128, IntOp.andi (IntOp.cmpi CmpIPredicate.sge (BitVec.ofNat 32 j.val) 32#32)
    (IntOp.cmpi CmpIPredicate.slt (BitVec.ofNat 32 j.val) 64#32) = if head j = 1 then 1#1 else 0#1 := by decide +kernel
theorem lanes2 : ∀ j : Fin 128, IntOp.andi (IntOp.cmpi CmpIPredicate.sge (BitVec.ofNat 32 j.val) 64#32)
    (IntOp.cmpi CmpIPredicate.slt (BitVec.ofNat 32 j.val) 96#32) = if head j = 2 then 1#1 else 0#1 := by decide +kernel
theorem lanes3 : ∀ j : Fin 128, IntOp.andi (IntOp.cmpi CmpIPredicate.sge (BitVec.ofNat 32 j.val) 96#32)
    (IntOp.cmpi CmpIPredicate.slt (BitVec.ofNat 32 j.val) 128#32) = if head j = 3 then 1#1 else 0#1 := by decide +kernel

theorem select_ite {α : Type} (p : Prop) [Decidable p] (x y : α) :
    Scalar.select (if p then 1#1 else 0#1) x y = if p then x else y := by
  split <;> rfl

/-- The two masks, converted to a float. -/
theorem mask_float (a b : BitVec 32) :
    (FloatOps.sitofp .f32 (BitVec.setWidth 32 (IntOp.andi (IntOp.cmpi CmpIPredicate.ne a 0#32) (IntOp.cmpi CmpIPredicate.ne b 0#32)))
      : Ideal .f32) = if a ≠ 0#32 ∧ b ≠ 0#32 then 1 else 0 := by
  have h0 : (FloatOps.sitofp .f32 (0#32) : Ideal .f32) = 0 := by
    show (((0#32).toInt : ℝ) : EReal) = 0
    norm_num
  have h1 : (FloatOps.sitofp .f32 (1#32) : Ideal .f32) = 1 := by
    show (((1#32).toInt : ℝ) : EReal) = 1
    norm_num
  have e : ∀ x : BitVec 32, IntOp.cmpi CmpIPredicate.ne x 0#32 = if x = 0#32 then 0#1 else 1#1 := fun x => by
    by_cases h : x = 0#32
    · subst h; rfl
    · rw [if_neg h]
      show BitVec.ofBool (x != 0#32) = 1#1
      rw [bne_iff_ne.mpr h]; rfl
  rw [e, e]
  by_cases ha : a = 0#32 <;> by_cases hb : b = 0#32
  · rw [if_pos ha, if_pos hb, if_neg (fun h : a ≠ 0#32 ∧ b ≠ 0#32 => h.1 ha)]; exact h0
  · rw [if_pos ha, if_neg hb, if_neg (fun h : a ≠ 0#32 ∧ b ≠ 0#32 => h.1 ha)]; exact h0
  · rw [if_neg ha, if_pos hb, if_neg (fun h : a ≠ 0#32 ∧ b ≠ 0#32 => h.2 hb)]; exact h0
  · rw [if_neg ha, if_neg hb, if_pos (⟨ha, hb⟩ : a ≠ 0#32 ∧ b ≠ 0#32)]; exact h1

/-! ## The parts before and after the chunks -/

theorem k2_pay1_apply (v409 : FVec Ideal S512x128 .f32) (v435 : FVec Ideal S512x128 .f32) (v436 : Vec Ideal S128x256 .f32)
    (v439 : Vec Ideal S1x256 .f32) (v456 : Vec Ideal S256x128 .f32) (v460 : Vec Ideal S1x128 .f32) (r : Fin 512) (j : Fin 128) :
    k2_pay1 v409 v435 v436 v439 v456 v460 (ix2 r j)
      = v409 (ix2 r j) + (∑ k : Fin 256, gelu (lin (fun d : Fin 128 => v435 (ix2 r d)) (fun d k => v436 (ix2 d k))
          (fun k => v439 (ix2 0 k)) k) * v456 (ix2 k j)) + v460 (ix2 0 j) := by
  pointwise [k2_pay1, gelu, lin]

theorem k2_pay35_apply (v387 : FVec Ideal S512x128 .f32) (v388 : FVec Ideal S512x128 .f32) (v394 : FVec Ideal S1x128 .f32)
    (z : Ideal .f32) (v401 : Vec Ideal S512x128 .f32) (v402 : Vec Ideal S128x128 .f32) (v406 : Vec Ideal S1x128 .f32)
    (v410 : Vec Ideal S1x128 .f32) (v412 : Vec Ideal S1x128 .f32) (r : Fin 512) (j : Fin 128) :
    k2_pay35 v387 v388 v394 z v401 v402 v406 v410 v412 (ix2 r j)
      = lnRow (fun l => k2_pay34 v387 v388 v394 z v401 v402 v406 (ix2 r l)) (fun l => v410 (ix2 0 l)) (fun l => v412 (ix2 0 l)) j := by
  pointwise [k2_pay35, lnRow, mean]

theorem k2_pay34_apply (v387 : FVec Ideal S512x128 .f32) (v388 : FVec Ideal S512x128 .f32) (v394 : FVec Ideal S1x128 .f32)
    (v401 : Vec Ideal S512x128 .f32) (v402 : Vec Ideal S128x128 .f32) (v406 : Vec Ideal S1x128 .f32) (r : Fin 512) (j : Fin 128) :
    k2_pay34 v387 v388 v394 (Scalar.ofBits .f32 0x00000000#32) v401 v402 v406 (ix2 r j)
      = v401 (ix2 r j) + (∑ k : Fin 128, (if 0 < v388 (ix2 r k) then Ideal.div (v387 (ix2 r k)) (v388 (ix2 r k))
          else v394 (ix2 0 k)) * v402 (ix2 k j)) + v406 (ix2 0 j) := by
  pointwise [k2_pay34]

theorem k2_pay33_apply (v389 : Vec Ideal S8x128 .f32) (j : Fin 128) :
    k2_pay33 v389 (ix2 0 j) = (∑ k : Fin 8, v389 (ix2 k j)) * Ideal.ofBits .f32 0x3A000000#32 := by
  pointwise [k2_pay33]

theorem k2_pay8_apply (v42 : Vec Ideal S512x2048 .i32) (v44 : Vec Ideal S512x2048 .i32) (r : Fin 512) (j : Fin 2048) :
    k2_pay8 v42 v44 (ix2 r j) = if v42 (ix2 r j) ≠ 0#32 ∧ v44 (ix2 r j) ≠ 0#32 then 1 else 0 := by
  pointwise [k2_pay8]
  exact mask_float _ _

theorem k2_pay2_apply (v0 : Vec Ideal S512x128 .f32) (v2 : Vec Ideal S128x128 .f32) (v5 : Vec Ideal S1x128 .f32) (r : Fin 512) (j : Fin 128) :
    k2_pay2 v0 v2 v5 (ix2 r j) = lin (fun d : Fin 128 => v0 (ix2 r d)) (fun d k => v2 (ix2 d k)) (fun k => v5 (ix2 0 k)) j
      * (((Real.sqrt 32)⁻¹ : ℝ) : EReal) := by
  pointwise [k2_pay2, lin]
  rw [IdealRules.named_const.ideal_named_scalar _ _ _ _ rfl]

theorem qbd_apply (v0 : Vec Ideal S512x128 .f32) (v2 : Vec Ideal S128x128 .f32) (v5 : Vec Ideal S1x128 .f32)
    (h : Fin 4) (r : Fin 512) (j : Fin 128) :
    k2_pay7 (k2_pay2 v0 v2 v5) (k2_pay3 v0 v2 v5) (k2_pay4 v0 v2 v5) (k2_pay5 v0 v2 v5) k2_pay6 (Scalar.ofBits .bf16 0x0000#16)
        (ix2 (⟨512 * h.val + r.val, by omega⟩ : Fin 2048) j)
      = if head j = h then k2_pay2 v0 v2 v5 (ix2 r j) else 0 := by
  obtain ⟨h, hh⟩ := h
  interval_cases h
  · pointwise [k2_pay7, k2_pay3]
    rw [lanes0, select_ite]
  · pointwise [k2_pay7, k2_pay4]
    rw [lanes1, select_ite]
  · pointwise [k2_pay7, k2_pay5]
    rw [dif_neg (by omega), dif_neg (by omega), dif_pos (by omega), lanes2, select_ite]
    exact congrArg (fun t : Fin 512 => if head j = 2 then k2_pay2 v0 v2 v5 (ix2 t j) else 0)
      (Fin.ext (show 1024 + r.val - 512 - 512 = r.val by omega))
  · pointwise [k2_pay7, k2_pay6]
    rw [dif_neg (by omega), dif_neg (by omega), dif_neg (by omega), lanes3, select_ite]
    exact congrArg (fun t : Fin 512 => if head j = 3 then k2_pay2 v0 v2 v5 (ix2 t j) else 0)
      (Fin.ext (show 1536 + r.val - 512 - 512 - 512 = r.val by omega))

end Cert.KernelIdeal.Val

end
-- ==== Proof.Nest.lean ====
/-
  The passes over the chunks of keys, one after another, as a recursion over the number of chunks, and their sums read at an
  index: all chunks together are one sum over the keys.
-/
module

public import proofs.«01_k».proof.Proof.Step

@[expose] public section

set_option maxRecDepth 16384

noncomputable section

namespace Cert.KernelIdeal.Val

open Idealize.ShloMosaic Idealize.SL.Sem Cert.KernelIdeal Cert.KernelIdeal.Gen Cert.Spec
open scoped BigOperators

variable {F : FTy → Type} [FloatOps F] [Named F]

/-! ## The chunks of the operands -/

/-- Rows `rows * c` and on of a two-axis array, wrapped around at its end. -/
def rowsAt {n w : ℕ} [NeZero n] {e : EltTy} (rows : ℕ) (X : Vec F ⟨2, ![n, w]⟩ e) (c : ℕ) : Vec F ⟨2, ![rows, w]⟩ e :=
  fun i => X (ix2 (Fin.ofNat n (rows * c + (i 0).val)) (i 1))

/-- Columns `128 * c` and on of a mask, wrapped around at its end. -/
def colsAt {n : ℕ} [NeZero n] (M : FVec F ⟨2, ![512, n]⟩ .bf16) (c : ℕ) : FVec F S512x128 .bf16 :=
  fun i => M (ix2 (i 0) (Fin.ofNat n (128 * c + (i 1).val)))

theorem ld_rowsAt {n w rows : ℕ} [NeZero n] {e : EltTy} (X : Vec F ⟨2, ![n, w]⟩ e) (c : ℕ)
    (inb : ∀ a, (![rows * c, 0] : Fin 2 → ℕ) a + (![rows, w] : Fin 2 → ℕ) a ≤ (⟨2, ![n, w]⟩ : Shape).size a) :
    View.ld (Val := Elt F) X (Rect.unit (s := ⟨2, ![n, w]⟩) ![rows * c, 0] ![rows, w] inb) = rowsAt rows X c := by
  funext i
  refine congrArg X (funext fun a => Fin.ext ?_)
  match a with
  | ⟨0, _⟩ =>
    show rows * c + 1 * (i 0).val = (rows * c + (i 0).val) % n
    have h : rows * c + rows ≤ n := inb 0
    have h' : (i 0).val < rows := (i 0).isLt
    rw [Nat.mod_eq_of_lt (by omega)]; omega
  | ⟨1, _⟩ => show 0 + 1 * (i 1).val = (i 1).val; omega

theorem slice_colsAt {n : ℕ} [NeZero n] (M : FVec F ⟨2, ![512, n]⟩ .bf16) (c : ℕ)
    (h : (⟨2, ![512, n]⟩ : Shape).Slices ![0, 128 * c] S512x128) (hn : 128 * c + 128 ≤ n) :
    extractStridedSlice S512x128 ![0, 128 * c] M h = colsAt M c := by
  funext i
  refine congrArg M (funext fun a => Fin.ext ?_)
  match a with
  | ⟨0, _⟩ => show 0 + (i 0).val = (i 0).val; omega
  | ⟨1, _⟩ =>
    show 128 * c + (i 1).val = (128 * c + (i 1).val) % n
    have h' : (i 1).val < 128 := (i 1).isLt
    rw [Nat.mod_eq_of_lt (by omega)]

theorem off_zero : (![0, 0] : Fin 2 → ℕ) = fun _ => 0 := by decide

theorem ld_zero {n w : ℕ} {e : EltTy} (X : Vec F ⟨2, ![n, w]⟩ e)
    (inb : ∀ a, (![0, 0] : Fin 2 → ℕ) a + (⟨2, ![n, w]⟩ : Shape).size a ≤ (⟨2, ![n, w]⟩ : Shape).size a) :
    View.ld (Val := Elt F) X (Rect.unit (s := ⟨2, ![n, w]⟩) ![0, 0] (⟨2, ![n, w]⟩ : Shape).size inb) = X :=
  View.ld_unit_zero off_zero _ _

/-! ## The chunks one after another -/

/-- The running sums after the first `c` chunks. -/
def nest (q : FVec F S2048x128 .bf16) (kc : ℕ → Vec F S128x128 .bf16) (vc : ℕ → Vec F S512x256 .bf16)
    (mc : ℕ → FVec F S512x128 .bf16) : ℕ → FVec F S512x256 .f32
  | 0 => broadcast S512x256 (Scalar.ofBits .f32 0x00000000#32)
  | c + 1 => step q (nest q kc vc mc c) (kc c) (vc c) (mc c)

theorem nest_step (q : FVec F S2048x128 .bf16) (kc : ℕ → Vec F S128x128 .bf16) (vc : ℕ → Vec F S512x256 .bf16)
    (mc : ℕ → FVec F S512x128 .bf16) {c : ℕ} {acc : FVec F S512x256 .f32} {k : Vec F S128x128 .bf16} {v : Vec F S512x256 .bf16}
    {m : FVec F S512x128 .bf16} (ha : acc = nest q kc vc mc c) (hk : k = kc c) (hv : v = vc c) (hm : m = mc c) :
    step q acc k v m = nest q kc vc mc (c + 1) := by subst ha hk hv hm; rfl

theorem nest_apply (q : FVec Ideal S2048x128 .bf16) (kc : ℕ → Vec Ideal S128x128 .bf16) (vc : ℕ → Vec Ideal S512x256 .bf16)
    (mc : ℕ → FVec Ideal S512x128 .bf16) (N : ℕ) (r : Fin 512) (l : Fin 256) :
    nest q kc vc mc N (ix2 r l)
      = ∑ c ∈ Finset.range N, ∑ t : Fin 512, sideBySide (expo q (kc c)) (mc c) (ix2 r t) * vc c (ix2 t l) := by
  induction N with
  | zero => rw [Finset.range_zero, Finset.sum_empty]; exact Ideal.ofBits_zero FTy.f32
  | succ N ih => rw [Finset.sum_range_succ, ← ih]; exact step_apply _ _ _ _ _ _ _

/-! ## Sums over chunks -/

theorem sum_chunks {n : ℕ} (N w : ℕ) (h : n = w * N) (f : ℕ → EReal) :
    ∑ c ∈ Finset.range N, ∑ j : Fin w, f (w * c + j.val) = ∑ i : Fin n, f i.val := by
  subst h
  rw [← Finset.sum_range]
  induction N with
  | zero => simp
  | succ N ih => rw [Finset.sum_range_succ, ih, Nat.mul_succ, Finset.sum_range_add, ← Finset.sum_range (fun j => f (w * N + j))]

theorem sum_512 (g : Fin 512 → EReal) :
    ∑ t : Fin 512, g t = ∑ h : Fin 4, ∑ j : Fin 128, g (⟨128 * h.val + j.val, by omega⟩ : Fin 512) := by
  have e := sum_chunks (n := 512) 4 128 rfl (fun i => g (Fin.ofNat 512 i))
  rw [Finset.sum_range] at e
  refine Eq.trans (Finset.sum_congr rfl fun t _ => congrArg g (Fin.ext ?_)) (e.symm.trans
    (Finset.sum_congr rfl fun h _ => Finset.sum_congr rfl fun j _ => congrArg g (Fin.ext ?_)))
  · exact (Nat.mod_eq_of_lt t.isLt).symm
  · exact Nat.mod_eq_of_lt (by omega)

/-- The running sums of all chunks at a query and a column: one sum over the keys, once the stacked values hold in head
    `h`'s row of key `j` the value `v j` for the head of the column and zero for the other heads. -/
theorem nest_sum {n n4 N : ℕ} [NeZero n] [NeZero n4] (hn : n = 128 * N) (hn4 : n4 = 512 * N)
    (q : FVec Ideal S2048x128 .bf16) (x2 : Vec Ideal ⟨2, ![n, 128]⟩ .bf16) (x3 : Vec Ideal ⟨2, ![n4, 256]⟩ .bf16)
    (M : FVec Ideal ⟨2, ![512, n]⟩ .bf16) (r : Fin 512) (l : Fin 256) (h0 : Fin 4) (v : Fin n → EReal)
    (a : Fin n → Prop) [DecidablePred a] (qr : Fin 128 → EReal) (sc : EReal)
    (hM : ∀ j, M (ix2 r j) = if a j then 1 else 0)
    (hq : ∀ (h : Fin 4) (j : Fin 128), q (ix2 (⟨512 * h.val + r.val, by omega⟩ : Fin 2048) j) = if head j = h then qr j * sc else 0)
    (hv : ∀ (c : ℕ) (hc : c < N) (h : Fin 4) (j : Fin 128),
      x3 (ix2 (⟨512 * c + (128 * h.val + j.val), by omega⟩ : Fin n4) l)
        = if h = h0 then v ⟨128 * c + j.val, by omega⟩ else 0) :
    nest q (rowsAt (n := n) 128 x2) (rowsAt (n := n4) 512 x3) (colsAt M) N (ix2 r l)
      = ∑ j : Fin n, wt (kscore sc qr (fun d => x2 (ix2 j d)) h0) (a j) * v j := by
  have e := sum_chunks N 128 hn (fun i => wt (kscore sc qr (fun d => x2 (ix2 (Fin.ofNat n i) d)) h0) (a (Fin.ofNat n i))
    * v (Fin.ofNat n i))
  have e1 : ∀ j : Fin n, Fin.ofNat n j.val = j := fun j => Fin.ext (Nat.mod_eq_of_lt j.isLt)
  simp only [e1] at e
  rw [nest_apply, ← e]
  refine Finset.sum_congr rfl fun c hc => ?_
  have hc : c < N := Finset.mem_range.mp hc
  rw [sum_512]
  have hT : ∀ (h : Fin 4) (j : Fin 128), sideBySide (expo q (rowsAt (n := n) 128 x2 c)) (colsAt M c)
        (ix2 r (⟨128 * h.val + j.val, by omega⟩ : Fin 512))
        * rowsAt (n := n4) 512 x3 c (ix2 (⟨128 * h.val + j.val, by omega⟩ : Fin 512) l)
      = if h = h0 then wt (kscore sc qr (fun d => x2 (ix2 (Fin.ofNat n (128 * c + j.val)) d)) h0)
          (a (Fin.ofNat n (128 * c + j.val))) * v (Fin.ofNat n (128 * c + j.val)) else 0 := by
    intro h j
    have e3 : rowsAt (n := n4) 512 x3 c (ix2 (⟨128 * h.val + j.val, by omega⟩ : Fin 512) l)
        = x3 (ix2 (⟨512 * c + (128 * h.val + j.val), by omega⟩ : Fin n4) l) :=
      congrArg (fun t : Fin n4 => x3 (ix2 t l)) (Fin.ext (Nat.mod_eq_of_lt (by
        show 512 * c + (128 * h.val + j.val) < n4; omega)))
    have ej : Fin.ofNat n (128 * c + j.val) = (⟨128 * c + j.val, by omega⟩ : Fin n) :=
      Fin.ext (Nat.mod_eq_of_lt (by omega))
    rw [e3, hv c hc h j]
    split
    · next hh =>
      subst hh
      rw [sideBySide_apply, expo_apply, ej]
      have e4 : colsAt M c (ix2 r j) = if a ⟨128 * c + j.val, by omega⟩ then 1 else 0 := by
        rw [← hM, ← ej]; rfl
      have e5 : ∀ d, rowsAt (n := n) 128 x2 c (ix2 j d) = x2 (ix2 (⟨128 * c + j.val, by omega⟩ : Fin n) d) := fun d => by
        rw [← ej]; rfl
      rw [e4]
      simp only [hq, e5]
      rfl
    · exact mul_zero _
  simp only [hT]
  rw [Finset.sum_comm]
  refine Finset.sum_congr rfl fun j _ => ?_
  rw [Finset.sum_ite_eq' Finset.univ h0, if_pos (Finset.mem_univ _)]

/-! ## The attention and what follows it, from the running sums -/

/-- The block-diagonal query matrix: row `512 * h + r` is query `r`, scaled and cut to the features of head `h`. -/
def qbd (x1 : Vec F S512x128 .f32) (x7 : Vec F S128x128 .f32) (x8 : Vec F S1x128 .f32) : FVec F S2048x128 .bf16 :=
  k2_pay7 (k2_pay2 x1 x7 x8) (k2_pay3 x1 x7 x8) (k2_pay4 x1 x7 x8) (k2_pay5 x1 x7 x8) k2_pay6 (Scalar.ofBits .bf16 0x0000#16)

/-- The block of results from the running sums `acc` and the mean value row `vm`. -/
def attnOut (acc : FVec F S512x256 .f32) (vm : FVec F S1x128 .f32) (x0 : Vec F S512x128 .f32) (x9 : Vec F S128x128 .f32)
    (x10 x11 x12 : Vec F S1x128 .f32) (x13 : Vec F S128x256 .f32) (x14 : Vec F S1x256 .f32) (x15 : Vec F S256x128 .f32)
    (x16 : Vec F S1x128 .f32) : FVec F S512x128 .f32 :=
  k2_pay1
    (k2_pay34 (extractStridedSlice S512x128 ![0, 0] acc slices_S512x256_o0_0_S512x128)
      (extractStridedSlice S512x128 ![0, 128] acc slices_S512x256_o0_128_S512x128) vm (Scalar.ofBits .f32 0x00000000#32) x0 x9 x10)
    (k2_pay35 (extractStridedSlice S512x128 ![0, 0] acc slices_S512x256_o0_0_S512x128)
      (extractStridedSlice S512x128 ![0, 128] acc slices_S512x256_o0_128_S512x128) vm (Scalar.ofBits .f32 0x00000000#32) x0 x9 x10
      x11 x12) x13 x14 x15 x16

theorem slice_lo (acc : FVec Ideal S512x256 .f32) (r : Fin 512) (k : Fin 128) :
    extractStridedSlice S512x128 ![0, 0] acc slices_S512x256_o0_0_S512x128 (ix2 r k)
      = acc (ix2 r (⟨k.val, by omega⟩ : Fin 256)) := by
  pointwise
theorem slice_hi (acc : FVec Ideal S512x256 .f32) (r : Fin 512) (k : Fin 128) :
    extractStridedSlice S512x128 ![0, 128] acc slices_S512x256_o0_128_S512x128 (ix2 r k)
      = acc (ix2 r (⟨128 + k.val, by omega⟩ : Fin 256)) := by
  pointwise

theorem attnOut_apply (acc : FVec Ideal S512x256 .f32) (vm : FVec Ideal S1x128 .f32) (x0 : Vec Ideal S512x128 .f32)
    (x9 : Vec Ideal S128x128 .f32) (x10 x11 x12 : Vec Ideal S1x128 .f32) (x13 : Vec Ideal S128x256 .f32)
    (x14 : Vec Ideal S1x256 .f32) (x15 : Vec Ideal S256x128 .f32) (x16 : Vec Ideal S1x128 .f32) (r : Fin 512) (j : Fin 128) :
    attnOut acc vm x0 x9 x10 x11 x12 x13 x14 x15 x16 (ix2 r j)
      = post (fun l => x0 (ix2 r l))
          (fun k => if 0 < acc (ix2 r (⟨128 + k.val, by omega⟩ : Fin 256))
            then Ideal.div (acc (ix2 r (⟨k.val, by omega⟩ : Fin 256))) (acc (ix2 r (⟨128 + k.val, by omega⟩ : Fin 256)))
            else vm (ix2 0 k))
          (fun d k => x9 (ix2 d k)) (fun k => x10 (ix2 0 k)) (fun k => x11 (ix2 0 k)) (fun k => x12 (ix2 0 k))
          (fun d k => x13 (ix2 d k)) (fun k => x14 (ix2 0 k)) (fun d k => x15 (ix2 d k)) (fun k => x16 (ix2 0 k)) j := by
  unfold attnOut
  rw [k2_pay1_apply]
  simp only [k2_pay35_apply, k2_pay34_apply, slice_lo, slice_hi]
  rfl

/-- The block of results as rows of mathematics, once the running sums are those of `n` keys with values `v`, allowed keys `a`,
    and stacked values laid out head by head. -/
theorem attnOut_nest {n n4 N : ℕ} [NeZero n] [NeZero n4] (hn : n = 128 * N) (hn4 : n4 = 512 * N)
    (x0 x1 : Vec Ideal S512x128 .f32) (x2 : Vec Ideal ⟨2, ![n, 128]⟩ .bf16) (x3 : Vec Ideal ⟨2, ![n4, 256]⟩ .bf16)
    (M : FVec Ideal ⟨2, ![512, n]⟩ .bf16) (vm : FVec Ideal S1x128 .f32) (x7 : Vec Ideal S128x128 .f32) (x8 : Vec Ideal S1x128 .f32)
    (x9 : Vec Ideal S128x128 .f32) (x10 x11 x12 : Vec Ideal S1x128 .f32) (x13 : Vec Ideal S128x256 .f32)
    (x14 : Vec Ideal S1x256 .f32) (x15 : Vec Ideal S256x128 .f32) (x16 : Vec Ideal S1x128 .f32) (r : Fin 512) (j : Fin 128)
    (v : Fin n → Fin 128 → EReal) (a : Fin n → Prop) [DecidablePred a]
    (hM : ∀ i, M (ix2 r i) = if a i then 1 else 0)
    (hv : ∀ (c : ℕ) (hc : c < N) (h : Fin 4) (i : Fin 128) (l : Fin 128),
      x3 (ix2 (⟨512 * c + (128 * h.val + i.val), by omega⟩ : Fin n4) (⟨l.val, by omega⟩ : Fin 256))
        = if h = head l then v ⟨128 * c + i.val, by omega⟩ l else 0)
    (ho : ∀ (c : ℕ) (hc : c < N) (h : Fin 4) (i : Fin 128) (l : Fin 128),
      x3 (ix2 (⟨512 * c + (128 * h.val + i.val), by omega⟩ : Fin n4) (⟨128 + l.val, by omega⟩ : Fin 256))
        = if h = head l then 1 else 0) :
    attnOut (nest (qbd x1 x7 x8) (rowsAt (n := n) 128 x2) (rowsAt (n := n4) 512 x3) (colsAt M) N) vm
        x0 x9 x10 x11 x12 x13 x14 x15 x16 (ix2 r j)
      = post (fun l => x0 (ix2 r l))
          (fun k => ratio (fun i => kscore (((Real.sqrt 32)⁻¹ : ℝ) : EReal)
              (lin (fun d => x1 (ix2 r d)) (fun d l => x7 (ix2 d l)) (fun l => x8 (ix2 0 l))) (fun d => x2 (ix2 i d)) (head k))
            (fun i => v i k) a (vm (ix2 0 k)))
          (fun d k => x9 (ix2 d k)) (fun k => x10 (ix2 0 k)) (fun k => x11 (ix2 0 k)) (fun k => x12 (ix2 0 k))
          (fun d k => x13 (ix2 d k)) (fun k => x14 (ix2 0 k)) (fun d k => x15 (ix2 d k)) (fun k => x16 (ix2 0 k)) j := by
  rw [attnOut_apply]
  congr 1
  funext k
  have hq : ∀ (h : Fin 4) (i : Fin 128), qbd x1 x7 x8 (ix2 (⟨512 * h.val + r.val, by omega⟩ : Fin 2048) i)
      = if head i = h then lin (fun d => x1 (ix2 r d)) (fun d l => x7 (ix2 d l)) (fun l => x8 (ix2 0 l)) i
          * (((Real.sqrt 32)⁻¹ : ℝ) : EReal) else 0 := fun h i => by
    unfold qbd; rw [qbd_apply, k2_pay2_apply]
  rw [nest_sum hn hn4 _ x2 x3 M r (⟨k.val, by omega⟩ : Fin 256) (head k) (fun i => v i k) a _ _ hM hq (fun c hc h i => hv c hc h i k),
    nest_sum hn hn4 _ x2 x3 M r (⟨128 + k.val, by omega⟩ : Fin 256) (head k) (fun _ => 1) a _ _ hM hq (fun c hc h i => ho c hc h i k)]
  simp only [mul_one]
  rfl

end Cert.KernelIdeal.Val

end
-- ==== Proof.NkvPay.lean ====
/-
  The values the key and value call computes on one block of 512 rows, each read at an index: the normalised rows, the keys,
  the values, the values laid out head by head beside the head's indicator columns, and the sums of the values.
-/
module

public import proofs.«01_k».proof.Proof.Nest

@[expose] public section

set_option maxRecDepth 16384

noncomputable section

namespace Cert.KernelIdeal.Val

open Idealize.ShloMosaic Idealize.SL.Sem Cert.KernelIdeal Cert.KernelIdeal.Gen Cert.Spec
open scoped BigOperators

variable {F : FTy → Type} [FloatOps F] [Named F]

/-! ## The rows, the keys, the values -/

theorem k0_pay3_apply (x0 : Vec Ideal S512x128 .f32) (x1 x2 : Vec Ideal S1x128 .f32) (r : Fin 512) (j : Fin 128) :
    k0_pay3 x0 x1 x2 (ix2 r j)
      = lnRow (fun k => x0 (ix2 r k)) (fun k => x1 (ix2 0 k)) (fun k => x2 (ix2 0 k)) j := by
  pointwise [k0_pay3, lnRow, mean]

theorem k0_pay4_apply (x0 : Vec Ideal S512x128 .f32) (x1 x2 : Vec Ideal S1x128 .f32) (x3 : Vec Ideal S128x128 .f32)
    (x4 : Vec Ideal S1x128 .f32) (r : Fin 512) (j : Fin 128) :
    k0_pay4 x0 x1 x2 x3 x4 (ix2 r j)
      = lin (fun k => k0_pay3 x0 x1 x2 (ix2 r k)) (fun k l => x3 (ix2 k l)) (fun k => x4 (ix2 0 k)) j := by
  pointwise [k0_pay4, lin]

theorem k0_pay5_apply (v : Vec Ideal S512x128 .f32) (x5 : Vec Ideal S128x128 .f32)
    (x6 : Vec Ideal S1x128 .f32) (r : Fin 512) (j : Fin 128) :
    k0_pay5 v x5 x6 (ix2 r j)
      = lin (fun k => v (ix2 r k)) (fun k l => x5 (ix2 k l)) (fun k => x6 (ix2 0 k)) j := by
  pointwise [k0_pay5, lin]

theorem k0_pay35_apply (v : Vec Ideal S512x128 .f32) (a : Fin 8) (j : Fin 128) :
    (k0_pay35 v : FVec Ideal S8x128 .f32) (ix2 a j) = ∑ g : Fin 64, v (ix2 (⟨8 * g.val + a.val, by omega⟩ : Fin 512) j) := by
  pointwise [k0_pay35]
  exact Finset.sum_congr rfl fun g _ => congrArg (fun t : Fin 512 => v (ix2 t j)) (Fin.ext (show g.val * 8 + a.val = 8 * g.val + a.val by omega))

theorem k0_pay2_apply (v : Vec Ideal S8x128 .f32) (w : Vec Ideal S8x128 .f32) (a : Fin 8) (j : Fin 128) :
    (k0_pay2 v w : FVec Ideal S8x128 .f32) (ix2 a j) = w (ix2 a j) + v (ix2 a j) := by
  pointwise [k0_pay2]

theorem k0_pay1_apply (a : Fin 8) (j : Fin 128) : (k0_pay1 : FVec Ideal S8x128 .f32) (ix2 a j) = 0 := by
  pointwise [k0_pay1]

/-! ## The values head by head -/

/-- The lanes from `lo` up to `hi`. -/
def lanesIn (lo hi : BitVec 32) : IVec S128x128 1 :=
  andi (cmpi .sge (iota .tc S128x128 32 [1] iota_S128x128_d1_w32) (broadcast S128x128 lo))
    (cmpi .slt (iota .tc S128x128 32 [1] iota_S128x128_d1_w32) (broadcast S128x128 hi))

/-- One head of one chunk of 128 rows: the values in the head's lanes, and beside them the indicator of these lanes. -/
def headPiece (lo hi : BitVec 32) (w : FVec F S128x128 .f32) : FVec F S1x1x128x256 .bf16 :=
  shapeCast S1x1x128x256 (truncf .bf16 (concatenate S128x256 1
    [⟨S128x128, select (lanesIn lo hi) w (broadcast S128x128 (Scalar.ofBits .f32 0x00000000#32))⟩,
     ⟨S128x128, select (lanesIn lo hi) (broadcast S128x128 (Scalar.ofBits .f32 0x3F800000#32))
        (broadcast S128x128 (Scalar.ofBits .f32 0x00000000#32))⟩]
    concatenates_S128x128_S128x128_S128x256_d1) bitsLt_bf16_f32) shapeCasts_S128x256_S1x1x128x256

theorem headPiece_lo (lo hi : BitVec 32) (h : Fin 4) (hl : ∀ j : Fin 128, IntOp.andi (IntOp.cmpi CmpIPredicate.sge (BitVec.ofNat 32 j.val) lo)
    (IntOp.cmpi CmpIPredicate.slt (BitVec.ofNat 32 j.val) hi) = if head j = h then 1#1 else 0#1)
    (w : FVec Ideal S128x128 .f32) (i : Fin 128) (l : Fin 128) :
    headPiece lo hi w (ix4 0 0 i (⟨l.val, by omega⟩ : Fin 256)) = if head l = h then w (ix2 i l) else 0 := by
  pointwise [headPiece, lanesIn]
  rw [hl, select_ite]

theorem headPiece_hi (lo hi : BitVec 32) (h : Fin 4) (hl : ∀ j : Fin 128, IntOp.andi (IntOp.cmpi CmpIPredicate.sge (BitVec.ofNat 32 j.val) lo)
    (IntOp.cmpi CmpIPredicate.slt (BitVec.ofNat 32 j.val) hi) = if head j = h then 1#1 else 0#1)
    (w : FVec Ideal S128x128 .f32) (i : Fin 128) (l : Fin 128) :
    headPiece lo hi w (ix4 0 0 i (⟨128 + l.val, by omega⟩ : Fin 256)) = if head l = h then 1 else 0 := by
  pointwise [headPiece, lanesIn]
  rw [hl, select_ite]

/-- A block's values head by head: chunk `c` of 128 rows, head `h`, row `i`, lane `j` of 256. -/
def headsOf (v : FVec Ideal S512x128 .f32) : FVec Ideal S4x4x128x256 .bf16 := fun q =>
  if hj : (q 3).val < 128 then
    if (q 3).val / 32 = (q 1).val then v (ix2 (⟨128 * (q 0).val + (q 2).val, by
      have h0 : (q 0).val < 4 := (q 0).isLt
      have h2 : (q 2).val < 128 := (q 2).isLt
      omega⟩ : Fin 512) (⟨(q 3).val, hj⟩ : Fin 128)) else 0
  else if ((q 3).val - 128) / 32 = (q 1).val then 1 else 0

theorem headsOf_lo (v : FVec Ideal S512x128 .f32) (c h : Fin 4) (i l : Fin 128) :
    headsOf v (ix4 c h i (⟨l.val, by omega⟩ : Fin 256))
      = if head l = h then v (ix2 (⟨128 * c.val + i.val, by omega⟩ : Fin 512) l) else 0 := by
  refine (dif_pos (show l.val < 128 from l.isLt)).trans ?_
  exact if_congr (Iff.symm Fin.ext_iff) rfl rfl

theorem headsOf_hi (v : FVec Ideal S512x128 .f32) (c h : Fin 4) (i l : Fin 128) :
    headsOf v (ix4 c h i (⟨128 + l.val, by omega⟩ : Fin 256)) = if head l = h then 1 else 0 := by
  refine (dif_neg (show ¬ 128 + l.val < 128 by omega)).trans ?_
  refine if_congr ?_ rfl rfl
  rw [Fin.ext_iff]
  show (128 + l.val - 128) / 32 = h.val ↔ l.val / 32 = h.val
  rw [Nat.add_sub_cancel_left]

theorem headPiece_emb (lo hi : BitVec 32) (c h : Fin 4) (hl : ∀ j : Fin 128, IntOp.andi (IntOp.cmpi CmpIPredicate.sge (BitVec.ofNat 32 j.val) lo)
    (IntOp.cmpi CmpIPredicate.slt (BitVec.ofNat 32 j.val) hi) = if head j = h then 1#1 else 0#1)
    (v : FVec Ideal S512x128 .f32) (w : FVec Ideal S128x128 .f32)
    (hw : ∀ (i l : Fin 128), w (ix2 i l) = v (ix2 (⟨128 * c.val + i.val, by omega⟩ : Fin 512) l))
    {cn hn : ℕ} (hcn : cn = c.val) (hhn : hn = h.val)
    (inb : ∀ a, (![cn, hn, 0, 0] : Fin 4 → ℕ) a + (![1, 1, 128, 256] : Fin 4 → ℕ) a ≤ S4x4x128x256.size a) (x : S1x1x128x256.Idx) :
    headPiece lo hi w x = headsOf v ((Rect.unit (s := S4x4x128x256) ![cn, hn, 0, 0] ![1, 1, 128, 256] inb).emb x) := by
  subst hcn hhn
  have h0 : x 0 = (0 : Fin 1) := Subsingleton.elim (α := Fin 1) _ _
  have h1 : x 1 = (0 : Fin 1) := Subsingleton.elim (α := Fin 1) _ _
  have hx : x = ix4 (0 : Fin 1) (0 : Fin 1) (x 2 : Fin 128) (x 3 : Fin 256) := funext fun a => by
    match a with
    | ⟨0, _⟩ => exact h0
    | ⟨1, _⟩ => exact h1
    | ⟨2, _⟩ => rfl
    | ⟨3, _⟩ => rfl
  obtain ⟨i, j, rfl⟩ : ∃ (i : Fin 128) (j : Fin 256), x = ix4 (0 : Fin 1) (0 : Fin 1) i j := ⟨_, _, hx⟩
  have e : (Rect.unit (s := S4x4x128x256) ![c.val, h.val, 0, 0] ![1, 1, 128, 256] inb).emb (ix4 (0 : Fin 1) (0 : Fin 1) i j)
      = ix4 c h i j := funext fun a => Fin.ext (by
    match a with
    | ⟨0, _⟩ => show c.val + 1 * 0 = c.val; omega
    | ⟨1, _⟩ => show h.val + 1 * 0 = h.val; omega
    | ⟨2, _⟩ => show 0 + 1 * i.val = i.val; omega
    | ⟨3, _⟩ => show 0 + 1 * j.val = j.val; omega)
  rw [e]
  by_cases hj : j.val < 128
  · obtain ⟨l, hjl⟩ : ∃ l : Fin 128, j = (⟨l.val, by omega⟩ : Fin 256) := ⟨⟨j.val, hj⟩, rfl⟩
    rw [hjl, headPiece_lo lo hi h hl, headsOf_lo, hw]
  · obtain ⟨l, hjl⟩ : ∃ l : Fin 128, j = (⟨128 + l.val, by omega⟩ : Fin 256) :=
      ⟨⟨j.val - 128, by omega⟩, Fin.ext (show j.val = 128 + (j.val - 128) by omega)⟩
    rw [hjl, headPiece_hi lo hi h hl, headsOf_hi]

theorem chunk0 (v : FVec Ideal S512x128 .f32) (i l : Fin 128) :
    extractStridedSlice S128x128 ![0, 0] v slices_S512x128_o0_0_S128x128 (ix2 i l)
      = v (ix2 (⟨128 * (0 : Fin 4).val + i.val, by show 128 * 0 + i.val < 512; omega⟩ : Fin 512) l) := by
  pointwise []

theorem chunk1 (v : FVec Ideal S512x128 .f32) (i l : Fin 128) :
    extractStridedSlice S128x128 ![128, 0] v slices_S512x128_o128_0_S128x128 (ix2 i l)
      = v (ix2 (⟨128 * (1 : Fin 4).val + i.val, by show 128 * 1 + i.val < 512; omega⟩ : Fin 512) l) := by
  pointwise []

theorem chunk2 (v : FVec Ideal S512x128 .f32) (i l : Fin 128) :
    extractStridedSlice S128x128 ![256, 0] v slices_S512x128_o256_0_S128x128 (ix2 i l)
      = v (ix2 (⟨128 * (2 : Fin 4).val + i.val, by show 128 * 2 + i.val < 512; omega⟩ : Fin 512) l) := by
  pointwise []

theorem chunk3 (v : FVec Ideal S512x128 .f32) (i l : Fin 128) :
    extractStridedSlice S128x128 ![384, 0] v slices_S512x128_o384_0_S128x128 (ix2 i l)
      = v (ix2 (⟨128 * (3 : Fin 4).val + i.val, by show 128 * 3 + i.val < 512; omega⟩ : Fin 512) l) := by
  pointwise []

/-! ## Whole-block loads -/

theorem ld_rows (X : Vec F S512x128 .f32) (inb) :
    View.ld (Val := Elt F) X (Rect.unit (s := S512x128) ![0, 0] ![512, 128] inb) = X := ld_zero _ _
theorem ld_vec (X : Vec F S1x128 .f32) (inb) :
    View.ld (Val := Elt F) X (Rect.unit (s := S1x128) ![0, 0] ![1, 128] inb) = X := ld_zero _ _
theorem ld_mat (X : Vec F S128x128 .f32) (inb) :
    View.ld (Val := Elt F) X (Rect.unit (s := S128x128) ![0, 0] ![128, 128] inb) = X := ld_zero _ _
theorem ld_sums (X : Vec F S8x128 .f32) (inb) :
    View.ld (Val := Elt F) X (Rect.unit (s := S8x128) ![0, 0] ![8, 128] inb) = X := ld_zero _ _

end Cert.KernelIdeal.Val

end
-- ==== Proof.Arr.lean ====
/-
  The arrays the key and value calls hand over, as functions of their rows: normalised rows, dense layers of rows, the values
  head by head, and the sums of the values over every eighth row.
-/
module

public import proofs.«01_k».proof.Proof.NkvPay

@[expose] public section

set_option maxRecDepth 16384

noncomputable section

namespace Cert.Spec

open Idealize.ShloMosaic
open scoped BigOperators

/-- Every row layer-normalised. -/
def lnArr {n : ℕ} (X : (⟨2, ![n, 128]⟩ : Shape).Idx → EReal) (g b : (⟨2, ![1, 128]⟩ : Shape).Idx → EReal) :
    (⟨2, ![n, 128]⟩ : Shape).Idx → EReal := fun i =>
  lnRow (fun k => X (ix2 (i 0 : Fin n) k)) (fun k => g (ix2 (0 : Fin 1) k)) (fun k => b (ix2 (0 : Fin 1) k)) (i 1)
/-- A dense layer of every row. -/
def linArr {n : ℕ} (X : (⟨2, ![n, 128]⟩ : Shape).Idx → EReal) (W : (⟨2, ![128, 128]⟩ : Shape).Idx → EReal)
    (b : (⟨2, ![1, 128]⟩ : Shape).Idx → EReal) : (⟨2, ![n, 128]⟩ : Shape).Idx → EReal := fun i =>
  lin (fun k => X (ix2 (i 0 : Fin n) k)) (fun k l => W (ix2 k l)) (fun k => b (ix2 (0 : Fin 1) k)) (i 1)
/-- The values head by head: chunk of 128 rows, head, row of the chunk, and 256 lanes, the values in the head's lanes and then
    the indicator of the head's lanes. -/
def headsArr {n C : ℕ} [NeZero n] (v : (⟨2, ![n, 128]⟩ : Shape).Idx → EReal) : (⟨4, ![C, 4, 128, 256]⟩ : Shape).Idx → EReal := fun q =>
  if hj : (q 3).val < 128 then
    if (q 3).val / 32 = (q 1).val then v (ix2 (Fin.ofNat n (128 * (q 0).val + (q 2).val)) (⟨(q 3).val, hj⟩ : Fin 128)) else 0
  else if ((q 3).val - 128) / 32 = (q 1).val then 1 else 0
/-- A block's values head by head are the whole array's, read from the block's first chunk on. -/
theorem headsOf_eq_headsArr {n C : ℕ} [NeZero n] (v : FVec Ideal ⟨2, ![512, 128]⟩ .f32) (w : (⟨2, ![n, 128]⟩ : Shape).Idx → EReal)
    (q0 q1 : Fin 4) (q2 : Fin 128) (q3 : Fin 256) (Q0 : Fin C)
    (h : ∀ j : Fin 128, v (ix2 (⟨128 * q0.val + q2.val, by omega⟩ : Fin 512) j) = w (ix2 (Fin.ofNat n (128 * Q0.val + q2.val)) j)) :
    Cert.KernelIdeal.Val.headsOf v (ix4 q0 q1 q2 q3) = headsArr w (ix4 Q0 q1 q2 q3) :=
  dite_congr rfl (fun hj => if_congr Iff.rfl (h _) rfl) fun _ => rfl
/-- The sums of the values over the first `8 * G` rows, by the row's remainder by 8. -/
def sumsArr {n : ℕ} [NeZero n] (G : ℕ) (v : (⟨2, ![n, 128]⟩ : Shape).Idx → EReal) : (⟨2, ![8, 128]⟩ : Shape).Idx → EReal := fun q =>
  ∑ g ∈ Finset.range G, v (ix2 (Fin.ofNat n (8 * g + (q 0).val)) (q 1 : Fin 128))

end Cert.Spec

end
-- ==== Proof.Att.lean ====
/-
  What the attention calls compute, as arrays: attention from normalised rows, keys, values, sums of values and masks, and what
  follows it.
-/
module

public import proofs.«01_k».proof.Proof.Arr

@[expose] public section

set_option maxRecDepth 16384

noncomputable section

namespace Cert.Spec

open Idealize.ShloMosaic
open scoped BigOperators

/-- The attention layer on every row: the queries come from the normalised rows `NX`, `K` and `VV` are the keys and values of the
    other sequence, `vs` the partial sums of its values, `w` one over their number, `A1` and `A2` the masks. -/
def attArr {m n : ℕ} (X NX : (⟨2, ![m, 128]⟩ : Shape).Idx → EReal) (K VV : (⟨2, ![n, 128]⟩ : Shape).Idx → EReal)
    (vs : (⟨2, ![8, 128]⟩ : Shape).Idx → EReal) (w : EReal) (A1 A2 : (⟨2, ![m, n]⟩ : Shape).Idx → BitVec 32)
    (Wq : (⟨2, ![128, 128]⟩ : Shape).Idx → EReal) (bq : (⟨2, ![1, 128]⟩ : Shape).Idx → EReal)
    (Wo : (⟨2, ![128, 128]⟩ : Shape).Idx → EReal) (bo g b : (⟨2, ![1, 128]⟩ : Shape).Idx → EReal)
    (W1 : (⟨2, ![128, 256]⟩ : Shape).Idx → EReal) (b1 : (⟨2, ![1, 256]⟩ : Shape).Idx → EReal)
    (W2 : (⟨2, ![256, 128]⟩ : Shape).Idx → EReal) (b2 : (⟨2, ![1, 128]⟩ : Shape).Idx → EReal) :
    (⟨2, ![m, 128]⟩ : Shape).Idx → EReal := fun i =>
  post (fun l => X (ix2 (i 0 : Fin m) l))
    (fun k => ratio (fun j => kscore (((Real.sqrt 32)⁻¹ : ℝ) : EReal)
        (lin (fun d => NX (ix2 (i 0 : Fin m) d)) (fun d l => Wq (ix2 d l)) (fun l => bq (ix2 (0 : Fin 1) l))) (fun d => K (ix2 j d)) (head k))
      (fun j => VV (ix2 j k)) (fun j => A1 (ix2 (i 0 : Fin m) j) ≠ 0#32 ∧ A2 (ix2 (i 0 : Fin m) j) ≠ 0#32)
      ((∑ a : Fin 8, vs (ix2 a k)) * w))
    (fun d k => Wo (ix2 d k)) (fun k => bo (ix2 (0 : Fin 1) k)) (fun k => g (ix2 (0 : Fin 1) k)) (fun k => b (ix2 (0 : Fin 1) k))
    (fun d k => W1 (ix2 d k)) (fun k => b1 (ix2 (0 : Fin 1) k)) (fun d k => W2 (ix2 d k)) (fun k => b2 (ix2 (0 : Fin 1) k)) (i 1)

/-- The values head by head, laid out as a matrix: `512` rows for every chunk of keys. -/
def flatHeads {n C n4 : ℕ} [NeZero n] [NeZero C] (VV : (⟨2, ![n, 128]⟩ : Shape).Idx → EReal) : (⟨2, ![n4, 256]⟩ : Shape).Idx → EReal := fun q =>
  headsArr (C := C) VV (ix4 (Fin.ofNat C ((q 0).val / 512)) (Fin.ofNat 4 ((q 0).val / 128)) (Fin.ofNat 128 (q 0).val) (q 1 : Fin 256))

theorem flatHeads_lo {n C n4 : ℕ} [NeZero n] [NeZero C] (VV : (⟨2, ![n, 128]⟩ : Shape).Idx → EReal) (c : ℕ) (hc : c < C) (h : Fin 4)
    (i l : Fin 128) (Q : Fin n4) (hQ : Q.val = 512 * c + (128 * h.val + i.val)) (R : Fin n) (hR : R.val = 128 * c + i.val) :
    flatHeads (C := C) VV (ix2 Q (⟨l.val, by omega⟩ : Fin 256)) = if h = head l then VV (ix2 R l) else 0 := by
  refine (dif_pos (show l.val < 128 from l.isLt)).trans (if_congr ?_ (congrArg VV ?_) rfl)
  · rw [Fin.ext_iff]
    show l.val / 32 = (Q.val / 128) % 4 ↔ h.val = l.val / 32
    rw [hQ]
    omega
  · refine congrArg (fun r : Fin n => ix2 r l) (Fin.ext ?_)
    show (128 * (Q.val / 512 % C) + Q.val % 128) % n = R.val
    have e1 : Q.val / 512 = c := by rw [hQ]; omega
    have e2 : Q.val % 128 = i.val := by rw [hQ]; omega
    rw [e1, e2, Nat.mod_eq_of_lt hc, ← hR, Nat.mod_eq_of_lt R.isLt]

theorem flatHeads_hi {n C n4 : ℕ} [NeZero n] [NeZero C] (VV : (⟨2, ![n, 128]⟩ : Shape).Idx → EReal) (c : ℕ) (hc : c < C) (h : Fin 4)
    (i l : Fin 128) (Q : Fin n4) (hQ : Q.val = 512 * c + (128 * h.val + i.val)) :
    flatHeads (C := C) VV (ix2 Q (⟨128 + l.val, by omega⟩ : Fin 256)) = if h = head l then 1 else 0 := by
  refine (dif_neg (show ¬ 128 + l.val < 128 by omega)).trans (if_congr ?_ rfl rfl)
  rw [Fin.ext_iff]
  show (128 + l.val - 128) / 32 = (Q.val / 128) % 4 ↔ h.val = l.val / 32
  rw [hQ]
  omega

end Cert.Spec

end
-- ==== Proof.Hosts.lean ====
/-
  What the operations between the calls leave in the arrays the calls read: one layer of each stacked weight, each bias and scale as
  a one-row matrix, the masks as integers, and the heads' values as a matrix.
-/
module

public import proofs.«01_k».proof.Proof.Att
public import proofs.«01_k».proof.Proof.FrameIdeal.Run
public import Idealize.ShloMosaic.Lib.Pointwise
public import Idealize.ShloMosaic.Lib.Claim

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.StableHlo

variable (W : Valuation τ sig (Elt Ideal))

/-! ## Before the first key and value call -/

theorem h0_1 (k : Fin 128) (j : Fin 128) : StableHlo.after hostOps0 W (Proc.devRef .tc main_v1) (ix2 k j : S128x128.Idx) = W (Proc.devRef .tc main_arg12) (ix3 (0 : Fin 2) k j : S2x128x128.Idx) := by
  unfold_abbrev_sides
  after_results
  pointwise []

theorem h0_10 (j : Fin 128) : StableHlo.after hostOps0 W (Proc.devRef .tc main_v10) (ix2 (0 : Fin 1) j : S1x128.Idx) = W (Proc.devRef .tc main_arg13) (ix2 (0 : Fin 2) j : S2x128.Idx) := by
  unfold_abbrev_sides
  after_results
  pointwise []

theorem h0_5 (k : Fin 128) (j : Fin 128) : StableHlo.after hostOps0 W (Proc.devRef .tc main_v5) (ix2 k j : S128x128.Idx) = W (Proc.devRef .tc main_arg14) (ix3 (0 : Fin 2) k j : S2x128x128.Idx) := by
  unfold_abbrev_sides
  after_results
  pointwise []

theorem h0_11 (j : Fin 128) : StableHlo.after hostOps0 W (Proc.devRef .tc main_v11) (ix2 (0 : Fin 1) j : S1x128.Idx) = W (Proc.devRef .tc main_arg15) (ix2 (0 : Fin 2) j : S2x128.Idx) := by
  unfold_abbrev_sides
  after_results
  pointwise []

theorem h0_8 (j : Fin 128) : StableHlo.after hostOps0 W (Proc.devRef .tc main_v8) (ix2 (0 : Fin 1) j : S1x128.Idx) = W (Proc.devRef .tc main_arg6) (ix1 j : S128.Idx) := by
  unfold_abbrev_sides
  after_results
  pointwise []

theorem h0_9 (j : Fin 128) : StableHlo.after hostOps0 W (Proc.devRef .tc main_v9) (ix2 (0 : Fin 1) j : S1x128.Idx) = W (Proc.devRef .tc main_arg7) (ix1 j : S128.Idx) := by
  unfold_abbrev_sides
  after_results
  pointwise []

/-! ## Before the second key and value call -/

theorem h1_15 (k : Fin 128) (j : Fin 128) : StableHlo.after hostOps1 W (Proc.devRef .tc main_v15) (ix2 k j : S128x128.Idx) = W (Proc.devRef .tc main_arg12) (ix3 (1 : Fin 2) k j : S2x128x128.Idx) := by
  unfold_abbrev_sides
  after_results
  pointwise []

theorem h1_24 (j : Fin 128) : StableHlo.after hostOps1 W (Proc.devRef .tc main_v24) (ix2 (0 : Fin 1) j : S1x128.Idx) = W (Proc.devRef .tc main_arg13) (ix2 (1 : Fin 2) j : S2x128.Idx) := by
  unfold_abbrev_sides
  after_results
  pointwise []

theorem h1_19 (k : Fin 128) (j : Fin 128) : StableHlo.after hostOps1 W (Proc.devRef .tc main_v19) (ix2 k j : S128x128.Idx) = W (Proc.devRef .tc main_arg14) (ix3 (1 : Fin 2) k j : S2x128x128.Idx) := by
  unfold_abbrev_sides
  after_results
  pointwise []

theorem h1_25 (j : Fin 128) : StableHlo.after hostOps1 W (Proc.devRef .tc main_v25) (ix2 (0 : Fin 1) j : S1x128.Idx) = W (Proc.devRef .tc main_arg15) (ix2 (1 : Fin 2) j : S2x128.Idx) := by
  unfold_abbrev_sides
  after_results
  pointwise []

theorem h1_22 (j : Fin 128) : StableHlo.after hostOps1 W (Proc.devRef .tc main_v22) (ix2 (0 : Fin 1) j : S1x128.Idx) = W (Proc.devRef .tc main_arg8) (ix1 j : S128.Idx) := by
  unfold_abbrev_sides
  after_results
  pointwise []

theorem h1_23 (j : Fin 128) : StableHlo.after hostOps1 W (Proc.devRef .tc main_v23) (ix2 (0 : Fin 1) j : S1x128.Idx) = W (Proc.devRef .tc main_arg9) (ix1 j : S128.Idx) := by
  unfold_abbrev_sides
  after_results
  pointwise []

theorem h1_13 (q : Fin 8192) (l : Fin 256) : StableHlo.after hostOps1 W (Proc.devRef .tc main_v13) (ix2 q l : S8192x256.Idx)
    = W (Proc.devRef .tc main_v12_2) (ix4 (Fin.ofNat 16 (q.val / 512)) (Fin.ofNat 4 (q.val / 128)) (Fin.ofNat 128 q.val) l : S16x4x128x256.Idx) := by
  unfold_abbrev_sides
  after_results
  pointwise []
  exact congrArg (fun t : Fin 16 => W (Proc.devRef .tc main_v12_2) (ix4 t (Fin.ofNat 4 (q.val / 128)) (Fin.ofNat 128 q.val) l : S16x4x128x256.Idx))
    (Fin.ext (Nat.mod_eq_of_lt (by have := q.isLt; omega)).symm)

/-! ## Before the first attention call -/

theorem h2_29 (k : Fin 128) (j : Fin 128) : StableHlo.after hostOps2 W (Proc.devRef .tc main_v29) (ix2 k j : S128x128.Idx) = W (Proc.devRef .tc main_arg10) (ix3 (0 : Fin 2) k j : S2x128x128.Idx) := by
  unfold_abbrev_sides
  after_results
  pointwise []

theorem h2_48 (j : Fin 128) : StableHlo.after hostOps2 W (Proc.devRef .tc main_v48) (ix2 (0 : Fin 1) j : S1x128.Idx) = W (Proc.devRef .tc main_arg11) (ix2 (0 : Fin 2) j : S2x128.Idx) := by
  unfold_abbrev_sides
  after_results
  pointwise []

theorem h2_33 (k : Fin 128) (j : Fin 128) : StableHlo.after hostOps2 W (Proc.devRef .tc main_v33) (ix2 k j : S128x128.Idx) = W (Proc.devRef .tc main_arg16) (ix3 (0 : Fin 2) k j : S2x128x128.Idx) := by
  unfold_abbrev_sides
  after_results
  pointwise []

theorem h2_49 (j : Fin 128) : StableHlo.after hostOps2 W (Proc.devRef .tc main_v49) (ix2 (0 : Fin 1) j : S1x128.Idx) = W (Proc.devRef .tc main_arg17) (ix2 (0 : Fin 2) j : S2x128.Idx) := by
  unfold_abbrev_sides
  after_results
  pointwise []

theorem h2_50 (j : Fin 128) : StableHlo.after hostOps2 W (Proc.devRef .tc main_v50) (ix2 (0 : Fin 1) j : S1x128.Idx) = W (Proc.devRef .tc main_arg18) (ix2 (0 : Fin 2) j : S2x128.Idx) := by
  unfold_abbrev_sides
  after_results
  pointwise []

theorem h2_51 (j : Fin 128) : StableHlo.after hostOps2 W (Proc.devRef .tc main_v51) (ix2 (0 : Fin 1) j : S1x128.Idx) = W (Proc.devRef .tc main_arg19) (ix2 (0 : Fin 2) j : S2x128.Idx) := by
  unfold_abbrev_sides
  after_results
  pointwise []

theorem h2_41 (k : Fin 128) (j : Fin 256) : StableHlo.after hostOps2 W (Proc.devRef .tc main_v41) (ix2 k j : S128x256.Idx) = W (Proc.devRef .tc main_arg20) (ix3 (0 : Fin 2) k j : S2x128x256.Idx) := by
  unfold_abbrev_sides
  after_results
  pointwise []

theorem h2_52 (j : Fin 256) : StableHlo.after hostOps2 W (Proc.devRef .tc main_v52) (ix2 (0 : Fin 1) j : S1x256.Idx) = W (Proc.devRef .tc main_arg21) (ix2 (0 : Fin 2) j : S2x256.Idx) := by
  unfold_abbrev_sides
  after_results
  pointwise []

theorem h2_45 (k : Fin 256) (j : Fin 128) : StableHlo.after hostOps2 W (Proc.devRef .tc main_v45) (ix2 k j : S256x128.Idx) = W (Proc.devRef .tc main_arg22) (ix3 (0 : Fin 2) k j : S2x256x128.Idx) := by
  unfold_abbrev_sides
  after_results
  pointwise []

theorem h2_53 (j : Fin 128) : StableHlo.after hostOps2 W (Proc.devRef .tc main_v53) (ix2 (0 : Fin 1) j : S1x128.Idx) = W (Proc.devRef .tc main_arg23) (ix2 (0 : Fin 2) j : S2x128.Idx) := by
  unfold_abbrev_sides
  after_results
  pointwise []

theorem h2_54 (r : Fin 4096) (j : Fin 2048) : StableHlo.after hostOps2 W (Proc.devRef .tc main_v54) (ix2 r j : S4096x2048.Idx) = (W (Proc.devRef .tc main_arg2) (ix2 r j : S4096x2048.Idx)).setWidth 32 := by
  unfold_abbrev_sides
  after_results
  rfl

theorem h2_55 (r : Fin 4096) (j : Fin 2048) : StableHlo.after hostOps2 W (Proc.devRef .tc main_v55) (ix2 r j : S4096x2048.Idx) = (W (Proc.devRef .tc main_arg3) (ix2 r j : S4096x2048.Idx)).setWidth 32 := by
  unfold_abbrev_sides
  after_results
  rfl

theorem h2_27 (q : Fin 16384) (l : Fin 256) : StableHlo.after hostOps2 W (Proc.devRef .tc main_v27) (ix2 q l : S16384x256.Idx)
    = W (Proc.devRef .tc main_v26_2) (ix4 (Fin.ofNat 32 (q.val / 512)) (Fin.ofNat 4 (q.val / 128)) (Fin.ofNat 128 q.val) l : S32x4x128x256.Idx) := by
  unfold_abbrev_sides
  after_results
  pointwise []
  exact congrArg (fun t : Fin 32 => W (Proc.devRef .tc main_v26_2) (ix4 t (Fin.ofNat 4 (q.val / 128)) (Fin.ofNat 128 q.val) l : S32x4x128x256.Idx))
    (Fin.ext (Nat.mod_eq_of_lt (by have := q.isLt; omega)).symm)

/-! ## Before the second attention call -/

theorem h3_58 (k : Fin 128) (j : Fin 128) : StableHlo.after hostOps3 W (Proc.devRef .tc main_v58) (ix2 k j : S128x128.Idx) = W (Proc.devRef .tc main_arg10) (ix3 (1 : Fin 2) k j : S2x128x128.Idx) := by
  unfold_abbrev_sides
  after_results
  pointwise []

theorem h3_77 (j : Fin 128) : StableHlo.after hostOps3 W (Proc.devRef .tc main_v77) (ix2 (0 : Fin 1) j : S1x128.Idx) = W (Proc.devRef .tc main_arg11) (ix2 (1 : Fin 2) j : S2x128.Idx) := by
  unfold_abbrev_sides
  after_results
  pointwise []

theorem h3_62 (k : Fin 128) (j : Fin 128) : StableHlo.after hostOps3 W (Proc.devRef .tc main_v62) (ix2 k j : S128x128.Idx) = W (Proc.devRef .tc main_arg16) (ix3 (1 : Fin 2) k j : S2x128x128.Idx) := by
  unfold_abbrev_sides
  after_results
  pointwise []

theorem h3_78 (j : Fin 128) : StableHlo.after hostOps3 W (Proc.devRef .tc main_v78) (ix2 (0 : Fin 1) j : S1x128.Idx) = W (Proc.devRef .tc main_arg17) (ix2 (1 : Fin 2) j : S2x128.Idx) := by
  unfold_abbrev_sides
  after_results
  pointwise []

theorem h3_79 (j : Fin 128) : StableHlo.after hostOps3 W (Proc.devRef .tc main_v79) (ix2 (0 : Fin 1) j : S1x128.Idx) = W (Proc.devRef .tc main_arg18) (ix2 (1 : Fin 2) j : S2x128.Idx) := by
  unfold_abbrev_sides
  after_results
  pointwise []

theorem h3_80 (j : Fin 128) : StableHlo.after hostOps3 W (Proc.devRef .tc main_v80) (ix2 (0 : Fin 1) j : S1x128.Idx) = W (Proc.devRef .tc main_arg19) (ix2 (1 : Fin 2) j : S2x128.Idx) := by
  unfold_abbrev_sides
  after_results
  pointwise []

theorem h3_70 (k : Fin 128) (j : Fin 256) : StableHlo.after hostOps3 W (Proc.devRef .tc main_v70) (ix2 k j : S128x256.Idx) = W (Proc.devRef .tc main_arg20) (ix3 (1 : Fin 2) k j : S2x128x256.Idx) := by
  unfold_abbrev_sides
  after_results
  pointwise []

theorem h3_81 (j : Fin 256) : StableHlo.after hostOps3 W (Proc.devRef .tc main_v81) (ix2 (0 : Fin 1) j : S1x256.Idx) = W (Proc.devRef .tc main_arg21) (ix2 (1 : Fin 2) j : S2x256.Idx) := by
  unfold_abbrev_sides
  after_results
  pointwise []

theorem h3_74 (k : Fin 256) (j : Fin 128) : StableHlo.after hostOps3 W (Proc.devRef .tc main_v74) (ix2 k j : S256x128.Idx) = W (Proc.devRef .tc main_arg22) (ix3 (1 : Fin 2) k j : S2x256x128.Idx) := by
  unfold_abbrev_sides
  after_results
  pointwise []

theorem h3_82 (j : Fin 128) : StableHlo.after hostOps3 W (Proc.devRef .tc main_v82) (ix2 (0 : Fin 1) j : S1x128.Idx) = W (Proc.devRef .tc main_arg23) (ix2 (1 : Fin 2) j : S2x128.Idx) := by
  unfold_abbrev_sides
  after_results
  pointwise []

theorem h3_83 (r : Fin 2048) (j : Fin 4096) : StableHlo.after hostOps3 W (Proc.devRef .tc main_v83) (ix2 r j : S2048x4096.Idx) = (W (Proc.devRef .tc main_arg4) (ix2 r j : S2048x4096.Idx)).setWidth 32 := by
  unfold_abbrev_sides
  after_results
  rfl

theorem h3_84 (r : Fin 2048) (j : Fin 4096) : StableHlo.after hostOps3 W (Proc.devRef .tc main_v84) (ix2 r j : S2048x4096.Idx) = (W (Proc.devRef .tc main_arg5) (ix2 r j : S2048x4096.Idx)).setWidth 32 := by
  unfold_abbrev_sides
  after_results
  rfl

end Cert.KernelIdeal.Val

end
-- ==== Proof.Layer.lean ====
/-
  One update as a function of the arguments' entries: the kernel's form and the reference's.
-/
module

public import proofs.«01_k».proof.Proof.Att

@[expose] public section

set_option maxRecDepth 16384

noncomputable section

namespace Cert.Spec

open Idealize.ShloMosaic
open scoped BigOperators

/-- A layer of a stack of matrices. -/
def mat {a b : ℕ} (A : (⟨3, ![2, a, b]⟩ : Shape).Idx → EReal) (L : Fin 2) : Fin a → Fin b → EReal := fun k j => A (ix3 L k j)
/-- A layer of a stack of vectors. -/
def row {b : ℕ} (A : (⟨2, ![2, b]⟩ : Shape).Idx → EReal) (L : Fin 2) : Fin b → EReal := fun j => A (ix2 L j)
/-- A vector's entries. -/
def vec {b : ℕ} (A : (⟨1, ![b]⟩ : Shape).Idx → EReal) : Fin b → EReal := fun j => A (ix1 j)
/-- A row of a sequence. -/
def seq {n : ℕ} (X : (⟨2, ![n, 128]⟩ : Shape).Idx → EReal) (i : Fin n) : Fin 128 → EReal := fun j => X (ix2 i j)

/-- The pair of a query and a key is allowed. -/
def allowed {m n : ℕ} (A1 A2 : (⟨2, ![m, n]⟩ : Shape).Idx → BitVec 1) (i : Fin m) (j : Fin n) : Prop :=
  A1 (ix2 i j) = 1#1 ∧ A2 (ix2 i j) = 1#1
instance {m n : ℕ} (A1 A2 : (⟨2, ![m, n]⟩ : Shape).Idx → BitVec 1) (i : Fin m) : DecidablePred (allowed A1 A2 i) := fun _ =>
  inferInstanceAs (Decidable (_ ∧ _))

section
variable {m n : ℕ} (L : Fin 2) (X : (⟨2, ![m, 128]⟩ : Shape).Idx → EReal) (Y : (⟨2, ![n, 128]⟩ : Shape).Idx → EReal)
  (gx bx gy by' : (⟨1, ![128]⟩ : Shape).Idx → EReal)
  (Wq : (⟨3, ![2, 128, 128]⟩ : Shape).Idx → EReal) (bq : (⟨2, ![2, 128]⟩ : Shape).Idx → EReal)
  (Wk : (⟨3, ![2, 128, 128]⟩ : Shape).Idx → EReal) (bk : (⟨2, ![2, 128]⟩ : Shape).Idx → EReal)
  (Wv : (⟨3, ![2, 128, 128]⟩ : Shape).Idx → EReal) (bv : (⟨2, ![2, 128]⟩ : Shape).Idx → EReal)
  (Wo : (⟨3, ![2, 128, 128]⟩ : Shape).Idx → EReal) (bo g b : (⟨2, ![2, 128]⟩ : Shape).Idx → EReal)
  (W1 : (⟨3, ![2, 128, 256]⟩ : Shape).Idx → EReal) (b1 : (⟨2, ![2, 256]⟩ : Shape).Idx → EReal)
  (W2 : (⟨3, ![2, 256, 128]⟩ : Shape).Idx → EReal) (b2 : (⟨2, ![2, 128]⟩ : Shape).Idx → EReal)
  (A1 A2 : (⟨2, ![m, n]⟩ : Shape).Idx → BitVec 1) (w : EReal) (i : Fin m) (j : Fin 128)

/-- A row's layer normalisation, projected. -/
def proj {n : ℕ} (L : Fin 2) (X : (⟨2, ![n, 128]⟩ : Shape).Idx → EReal) (g b : (⟨1, ![128]⟩ : Shape).Idx → EReal)
    (W : (⟨3, ![2, 128, 128]⟩ : Shape).Idx → EReal) (c : (⟨2, ![2, 128]⟩ : Shape).Idx → EReal) (i : Fin n) : Fin 128 → EReal :=
  lin (lnRow (seq X i) (vec g) (vec b)) (mat W L) (row c L)

/-- The update as the kernel computes it; `w` is one over the number of keys. -/
def layerK : EReal :=
  post (seq X i)
    (fun k => ratio (fun l => kscore (((Real.sqrt 32)⁻¹ : ℝ) : EReal) (proj L X gx bx Wq bq i) (proj L Y gy by' Wk bk l) (head k))
      (fun l => proj L Y gy by' Wv bv l k) (allowed A1 A2 i) ((∑ l, proj L Y gy by' Wv bv l k) * w))
    (mat Wo L) (row bo L) (row g L) (row b L) (mat W1 L) (row b1 L) (mat W2 L) (row b2 L) j

/-- The update as the reference computes it. -/
def layerR : EReal :=
  post (seq X i)
    (fun k => softmax (masked (fun l => score (proj L X gx bx Wq bq i) (proj L Y gy by' Wk bk l) (head k)) (allowed A1 A2 i))
      (fun l => proj L Y gy by' Wv bv l k))
    (mat Wo L) (row bo L) (row g L) (row b L) (mat W1 L) (row b1 L) (mat W2 L) (row b2 L) j
end

/-- The eight partial sums add up to the whole sum. -/
theorem sum_sums {n G : ℕ} [NeZero n] (hn : n = 8 * G) (v : (⟨2, ![n, 128]⟩ : Shape).Idx → EReal) (j : Fin 128) :
    ∑ a : Fin 8, sumsArr G v (ix2 a j) = ∑ i : Fin n, v (ix2 i j) := by
  subst hn
  have e : ∀ a : Fin 8, sumsArr G v (ix2 a j) = ∑ g : Fin G, v (ix2 (Fin.ofNat (8 * G) (8 * g.val + a.val)) j) := fun a =>
    Finset.sum_range (fun g => v (ix2 (Fin.ofNat (8 * G) (8 * g + a.val)) j))
  rw [Finset.sum_congr rfl fun a _ => e a, Finset.sum_comm, ← Fintype.sum_prod_type']
  refine Fintype.sum_equiv ((finProdFinEquiv (m := G) (n := 8)).trans (finCongr (Nat.mul_comm G 8))) _ _ fun p => ?_
  refine congrArg (fun i : Fin (8 * G) => v (ix2 i j)) (Fin.ext ?_)
  have h1 := p.1.isLt
  have h2 := p.2.isLt
  show (8 * p.1.val + p.2.val) % (8 * G) = p.2.val + 8 * p.1.val
  rw [Nat.mod_eq_of_lt (by omega)]
  omega

theorem sums_of {n G : ℕ} [NeZero n] (hn : n = 8 * G) {vs : (⟨2, ![8, 128]⟩ : Shape).Idx → EReal} {v : (⟨2, ![n, 128]⟩ : Shape).Idx → EReal}
    (h : vs = sumsArr G v) (j : Fin 128) {u : Fin n → EReal} (hv : ∀ l, v (ix2 l j) = u l) :
    ∑ a : Fin 8, vs (ix2 a j) = ∑ l, u l := by
  rw [h, sum_sums hn, funext hv]

/-! ## The arrays' entries from the entries of what they are made of -/

theorem lnArr_at {n : ℕ} (X : (⟨2, ![n, 128]⟩ : Shape).Idx → EReal) (g b : (⟨2, ![1, 128]⟩ : Shape).Idx → EReal) (r : Fin n) (j : Fin 128)
    {x g' b' : Fin 128 → EReal} (hx : ∀ k, X (ix2 r k) = x k) (hg : ∀ k, g (ix2 (0 : Fin 1) k) = g' k) (hb : ∀ k, b (ix2 (0 : Fin 1) k) = b' k) :
    lnArr X g b (ix2 r j) = lnRow x g' b' j := by
  rw [← funext hx, ← funext hg, ← funext hb]
  rfl

theorem linArr_at {n : ℕ} (X : (⟨2, ![n, 128]⟩ : Shape).Idx → EReal) (W : (⟨2, ![128, 128]⟩ : Shape).Idx → EReal)
    (b : (⟨2, ![1, 128]⟩ : Shape).Idx → EReal) (r : Fin n) (j : Fin 128) {x : Fin 128 → EReal} {W' : Fin 128 → Fin 128 → EReal}
    {b' : Fin 128 → EReal} (hx : ∀ k, X (ix2 r k) = x k) (hW : ∀ k l, W (ix2 k l) = W' k l) (hb : ∀ k, b (ix2 (0 : Fin 1) k) = b' k) :
    linArr X W b (ix2 r j) = lin x W' b' j := by
  rw [← funext hx, ← funext fun k => funext (hW k), ← funext hb]
  rfl

theorem ratio_iff {n : ℕ} (s v : Fin n → EReal) (a a' : Fin n → Prop) [DecidablePred a] [DecidablePred a'] (vm : EReal)
    (h : ∀ j, a j ↔ a' j) : ratio s v a vm = ratio s v a' vm := by
  obtain rfl : a = a' := funext fun j => propext (h j)
  congr

theorem setWidth_ne (x : BitVec 1) : x.setWidth 32 ≠ 0#32 ↔ x = 1#1 := by
  rcases BitVec.eq_zero_or_eq_one x with h | h <;> rw [h] <;> decide

theorem attArr_at {m n : ℕ} (X NX : (⟨2, ![m, 128]⟩ : Shape).Idx → EReal) (K VV : (⟨2, ![n, 128]⟩ : Shape).Idx → EReal)
    (vs : (⟨2, ![8, 128]⟩ : Shape).Idx → EReal) (w : EReal) (A1 A2 : (⟨2, ![m, n]⟩ : Shape).Idx → BitVec 32)
    (Wq : (⟨2, ![128, 128]⟩ : Shape).Idx → EReal) (bq : (⟨2, ![1, 128]⟩ : Shape).Idx → EReal)
    (Wo : (⟨2, ![128, 128]⟩ : Shape).Idx → EReal) (bo g b : (⟨2, ![1, 128]⟩ : Shape).Idx → EReal)
    (W1 : (⟨2, ![128, 256]⟩ : Shape).Idx → EReal) (b1 : (⟨2, ![1, 256]⟩ : Shape).Idx → EReal)
    (W2 : (⟨2, ![256, 128]⟩ : Shape).Idx → EReal) (b2 : (⟨2, ![1, 128]⟩ : Shape).Idx → EReal) (i : Fin m) (j : Fin 128)
    {x nx : Fin 128 → EReal} {k v : Fin n → Fin 128 → EReal} {B1 B2 : (⟨2, ![m, n]⟩ : Shape).Idx → BitVec 1}
    {wq wo : Fin 128 → Fin 128 → EReal} {w1 : Fin 128 → Fin 256 → EReal} {w2 : Fin 256 → Fin 128 → EReal}
    {bq' bo' g' b' b2' : Fin 128 → EReal} {b1' : Fin 256 → EReal}
    (hX : ∀ l, X (ix2 i l) = x l) (hNX : ∀ l, NX (ix2 i l) = nx l) (hK : ∀ l d, K (ix2 l d) = k l d) (hVV : ∀ l d, VV (ix2 l d) = v l d)
    (hs : ∀ d, ∑ a : Fin 8, vs (ix2 a d) = ∑ l, v l d) (hA1 : ∀ l, A1 (ix2 i l) = (B1 (ix2 i l)).setWidth 32)
    (hA2 : ∀ l, A2 (ix2 i l) = (B2 (ix2 i l)).setWidth 32) (hWq : ∀ d l, Wq (ix2 d l) = wq d l) (hbq : ∀ l, bq (ix2 (0 : Fin 1) l) = bq' l)
    (hWo : ∀ d l, Wo (ix2 d l) = wo d l) (hbo : ∀ l, bo (ix2 (0 : Fin 1) l) = bo' l) (hg : ∀ l, g (ix2 (0 : Fin 1) l) = g' l)
    (hb : ∀ l, b (ix2 (0 : Fin 1) l) = b' l) (hW1 : ∀ d l, W1 (ix2 d l) = w1 d l) (hb1 : ∀ l, b1 (ix2 (0 : Fin 1) l) = b1' l)
    (hW2 : ∀ d l, W2 (ix2 d l) = w2 d l) (hb2 : ∀ l, b2 (ix2 (0 : Fin 1) l) = b2' l) :
    attArr X NX K VV vs w A1 A2 Wq bq Wo bo g b W1 b1 W2 b2 (ix2 i j)
      = post x (fun d => ratio (fun l => kscore (((Real.sqrt 32)⁻¹ : ℝ) : EReal) (lin nx wq bq') (k l) (head d)) (fun l => v l d)
          (allowed B1 B2 i) ((∑ l, v l d) * w)) wo bo' g' b' w1 b1' w2 b2' j := by
  rw [← funext hX, ← funext hNX, ← funext fun d => funext (hWq d), ← funext hbq, ← funext fun d => funext (hWo d), ← funext hbo,
    ← funext hg, ← funext hb, ← funext fun d => funext (hW1 d), ← funext hb1, ← funext fun d => funext (hW2 d), ← funext hb2,
    ← funext fun l => funext (hK l)]
  refine congrArg (fun ctx => post _ ctx _ _ _ _ _ _ _ _ j) (funext fun d => ?_)
  rw [← hs d]
  refine Eq.trans ?_ (ratio_iff _ _ (fun l => A1 (ix2 i l) ≠ 0#32 ∧ A2 (ix2 i l) ≠ 0#32) _ _ fun l => ?_)
  · rw [← funext fun l => hVV l d]
    rfl
  · rw [hA1, hA2, setWidth_ne, setWidth_ne]
    rfl

end Cert.Spec

end
-- ==== Proof.Nkv0.lean ====
/-
  What the first key and value call (2048 rows, blocks of 512) leaves in its four output blocks at each point: the
  normalised rows, the keys, the values head by head, and the running sums of the values.
-/
module

public import proofs.«01_k».proof.Proof.NkvPay
public import proofs.«01_k».proof.Proof.Nest
public import proofs.«01_k».proof.Proof.Gen.KernelIdeal.Frame.Region0

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec
open Idealize.ShloMosaic.Pipeline (Dat Cfg Window cellOf)
open scoped BigOperators

variable {F : FTy → Type} [FloatOps F] [Named F]

/-! ## The body's blocks from its inputs -/

section Body
variable (c : Dev nD) (i : grid0.Coords) {arg1 : Memref sig .tc .vmem S512x128 .f32} (harg1 : arg1.IsWhole) {arg2 : Memref sig .tc .vmem S1x128 .f32} (harg2 : arg2.IsWhole) {arg3 : Memref sig .tc .vmem S1x128 .f32} (harg3 : arg3.IsWhole) {arg4 : Memref sig .tc .vmem S128x128 .f32} (harg4 : arg4.IsWhole) {arg5 : Memref sig .tc .vmem S1x128 .f32} (harg5 : arg5.IsWhole) {arg6 : Memref sig .tc .vmem S128x128 .f32} (harg6 : arg6.IsWhole) {arg7 : Memref sig .tc .vmem S1x128 .f32} (harg7 : arg7.IsWhole) {arg8 : Memref sig .tc .vmem S512x128 .f32} (harg8 : arg8.IsWhole) {arg9 : Memref sig .tc .vmem S512x128 .bf16} (harg9 : arg9.IsWhole) {arg10 : Memref sig .tc .vmem S4x4x128x256 .bf16} (harg10 : arg10.IsWhole) {arg11 : Memref sig .tc .vmem S8x128 .f32} (harg11 : arg11.IsWhole)

theorem blk0_A_7 (hc0 : cond0_0 i) (x0 : Vec F S512x128 .f32) (x1 x2 : Vec F S1x128 .f32) (x3 : Vec F S128x128 .f32) (x4 : Vec F S1x128 .f32) (x5 : Vec F S128x128 .f32) (x6 : Vec F S1x128 .f32) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 = k0_pay3 x0 x1 x2 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  rw [View.canon_unit_zero off_zero]

theorem blk0_A_8 (hc0 : cond0_0 i) (x0 : Vec F S512x128 .f32) (x1 x2 : Vec F S1x128 .f32) (x3 : Vec F S128x128 .f32) (x4 : Vec F S1x128 .f32) (x5 : Vec F S128x128 .f32) (x6 : Vec F S1x128 .f32) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 = k0_pay4 x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  rw [View.canon_unit_zero off_zero]

theorem blk0_A_9 (hc0 : cond0_0 i) (x0 : Vec Ideal S512x128 .f32) (x1 x2 : Vec Ideal S1x128 .f32) (x3 : Vec Ideal S128x128 .f32) (x4 : Vec Ideal S1x128 .f32) (x5 : Vec Ideal S128x128 .f32) (x6 : Vec Ideal S1x128 .f32) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 = headsOf (k0_pay5 (k0_pay3 x0 x1 x2) x5 x6) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6)]
  refine funext fun y => View.canon_apply_of_pieces (headsOf _) _ ?_ y (cover0_A_9 c i arg1 harg1 arg2 harg2 arg3 harg3 arg4 harg4 arg5 harg5 arg6 harg6 arg7 harg7 arg8 harg8 arg9 harg9 arg10 harg10 arg11 harg11 hc0 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  refine List.forall_mem_cons.mpr ⟨fun x => headPiece_emb 96#32 128#32 3 3 lanes3 (k0_pay5 (k0_pay3 x0 x1 x2) x5 x6) _ (chunk3 (k0_pay5 (k0_pay3 x0 x1 x2) x5 x6)) rfl rfl inb_S4x4x128x256_S1x1x128x256_3_3_0_0 x, ?_⟩
  refine List.forall_mem_cons.mpr ⟨fun x => headPiece_emb 64#32 96#32 3 2 lanes2 (k0_pay5 (k0_pay3 x0 x1 x2) x5 x6) _ (chunk3 (k0_pay5 (k0_pay3 x0 x1 x2) x5 x6)) rfl rfl inb_S4x4x128x256_S1x1x128x256_3_2_0_0 x, ?_⟩
  refine List.forall_mem_cons.mpr ⟨fun x => headPiece_emb 32#32 64#32 3 1 lanes1 (k0_pay5 (k0_pay3 x0 x1 x2) x5 x6) _ (chunk3 (k0_pay5 (k0_pay3 x0 x1 x2) x5 x6)) rfl rfl inb_S4x4x128x256_S1x1x128x256_3_1_0_0 x, ?_⟩
  refine List.forall_mem_cons.mpr ⟨fun x => headPiece_emb 0#32 32#32 3 0 lanes0 (k0_pay5 (k0_pay3 x0 x1 x2) x5 x6) _ (chunk3 (k0_pay5 (k0_pay3 x0 x1 x2) x5 x6)) rfl rfl inb_S4x4x128x256_S1x1x128x256_3_0_0_0 x, ?_⟩
  refine List.forall_mem_cons.mpr ⟨fun x => headPiece_emb 96#32 128#32 2 3 lanes3 (k0_pay5 (k0_pay3 x0 x1 x2) x5 x6) _ (chunk2 (k0_pay5 (k0_pay3 x0 x1 x2) x5 x6)) rfl rfl inb_S4x4x128x256_S1x1x128x256_2_3_0_0 x, ?_⟩
  refine List.forall_mem_cons.mpr ⟨fun x => headPiece_emb 64#32 96#32 2 2 lanes2 (k0_pay5 (k0_pay3 x0 x1 x2) x5 x6) _ (chunk2 (k0_pay5 (k0_pay3 x0 x1 x2) x5 x6)) rfl rfl inb_S4x4x128x256_S1x1x128x256_2_2_0_0 x, ?_⟩
  refine List.forall_mem_cons.mpr ⟨fun x => headPiece_emb 32#32 64#32 2 1 lanes1 (k0_pay5 (k0_pay3 x0 x1 x2) x5 x6) _ (chunk2 (k0_pay5 (k0_pay3 x0 x1 x2) x5 x6)) rfl rfl inb_S4x4x128x256_S1x1x128x256_2_1_0_0 x, ?_⟩
  refine List.forall_mem_cons.mpr ⟨fun x => headPiece_emb 0#32 32#32 2 0 lanes0 (k0_pay5 (k0_pay3 x0 x1 x2) x5 x6) _ (chunk2 (k0_pay5 (k0_pay3 x0 x1 x2) x5 x6)) rfl rfl inb_S4x4x128x256_S1x1x128x256_2_0_0_0 x, ?_⟩
  refine List.forall_mem_cons.mpr ⟨fun x => headPiece_emb 96#32 128#32 1 3 lanes3 (k0_pay5 (k0_pay3 x0 x1 x2) x5 x6) _ (chunk1 (k0_pay5 (k0_pay3 x0 x1 x2) x5 x6)) rfl rfl inb_S4x4x128x256_S1x1x128x256_1_3_0_0 x, ?_⟩
  refine List.forall_mem_cons.mpr ⟨fun x => headPiece_emb 64#32 96#32 1 2 lanes2 (k0_pay5 (k0_pay3 x0 x1 x2) x5 x6) _ (chunk1 (k0_pay5 (k0_pay3 x0 x1 x2) x5 x6)) rfl rfl inb_S4x4x128x256_S1x1x128x256_1_2_0_0 x, ?_⟩
  refine List.forall_mem_cons.mpr ⟨fun x => headPiece_emb 32#32 64#32 1 1 lanes1 (k0_pay5 (k0_pay3 x0 x1 x2) x5 x6) _ (chunk1 (k0_pay5 (k0_pay3 x0 x1 x2) x5 x6)) rfl rfl inb_S4x4x128x256_S1x1x128x256_1_1_0_0 x, ?_⟩
  refine List.forall_mem_cons.mpr ⟨fun x => headPiece_emb 0#32 32#32 1 0 lanes0 (k0_pay5 (k0_pay3 x0 x1 x2) x5 x6) _ (chunk1 (k0_pay5 (k0_pay3 x0 x1 x2) x5 x6)) rfl rfl inb_S4x4x128x256_S1x1x128x256_1_0_0_0 x, ?_⟩
  refine List.forall_mem_cons.mpr ⟨fun x => headPiece_emb 96#32 128#32 0 3 lanes3 (k0_pay5 (k0_pay3 x0 x1 x2) x5 x6) _ (chunk0 (k0_pay5 (k0_pay3 x0 x1 x2) x5 x6)) rfl rfl inb_S4x4x128x256_S1x1x128x256_0_3_0_0 x, ?_⟩
  refine List.forall_mem_cons.mpr ⟨fun x => headPiece_emb 64#32 96#32 0 2 lanes2 (k0_pay5 (k0_pay3 x0 x1 x2) x5 x6) _ (chunk0 (k0_pay5 (k0_pay3 x0 x1 x2) x5 x6)) rfl rfl inb_S4x4x128x256_S1x1x128x256_0_2_0_0 x, ?_⟩
  refine List.forall_mem_cons.mpr ⟨fun x => headPiece_emb 32#32 64#32 0 1 lanes1 (k0_pay5 (k0_pay3 x0 x1 x2) x5 x6) _ (chunk0 (k0_pay5 (k0_pay3 x0 x1 x2) x5 x6)) rfl rfl inb_S4x4x128x256_S1x1x128x256_0_1_0_0 x, ?_⟩
  refine List.forall_mem_cons.mpr ⟨fun x => headPiece_emb 0#32 32#32 0 0 lanes0 (k0_pay5 (k0_pay3 x0 x1 x2) x5 x6) _ (chunk0 (k0_pay5 (k0_pay3 x0 x1 x2) x5 x6)) rfl rfl inb_S4x4x128x256_S1x1x128x256_0_0_0_0 x, ?_⟩
  exact fun p hp => absurd hp List.not_mem_nil

theorem blk0_A_10 (hc0 : cond0_0 i) (x0 : Vec F S512x128 .f32) (x1 x2 : Vec F S1x128 .f32) (x3 : Vec F S128x128 .f32) (x4 : Vec F S1x128 .f32) (x5 : Vec F S128x128 .f32) (x6 : Vec F S1x128 .f32) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 = k0_pay2 (k0_pay35 (k0_pay5 (k0_pay3 x0 x1 x2) x5 x6)) k0_pay1 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  rw [View.canon_cons_unit_zero off_zero]
  rw [View.readCov_unit_zero _ off_zero]

theorem blk0_B_7 (hc0 : ¬cond0_0 i) (x0 : Vec F S512x128 .f32) (x1 x2 : Vec F S1x128 .f32) (x3 : Vec F S128x128 .f32) (x4 : Vec F S1x128 .f32) (x5 : Vec F S128x128 .f32) (x6 : Vec F S1x128 .f32) (xo10 : Vec F S8x128 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xo10 = k0_pay3 x0 x1 x2 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 xo10)]
  unfold kernelRun0_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  rw [View.canon_unit_zero off_zero]

theorem blk0_B_8 (hc0 : ¬cond0_0 i) (x0 : Vec F S512x128 .f32) (x1 x2 : Vec F S1x128 .f32) (x3 : Vec F S128x128 .f32) (x4 : Vec F S1x128 .f32) (x5 : Vec F S128x128 .f32) (x6 : Vec F S1x128 .f32) (xo10 : Vec F S8x128 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 xo10 = k0_pay4 x0 x1 x2 x3 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 xo10)]
  unfold kernelRun0_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  rw [View.canon_unit_zero off_zero]

theorem blk0_B_9 (hc0 : ¬cond0_0 i) (x0 : Vec Ideal S512x128 .f32) (x1 x2 : Vec Ideal S1x128 .f32) (x3 : Vec Ideal S128x128 .f32) (x4 : Vec Ideal S1x128 .f32) (x5 : Vec Ideal S128x128 .f32) (x6 : Vec Ideal S1x128 .f32) (xo10 : Vec Ideal S8x128 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 xo10 = headsOf (k0_pay5 (k0_pay3 x0 x1 x2) x5 x6) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 xo10)]
  refine funext fun y => View.canon_apply_of_pieces (headsOf _) _ ?_ y (cover0_B_9 c i arg1 harg1 arg2 harg2 arg3 harg3 arg4 harg4 arg5 harg5 arg6 harg6 arg7 harg7 arg8 harg8 arg9 harg9 arg10 harg10 arg11 harg11 hc0 x0 x1 x2 x3 x4 x5 x6 xo10 y)
  unfold kernelRun0_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  refine List.forall_mem_cons.mpr ⟨fun x => headPiece_emb 96#32 128#32 3 3 lanes3 (k0_pay5 (k0_pay3 x0 x1 x2) x5 x6) _ (chunk3 (k0_pay5 (k0_pay3 x0 x1 x2) x5 x6)) rfl rfl inb_S4x4x128x256_S1x1x128x256_3_3_0_0 x, ?_⟩
  refine List.forall_mem_cons.mpr ⟨fun x => headPiece_emb 64#32 96#32 3 2 lanes2 (k0_pay5 (k0_pay3 x0 x1 x2) x5 x6) _ (chunk3 (k0_pay5 (k0_pay3 x0 x1 x2) x5 x6)) rfl rfl inb_S4x4x128x256_S1x1x128x256_3_2_0_0 x, ?_⟩
  refine List.forall_mem_cons.mpr ⟨fun x => headPiece_emb 32#32 64#32 3 1 lanes1 (k0_pay5 (k0_pay3 x0 x1 x2) x5 x6) _ (chunk3 (k0_pay5 (k0_pay3 x0 x1 x2) x5 x6)) rfl rfl inb_S4x4x128x256_S1x1x128x256_3_1_0_0 x, ?_⟩
  refine List.forall_mem_cons.mpr ⟨fun x => headPiece_emb 0#32 32#32 3 0 lanes0 (k0_pay5 (k0_pay3 x0 x1 x2) x5 x6) _ (chunk3 (k0_pay5 (k0_pay3 x0 x1 x2) x5 x6)) rfl rfl inb_S4x4x128x256_S1x1x128x256_3_0_0_0 x, ?_⟩
  refine List.forall_mem_cons.mpr ⟨fun x => headPiece_emb 96#32 128#32 2 3 lanes3 (k0_pay5 (k0_pay3 x0 x1 x2) x5 x6) _ (chunk2 (k0_pay5 (k0_pay3 x0 x1 x2) x5 x6)) rfl rfl inb_S4x4x128x256_S1x1x128x256_2_3_0_0 x, ?_⟩
  refine List.forall_mem_cons.mpr ⟨fun x => headPiece_emb 64#32 96#32 2 2 lanes2 (k0_pay5 (k0_pay3 x0 x1 x2) x5 x6) _ (chunk2 (k0_pay5 (k0_pay3 x0 x1 x2) x5 x6)) rfl rfl inb_S4x4x128x256_S1x1x128x256_2_2_0_0 x, ?_⟩
  refine List.forall_mem_cons.mpr ⟨fun x => headPiece_emb 32#32 64#32 2 1 lanes1 (k0_pay5 (k0_pay3 x0 x1 x2) x5 x6) _ (chunk2 (k0_pay5 (k0_pay3 x0 x1 x2) x5 x6)) rfl rfl inb_S4x4x128x256_S1x1x128x256_2_1_0_0 x, ?_⟩
  refine List.forall_mem_cons.mpr ⟨fun x => headPiece_emb 0#32 32#32 2 0 lanes0 (k0_pay5 (k0_pay3 x0 x1 x2) x5 x6) _ (chunk2 (k0_pay5 (k0_pay3 x0 x1 x2) x5 x6)) rfl rfl inb_S4x4x128x256_S1x1x128x256_2_0_0_0 x, ?_⟩
  refine List.forall_mem_cons.mpr ⟨fun x => headPiece_emb 96#32 128#32 1 3 lanes3 (k0_pay5 (k0_pay3 x0 x1 x2) x5 x6) _ (chunk1 (k0_pay5 (k0_pay3 x0 x1 x2) x5 x6)) rfl rfl inb_S4x4x128x256_S1x1x128x256_1_3_0_0 x, ?_⟩
  refine List.forall_mem_cons.mpr ⟨fun x => headPiece_emb 64#32 96#32 1 2 lanes2 (k0_pay5 (k0_pay3 x0 x1 x2) x5 x6) _ (chunk1 (k0_pay5 (k0_pay3 x0 x1 x2) x5 x6)) rfl rfl inb_S4x4x128x256_S1x1x128x256_1_2_0_0 x, ?_⟩
  refine List.forall_mem_cons.mpr ⟨fun x => headPiece_emb 32#32 64#32 1 1 lanes1 (k0_pay5 (k0_pay3 x0 x1 x2) x5 x6) _ (chunk1 (k0_pay5 (k0_pay3 x0 x1 x2) x5 x6)) rfl rfl inb_S4x4x128x256_S1x1x128x256_1_1_0_0 x, ?_⟩
  refine List.forall_mem_cons.mpr ⟨fun x => headPiece_emb 0#32 32#32 1 0 lanes0 (k0_pay5 (k0_pay3 x0 x1 x2) x5 x6) _ (chunk1 (k0_pay5 (k0_pay3 x0 x1 x2) x5 x6)) rfl rfl inb_S4x4x128x256_S1x1x128x256_1_0_0_0 x, ?_⟩
  refine List.forall_mem_cons.mpr ⟨fun x => headPiece_emb 96#32 128#32 0 3 lanes3 (k0_pay5 (k0_pay3 x0 x1 x2) x5 x6) _ (chunk0 (k0_pay5 (k0_pay3 x0 x1 x2) x5 x6)) rfl rfl inb_S4x4x128x256_S1x1x128x256_0_3_0_0 x, ?_⟩
  refine List.forall_mem_cons.mpr ⟨fun x => headPiece_emb 64#32 96#32 0 2 lanes2 (k0_pay5 (k0_pay3 x0 x1 x2) x5 x6) _ (chunk0 (k0_pay5 (k0_pay3 x0 x1 x2) x5 x6)) rfl rfl inb_S4x4x128x256_S1x1x128x256_0_2_0_0 x, ?_⟩
  refine List.forall_mem_cons.mpr ⟨fun x => headPiece_emb 32#32 64#32 0 1 lanes1 (k0_pay5 (k0_pay3 x0 x1 x2) x5 x6) _ (chunk0 (k0_pay5 (k0_pay3 x0 x1 x2) x5 x6)) rfl rfl inb_S4x4x128x256_S1x1x128x256_0_1_0_0 x, ?_⟩
  refine List.forall_mem_cons.mpr ⟨fun x => headPiece_emb 0#32 32#32 0 0 lanes0 (k0_pay5 (k0_pay3 x0 x1 x2) x5 x6) _ (chunk0 (k0_pay5 (k0_pay3 x0 x1 x2) x5 x6)) rfl rfl inb_S4x4x128x256_S1x1x128x256_0_0_0_0 x, ?_⟩
  exact fun p hp => absurd hp List.not_mem_nil

theorem blk0_B_10 (hc0 : ¬cond0_0 i) (x0 : Vec F S512x128 .f32) (x1 x2 : Vec F S1x128 .f32) (x3 : Vec F S128x128 .f32) (x4 : Vec F S1x128 .f32) (x5 : Vec F S128x128 .f32) (x6 : Vec F S1x128 .f32) (xo10 : Vec F S8x128 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 xo10 = k0_pay2 (k0_pay35 (k0_pay5 (k0_pay3 x0 x1 x2) x5 x6)) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 xo10)]
  unfold kernelRun0_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  rw [View.canon_unit_zero off_zero]

end Body

end Cert.KernelIdeal.Val

end
-- ==== Proof.NkvArr0.lean ====
/-
  What the first key and value call leaves in its four result arrays.
-/
module

public import proofs.«01_k».proof.Proof.Arr
public import proofs.«01_k».proof.Proof.Nkv0
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec
open Idealize.ShloMosaic.Pipeline (Dat Cfg Window cellOf)
open scoped BigOperators

variable (V : (c : Dev nD) → (b : Ref sig .tc) → Buf (Elt Ideal) ((c : Thread nD τ).loc b))

/-! ## The blocks' places -/

theorem at0_0 : ∀ t : Fin cfg0.N, win0_0.index t = ![t.val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![0, 0] := (by decide +kernel : ∀ t : Fin grid0.N, _)
theorem at0_4 : ∀ t : Fin cfg0.N, win0_4.index t = ![0, 0] := (by decide +kernel : ∀ t : Fin grid0.N, _)
theorem at0_5 : ∀ t : Fin cfg0.N, win0_5.index t = ![0, 0] := (by decide +kernel : ∀ t : Fin grid0.N, _)
theorem at0_6 : ∀ t : Fin cfg0.N, win0_6.index t = ![0, 0] := (by decide +kernel : ∀ t : Fin grid0.N, _)
theorem at0_7 : ∀ t : Fin cfg0.N, win0_7.index t = ![t.val, 0] := (by decide +kernel : ∀ t : Fin grid0.N, _)
theorem at0_8 : ∀ t : Fin cfg0.N, win0_8.index t = ![t.val, 0] := (by decide +kernel : ∀ t : Fin grid0.N, _)
theorem at0_9 : ∀ t : Fin cfg0.N, win0_9.index t = ![t.val, 0, 0, 0] := (by decide +kernel : ∀ t : Fin grid0.N, _)
theorem at0_10 : ∀ t : Fin cfg0.N, win0_10.index t = ![0, 0] := (by decide +kernel : ∀ t : Fin grid0.N, _)

theorem lt0 (t : Fin cfg0.N) : t.val < 4 := Nat.lt_of_lt_of_eq t.isLt N_0

/-! ## The input blocks -/

theorem in0_0 (c : Dev nD) (t : Fin cfg0.N) (r : Fin 512) (k : Fin 128) (R : Fin 2048) (hR : R.val = 512 * t.val + r.val) :
    iblk0 V c 0 t (ix2 r k : S512x128.Idx) = V c main_arg0 (ix2 R k : S2048x128.Idx) := by
  blk_simp [iblk0]
  refine congrArg _ (funext fun a => Fin.ext ?_)
  match a with
  | ⟨0, _⟩ =>
    blk_simp [at0_0]
    show t.val * 512 + r.val = R.val
    omega
  | ⟨1, _⟩ =>
    blk_simp [at0_0]

theorem in0_1 (c : Dev nD) (t : Fin cfg0.N) : iblk0 V c 1 t = V c main_v8 := by
  funext y
  blk_simp [iblk0]
  refine congrArg _ ?_
  blk_ext [at0_1]

theorem in0_2 (c : Dev nD) (t : Fin cfg0.N) : iblk0 V c 2 t = V c main_v9 := by
  funext y
  blk_simp [iblk0]
  refine congrArg _ ?_
  blk_ext [at0_2]

theorem in0_3 (c : Dev nD) (t : Fin cfg0.N) : iblk0 V c 3 t = V c main_v1 := by
  funext y
  blk_simp [iblk0]
  refine congrArg _ ?_
  blk_ext [at0_3]

theorem in0_4 (c : Dev nD) (t : Fin cfg0.N) : iblk0 V c 4 t = V c main_v10 := by
  funext y
  blk_simp [iblk0]
  refine congrArg _ ?_
  blk_ext [at0_4]

theorem in0_5 (c : Dev nD) (t : Fin cfg0.N) : iblk0 V c 5 t = V c main_v5 := by
  funext y
  blk_simp [iblk0]
  refine congrArg _ ?_
  blk_ext [at0_5]

theorem in0_6 (c : Dev nD) (t : Fin cfg0.N) : iblk0 V c 6 t = V c main_v11 := by
  funext y
  blk_simp [iblk0]
  refine congrArg _ ?_
  blk_ext [at0_6]

/-! ## The blocks after a point -/

theorem outs0_7 (c : Dev nD) (t : Fin cfg0.N) : (outsAt0 V c t.val t.isLt).1 = k0_pay3 (iblk0 V c 0 t) (iblk0 V c 1 t) (iblk0 V c 2 t) := by
  by_cases h : t.val % 4 = 0
  · rw [outsAt0_A V c t h]
    dsimp only
    exact blk0_A_7 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t)
  · rw [outsAt0_B V c t h]
    dsimp only
    exact blk0_B_7 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t) _

theorem outs0_8 (c : Dev nD) (t : Fin cfg0.N) : (outsAt0 V c t.val t.isLt).2.1 = k0_pay4 (iblk0 V c 0 t) (iblk0 V c 1 t) (iblk0 V c 2 t) (iblk0 V c 3 t) (iblk0 V c 4 t) := by
  by_cases h : t.val % 4 = 0
  · rw [outsAt0_A V c t h]
    dsimp only
    exact blk0_A_8 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t)
  · rw [outsAt0_B V c t h]
    dsimp only
    exact blk0_B_8 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t) _

theorem outs0_9 (c : Dev nD) (t : Fin cfg0.N) : (outsAt0 V c t.val t.isLt).2.2.1 = headsOf (k0_pay5 (k0_pay3 (iblk0 V c 0 t) (iblk0 V c 1 t) (iblk0 V c 2 t)) (iblk0 V c 5 t) (iblk0 V c 6 t)) := by
  by_cases h : t.val % 4 = 0
  · rw [outsAt0_A V c t h]
    dsimp only
    exact blk0_A_9 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t)
  · rw [outsAt0_B V c t h]
    dsimp only
    exact blk0_B_9 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t) _

theorem outs0_10_A (c : Dev nD) (t : Fin cfg0.N) (h : t.val = 0) :
    (outsAt0 V c t.val t.isLt).2.2.2 = k0_pay2 (k0_pay35 (k0_pay5 (k0_pay3 (iblk0 V c 0 t) (iblk0 V c 1 t) (iblk0 V c 2 t)) (iblk0 V c 5 t) (iblk0 V c 6 t))) (k0_pay1 (F := Ideal)) := by
  rw [outsAt0_A V c t (by rw [h])]
  dsimp only
  exact blk0_A_10 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t)

theorem outs0_10_B (c : Dev nD) (t : Fin cfg0.N) (h : t.val ≠ 0) :
    (outsAt0 V c t.val t.isLt).2.2.2
      = k0_pay2 (k0_pay35 (k0_pay5 (k0_pay3 (iblk0 V c 0 t) (iblk0 V c 1 t) (iblk0 V c 2 t)) (iblk0 V c 5 t) (iblk0 V c 6 t))) (outsAt0 V c (t.val - 1) (Nat.lt_of_le_of_lt (Nat.sub_le _ _) t.isLt)).2.2.2 := by
  rw [outsAt0_B V c t (by have := lt0 t; omega)]
  dsimp only
  exact blk0_B_10 c (grid0.coords t) (hs0_0 t) (hs0_1 t) (hs0_2 t) (hs0_3 t) (hs0_4 t) (hs0_5 t) (hs0_6 t) (hs0_7 t) (hs0_8 t) (hs0_9 t) (hs0_10 t) _ (iblk0 V c 0 t) (iblk0 V c 1 t) (iblk0 V c 2 t) (iblk0 V c 3 t) (iblk0 V c 4 t) (iblk0 V c 5 t) (iblk0 V c 6 t) _

/-- A block's normalised rows are rows of the whole normalised array. -/
theorem nxRow0 (c : Dev nD) (t : Fin cfg0.N) (r : Fin 512) (k : Fin 128) (R : Fin 2048) (hR : R.val = 512 * t.val + r.val) :
    k0_pay3 (iblk0 V c 0 t) (iblk0 V c 1 t) (iblk0 V c 2 t) (ix2 r k) = (lnArr (n := 2048) (V c main_arg0) (V c main_v8) (V c main_v9)) (ix2 R k) := by
  refine (k0_pay3_apply _ _ _ r k).trans ?_
  rw [in0_1, in0_2]
  exact congrArg (fun x => lnRow x _ _ k) (funext fun l => in0_0 V c t r l R hR)

/-- A block's values are rows of the whole array of values. -/
theorem valRow0 (c : Dev nD) (t : Fin cfg0.N) (r : Fin 512) (k : Fin 128) (R : Fin 2048) (hR : R.val = 512 * t.val + r.val) :
    (k0_pay5 (k0_pay3 (iblk0 V c 0 t) (iblk0 V c 1 t) (iblk0 V c 2 t)) (iblk0 V c 5 t) (iblk0 V c 6 t)) (ix2 r k) = (linArr (lnArr (n := 2048) (V c main_arg0) (V c main_v8) (V c main_v9)) (V c main_v5) (V c main_v11)) (ix2 R k) := by
  refine (k0_pay5_apply _ _ _ r k).trans ?_
  rw [in0_5, in0_6]
  exact congrArg (fun x => lin x _ _ k) (funext fun l => nxRow0 V c t r l R hR)

/-! ## The arrays -/

theorem nxArr0 (c : Dev nD) : (dat0 V c).arrAt 7 cfg0.N = (lnArr (n := 2048) (V c main_arg0) (V c main_v8) (V c main_v9)) := by
  refine (dat0 V c).arrAt_eq_of_covers 7 _ (by decide +kernel) fun t hf y => ?_
  blk_simp
  rw [after0_7, outs0_7]
  obtain ⟨r, k, rfl⟩ : ∃ (r : Fin 512) (k : Fin 128), y = (ix2 r k : S512x128.Idx) := ⟨y 0, y 1, funext fun a => by fin_cases a <;> rfl⟩
  have hlt := lt0 t
  refine (nxRow0 V c t r k ⟨512 * t.val + r.val, by omega⟩ rfl).trans (congrArg _ ?_)
  blk_ext [at0_7]

theorem kArr0 (c : Dev nD) : (dat0 V c).arrAt 8 cfg0.N = (linArr (lnArr (n := 2048) (V c main_arg0) (V c main_v8) (V c main_v9)) (V c main_v1) (V c main_v10)) := by
  refine (dat0 V c).arrAt_eq_of_covers 8 _ (by decide +kernel) fun t hf y => ?_
  blk_simp
  rw [after0_8, outs0_8]
  obtain ⟨r, k, rfl⟩ : ∃ (r : Fin 512) (k : Fin 128), y = (ix2 r k : S512x128.Idx) := ⟨y 0, y 1, funext fun a => by fin_cases a <;> rfl⟩
  have hlt := lt0 t
  refine (k0_pay4_apply _ _ _ _ _ r k).trans ?_
  rw [in0_3, in0_4]
  refine (congrArg (fun x => lin x _ _ k) (funext fun l => nxRow0 V c t r l ⟨512 * t.val + r.val, by omega⟩ rfl)).trans ?_
  show linArr (lnArr (n := 2048) (V c main_arg0) (V c main_v8) (V c main_v9)) (V c main_v1) (V c main_v10) (ix2 (⟨512 * t.val + r.val, by omega⟩ : Fin 2048) k) = _
  refine congrArg _ ?_
  blk_ext [at0_8]

theorem headsArr0 (c : Dev nD) : (dat0 V c).arrAt 9 cfg0.N = headsArr (C := 16) (linArr (lnArr (n := 2048) (V c main_arg0) (V c main_v8) (V c main_v9)) (V c main_v5) (V c main_v11)) := by
  refine (dat0 V c).arrAt_eq_of_covers 9 _ (by decide +kernel) fun t hf y => ?_
  blk_simp
  rw [after0_9, outs0_9]
  obtain ⟨q0, q1, q2, q3, rfl⟩ : ∃ (q0 q1 : Fin 4) (q2 : Fin 128) (q3 : Fin 256), y = (ix4 q0 q1 q2 q3 : S4x4x128x256.Idx) :=
    ⟨y 0, y 1, y 2, y 3, funext fun a => by fin_cases a <;> rfl⟩
  have hlt := lt0 t
  have e : (win0_9.blk t).view.emb (ix4 q0 q1 q2 q3 : S4x4x128x256.Idx)
      = (ix4 (⟨4 * t.val + q0.val, by omega⟩ : Fin 16) q1 q2 q3 : S16x4x128x256.Idx) := by
    blk_ext [at0_9]
  refine Eq.trans ?_ (congrArg _ e.symm)
  refine headsOf_eq_headsArr _ _ q0 q1 q2 q3 (⟨4 * t.val + q0.val, by omega⟩ : Fin 16) fun j => valRow0 V c t _ j _ ?_
  show (128 * (4 * t.val + q0.val) + q2.val) % 2048 = 512 * t.val + (128 * q0.val + q2.val)
  omega

/-- The running sums after a point: the values of every row so far, by the row's remainder by 8. -/
theorem running0 (c : Dev nD) (a : Fin 8) (j : Fin 128) : ∀ (k : ℕ) (t : Fin cfg0.N), t.val = k →
    (outsAt0 V c t.val t.isLt).2.2.2 (ix2 a j) = sumsArr (64 * (k + 1)) (linArr (lnArr (n := 2048) (V c main_arg0) (V c main_v8) (V c main_v9)) (V c main_v5) (V c main_v11)) (ix2 a j) := by
  have step : ∀ t : Fin cfg0.N,
      k0_pay35 (k0_pay5 (k0_pay3 (iblk0 V c 0 t) (iblk0 V c 1 t) (iblk0 V c 2 t)) (iblk0 V c 5 t) (iblk0 V c 6 t)) (ix2 a j) = ∑ g ∈ Finset.range 64, (linArr (lnArr (n := 2048) (V c main_arg0) (V c main_v8) (V c main_v9)) (V c main_v5) (V c main_v11)) (ix2 (Fin.ofNat 2048 (8 * (64 * t.val + g) + a.val)) j) := fun t => by
    have hlt := lt0 t
    refine (k0_pay35_apply _ a j).trans ((Finset.sum_congr rfl fun g _ => ?_).trans (Finset.sum_range (fun g => _)).symm)
    refine valRow0 V c t _ j _ ?_
    show (8 * (64 * t.val + g.val) + a.val) % 2048 = 512 * t.val + (8 * g.val + a.val)
    omega
  intro k
  induction k with
  | zero =>
    intro t ht
    rw [outs0_10_A V c t ht]
    refine (k0_pay2_apply _ _ a j).trans ?_
    refine (congrArg₂ (· + ·) (k0_pay1_apply a j) (step t)).trans ?_
    rw [zero_add, ht]
    show _ = ∑ g ∈ Finset.range 64, (linArr (lnArr (n := 2048) (V c main_arg0) (V c main_v8) (V c main_v9)) (V c main_v5) (V c main_v11)) (ix2 (Fin.ofNat 2048 (8 * g + a.val)) j)
    simp only [Nat.mul_zero, Nat.zero_add]
  | succ k ih =>
    intro t ht
    rw [outs0_10_B V c t (by omega)]
    refine (k0_pay2_apply _ _ a j).trans ?_
    refine (congrArg₂ (· + ·) (ih ⟨t.val - 1, Nat.lt_of_le_of_lt (Nat.sub_le _ _) t.isLt⟩ (by show t.val - 1 = k; omega)) (step t)).trans ?_
    rw [ht]
    exact (Finset.sum_range_add (fun g => (linArr (lnArr (n := 2048) (V c main_arg0) (V c main_v8) (V c main_v9)) (V c main_v5) (V c main_v11)) (ix2 (Fin.ofNat 2048 (8 * g + a.val)) j)) (64 * (k + 1)) 64).symm

theorem sumsArr0 (c : Dev nD) : (dat0 V c).arrAt 10 cfg0.N = sumsArr 256 (linArr (lnArr (n := 2048) (V c main_arg0) (V c main_v8) (V c main_v9)) (V c main_v5) (V c main_v11)) := by
  have hw : ∀ t : Fin cfg0.N, t.val = 3 → (cfg0.win 10).WholeAt t := by decide +kernel
  obtain ⟨t, ht⟩ : ∃ t : Fin cfg0.N, t.val = 3 := ⟨⟨3, by decide +kernel⟩, rfl⟩
  refine (dat0 V c).arrAt_eq_of_after_last 10 t (hw t ht) _ fun y => ?_
  blk_simp
  rw [after0_10]
  obtain ⟨a, j, rfl⟩ : ∃ (a : Fin 8) (j : Fin 128), y = (ix2 a j : S8x128.Idx) := ⟨y 0, y 1, funext fun a => by fin_cases a <;> rfl⟩
  exact running0 V c a j 3 t ht

end Cert.KernelIdeal.Val

end
-- ==== Proof.Nkv1.lean ====
/-
  What the second key and value call (4096 rows, blocks of 512) leaves in its four output blocks at each point: the
  normalised rows, the keys, the values head by head, and the running sums of the values.
-/
module

public import proofs.«01_k».proof.Proof.NkvPay
public import proofs.«01_k».proof.Proof.Nest
public import proofs.«01_k».proof.Proof.Gen.KernelIdeal.Frame.Region1

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec
open Idealize.ShloMosaic.Pipeline (Dat Cfg Window cellOf)
open scoped BigOperators

variable {F : FTy → Type} [FloatOps F] [Named F]

/-! ## The body's blocks from its inputs -/

section Body
variable (c : Dev nD) (i : grid1.Coords) {arg1 : Memref sig .tc .vmem S512x128 .f32} (harg1 : arg1.IsWhole) {arg2 : Memref sig .tc .vmem S1x128 .f32} (harg2 : arg2.IsWhole) {arg3 : Memref sig .tc .vmem S1x128 .f32} (harg3 : arg3.IsWhole) {arg4 : Memref sig .tc .vmem S128x128 .f32} (harg4 : arg4.IsWhole) {arg5 : Memref sig .tc .vmem S1x128 .f32} (harg5 : arg5.IsWhole) {arg6 : Memref sig .tc .vmem S128x128 .f32} (harg6 : arg6.IsWhole) {arg7 : Memref sig .tc .vmem S1x128 .f32} (harg7 : arg7.IsWhole) {arg8 : Memref sig .tc .vmem S512x128 .f32} (harg8 : arg8.IsWhole) {arg9 : Memref sig .tc .vmem S512x128 .bf16} (harg9 : arg9.IsWhole) {arg10 : Memref sig .tc .vmem S4x4x128x256 .bf16} (harg10 : arg10.IsWhole) {arg11 : Memref sig .tc .vmem S8x128 .f32} (harg11 : arg11.IsWhole)

theorem blk1_A_7 (hc0 : cond1_0 i) (x0 : Vec F S512x128 .f32) (x1 x2 : Vec F S1x128 .f32) (x3 : Vec F S128x128 .f32) (x4 : Vec F S1x128 .f32) (x5 : Vec F S128x128 .f32) (x6 : Vec F S1x128 .f32) :
    out1_A_7 c i arg1 harg1 arg2 harg2 arg3 harg3 arg4 harg4 arg5 harg5 arg6 harg6 arg7 harg7 arg8 harg8 arg9 harg9 arg10 harg10 arg11 harg11 hc0 x0 x1 x2 x3 x4 x5 x6 = k1_pay3 x0 x1 x2 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  rw [View.canon_unit_zero off_zero]

theorem blk1_A_8 (hc0 : cond1_0 i) (x0 : Vec F S512x128 .f32) (x1 x2 : Vec F S1x128 .f32) (x3 : Vec F S128x128 .f32) (x4 : Vec F S1x128 .f32) (x5 : Vec F S128x128 .f32) (x6 : Vec F S1x128 .f32) :
    out1_A_8 c i arg1 harg1 arg2 harg2 arg3 harg3 arg4 harg4 arg5 harg5 arg6 harg6 arg7 harg7 arg8 harg8 arg9 harg9 arg10 harg10 arg11 harg11 hc0 x0 x1 x2 x3 x4 x5 x6 = k1_pay4 x0 x1 x2 x3 x4 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  rw [View.canon_unit_zero off_zero]

theorem blk1_A_9 (hc0 : cond1_0 i) (x0 : Vec Ideal S512x128 .f32) (x1 x2 : Vec Ideal S1x128 .f32) (x3 : Vec Ideal S128x128 .f32) (x4 : Vec Ideal S1x128 .f32) (x5 : Vec Ideal S128x128 .f32) (x6 : Vec Ideal S1x128 .f32) :
    out1_A_9 c i arg1 harg1 arg2 harg2 arg3 harg3 arg4 harg4 arg5 harg5 arg6 harg6 arg7 harg7 arg8 harg8 arg9 harg9 arg10 harg10 arg11 harg11 hc0 x0 x1 x2 x3 x4 x5 x6 = headsOf (k0_pay5 (k0_pay3 x0 x1 x2) x5 x6) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 hc0 x0 x1 x2 x3 x4 x5 x6)]
  refine funext fun y => View.canon_apply_of_pieces (headsOf _) _ ?_ y (cover1_A_9 c i arg1 harg1 arg2 harg2 arg3 harg3 arg4 harg4 arg5 harg5 arg6 harg6 arg7 harg7 arg8 harg8 arg9 harg9 arg10 harg10 arg11 harg11 hc0 x0 x1 x2 x3 x4 x5 x6 y)
  unfold kernelRun1_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  refine List.forall_mem_cons.mpr ⟨fun x => headPiece_emb 96#32 128#32 3 3 lanes3 (k1_pay5 (k1_pay3 x0 x1 x2) x5 x6) _ (chunk3 (k1_pay5 (k1_pay3 x0 x1 x2) x5 x6)) rfl rfl inb_S4x4x128x256_S1x1x128x256_3_3_0_0 x, ?_⟩
  refine List.forall_mem_cons.mpr ⟨fun x => headPiece_emb 64#32 96#32 3 2 lanes2 (k1_pay5 (k1_pay3 x0 x1 x2) x5 x6) _ (chunk3 (k1_pay5 (k1_pay3 x0 x1 x2) x5 x6)) rfl rfl inb_S4x4x128x256_S1x1x128x256_3_2_0_0 x, ?_⟩
  refine List.forall_mem_cons.mpr ⟨fun x => headPiece_emb 32#32 64#32 3 1 lanes1 (k1_pay5 (k1_pay3 x0 x1 x2) x5 x6) _ (chunk3 (k1_pay5 (k1_pay3 x0 x1 x2) x5 x6)) rfl rfl inb_S4x4x128x256_S1x1x128x256_3_1_0_0 x, ?_⟩
  refine List.forall_mem_cons.mpr ⟨fun x => headPiece_emb 0#32 32#32 3 0 lanes0 (k1_pay5 (k1_pay3 x0 x1 x2) x5 x6) _ (chunk3 (k1_pay5 (k1_pay3 x0 x1 x2) x5 x6)) rfl rfl inb_S4x4x128x256_S1x1x128x256_3_0_0_0 x, ?_⟩
  refine List.forall_mem_cons.mpr ⟨fun x => headPiece_emb 96#32 128#32 2 3 lanes3 (k1_pay5 (k1_pay3 x0 x1 x2) x5 x6) _ (chunk2 (k1_pay5 (k1_pay3 x0 x1 x2) x5 x6)) rfl rfl inb_S4x4x128x256_S1x1x128x256_2_3_0_0 x, ?_⟩
  refine List.forall_mem_cons.mpr ⟨fun x => headPiece_emb 64#32 96#32 2 2 lanes2 (k1_pay5 (k1_pay3 x0 x1 x2) x5 x6) _ (chunk2 (k1_pay5 (k1_pay3 x0 x1 x2) x5 x6)) rfl rfl inb_S4x4x128x256_S1x1x128x256_2_2_0_0 x, ?_⟩
  refine List.forall_mem_cons.mpr ⟨fun x => headPiece_emb 32#32 64#32 2 1 lanes1 (k1_pay5 (k1_pay3 x0 x1 x2) x5 x6) _ (chunk2 (k1_pay5 (k1_pay3 x0 x1 x2) x5 x6)) rfl rfl inb_S4x4x128x256_S1x1x128x256_2_1_0_0 x, ?_⟩
  refine List.forall_mem_cons.mpr ⟨fun x => headPiece_emb 0#32 32#32 2 0 lanes0 (k1_pay5 (k1_pay3 x0 x1 x2) x5 x6) _ (chunk2 (k1_pay5 (k1_pay3 x0 x1 x2) x5 x6)) rfl rfl inb_S4x4x128x256_S1x1x128x256_2_0_0_0 x, ?_⟩
  refine List.forall_mem_cons.mpr ⟨fun x => headPiece_emb 96#32 128#32 1 3 lanes3 (k1_pay5 (k1_pay3 x0 x1 x2) x5 x6) _ (chunk1 (k1_pay5 (k1_pay3 x0 x1 x2) x5 x6)) rfl rfl inb_S4x4x128x256_S1x1x128x256_1_3_0_0 x, ?_⟩
  refine List.forall_mem_cons.mpr ⟨fun x => headPiece_emb 64#32 96#32 1 2 lanes2 (k1_pay5 (k1_pay3 x0 x1 x2) x5 x6) _ (chunk1 (k1_pay5 (k1_pay3 x0 x1 x2) x5 x6)) rfl rfl inb_S4x4x128x256_S1x1x128x256_1_2_0_0 x, ?_⟩
  refine List.forall_mem_cons.mpr ⟨fun x => headPiece_emb 32#32 64#32 1 1 lanes1 (k1_pay5 (k1_pay3 x0 x1 x2) x5 x6) _ (chunk1 (k1_pay5 (k1_pay3 x0 x1 x2) x5 x6)) rfl rfl inb_S4x4x128x256_S1x1x128x256_1_1_0_0 x, ?_⟩
  refine List.forall_mem_cons.mpr ⟨fun x => headPiece_emb 0#32 32#32 1 0 lanes0 (k1_pay5 (k1_pay3 x0 x1 x2) x5 x6) _ (chunk1 (k1_pay5 (k1_pay3 x0 x1 x2) x5 x6)) rfl rfl inb_S4x4x128x256_S1x1x128x256_1_0_0_0 x, ?_⟩
  refine List.forall_mem_cons.mpr ⟨fun x => headPiece_emb 96#32 128#32 0 3 lanes3 (k1_pay5 (k1_pay3 x0 x1 x2) x5 x6) _ (chunk0 (k1_pay5 (k1_pay3 x0 x1 x2) x5 x6)) rfl rfl inb_S4x4x128x256_S1x1x128x256_0_3_0_0 x, ?_⟩
  refine List.forall_mem_cons.mpr ⟨fun x => headPiece_emb 64#32 96#32 0 2 lanes2 (k1_pay5 (k1_pay3 x0 x1 x2) x5 x6) _ (chunk0 (k1_pay5 (k1_pay3 x0 x1 x2) x5 x6)) rfl rfl inb_S4x4x128x256_S1x1x128x256_0_2_0_0 x, ?_⟩
  refine List.forall_mem_cons.mpr ⟨fun x => headPiece_emb 32#32 64#32 0 1 lanes1 (k1_pay5 (k1_pay3 x0 x1 x2) x5 x6) _ (chunk0 (k1_pay5 (k1_pay3 x0 x1 x2) x5 x6)) rfl rfl inb_S4x4x128x256_S1x1x128x256_0_1_0_0 x, ?_⟩
  refine List.forall_mem_cons.mpr ⟨fun x => headPiece_emb 0#32 32#32 0 0 lanes0 (k1_pay5 (k1_pay3 x0 x1 x2) x5 x6) _ (chunk0 (k1_pay5 (k1_pay3 x0 x1 x2) x5 x6)) rfl rfl inb_S4x4x128x256_S1x1x128x256_0_0_0_0 x, ?_⟩
  exact fun p hp => absurd hp List.not_mem_nil

theorem blk1_A_10 (hc0 : cond1_0 i) (x0 : Vec F S512x128 .f32) (x1 x2 : Vec F S1x128 .f32) (x3 : Vec F S128x128 .f32) (x4 : Vec F S1x128 .f32) (x5 : Vec F S128x128 .f32) (x6 : Vec F S1x128 .f32) :
    out1_A_10 c i arg1 harg1 arg2 harg2 arg3 harg3 arg4 harg4 arg5 harg5 arg6 harg6 arg7 harg7 arg8 harg8 arg9 harg9 arg10 harg10 arg11 harg11 hc0 x0 x1 x2 x3 x4 x5 x6 = k1_pay2 (k1_pay35 (k1_pay5 (k1_pay3 x0 x1 x2) x5 x6)) k1_pay1 := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread, ld_rows, ld_vec, ld_mat, ld_sums]
  rw [View.canon_cons_unit_zero off_zero]
  rw [View.readCov_unit_zero _ off_zero]

theorem blk1_B_7 (hc0 : ¬cond1_0 i) (x0 : Vec F S512x128 .f32) (x1 x2 : Vec F S1x128 .f32) (x3 : Vec F S128x128 .f32) (x4 : Vec F S1x128 .f32) (x5 : Vec F S128x128 .f32) (x6 : Vec F S1x128 .f32) (xo10 : Vec F S8x128 .f32) :
    out1_B_7 c i arg1 harg1 arg2 harg2 arg3 harg3 arg4 harg4 arg5 harg5 arg6 harg6 arg7 harg7 arg8 harg8 arg9 harg9 arg10 harg10 arg11 harg11 hc0 x0 x1 x2 x3 x4 x5 x6 xo10 = k1_pay3 x0 x1 x2 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 arg11 harg11 hc0 x0 x1 x2 x3 x4 x5 x6 xo10)]
  unfold kernelRun1_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  rw [View.canon_unit_zero off_zero]

theorem blk1_B_8 (hc0 : ¬cond1_0 i) (x0 : Vec F S512x128 .f32) (x1 x2 : Vec F S1x128 .f32) (x3 : Vec F S128x128 .f32) (x4 : Vec F S1x128 .f32) (x5 : Vec F S128x128 .f32) (x6 : Vec F S1x128 .f32) (xo10 : Vec F S8x128 .f32) :
    out1_B_8 c i arg1 harg1 arg2 harg2 arg3 harg3 arg4 harg4 arg5 harg5 arg6 harg6 arg7 harg7 arg8 harg8 arg9 harg9 arg10 harg10 arg11 harg11 hc0 x0 x1 x2 x3 x4 x5 x6 xo10 = k1_pay4 x0 x1 x2 x3 x4 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 arg11 harg11 hc0 x0 x1 x2 x3 x4 x5 x6 xo10)]
  unfold kernelRun1_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  rw [View.canon_unit_zero off_zero]

theorem blk1_B_9 (hc0 : ¬cond1_0 i) (x0 : Vec Ideal S512x128 .f32) (x1 x2 : Vec Ideal S1x128 .f32) (x3 : Vec Ideal S128x128 .f32) (x4 : Vec Ideal S1x128 .f32) (x5 : Vec Ideal S128x128 .f32) (x6 : Vec Ideal S1x128 .f32) (xo10 : Vec Ideal S8x128 .f32) :
    out1_B_9 c i arg1 harg1 arg2 harg2 arg3 harg3 arg4 harg4 arg5 harg5 arg6 harg6 arg7 harg7 arg8 harg8 arg9 harg9 arg10 harg10 arg11 harg11 hc0 x0 x1 x2 x3 x4 x5 x6 xo10 = headsOf (k0_pay5 (k0_pay3 x0 x1 x2) x5 x6) := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 arg11 harg11 hc0 x0 x1 x2 x3 x4 x5 x6 xo10)]
  refine funext fun y => View.canon_apply_of_pieces (headsOf _) _ ?_ y (cover1_B_9 c i arg1 harg1 arg2 harg2 arg3 harg3 arg4 harg4 arg5 harg5 arg6 harg6 arg7 harg7 arg8 harg8 arg9 harg9 arg10 harg10 arg11 harg11 hc0 x0 x1 x2 x3 x4 x5 x6 xo10 y)
  unfold kernelRun1_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  refine List.forall_mem_cons.mpr ⟨fun x => headPiece_emb 96#32 128#32 3 3 lanes3 (k1_pay5 (k1_pay3 x0 x1 x2) x5 x6) _ (chunk3 (k1_pay5 (k1_pay3 x0 x1 x2) x5 x6)) rfl rfl inb_S4x4x128x256_S1x1x128x256_3_3_0_0 x, ?_⟩
  refine List.forall_mem_cons.mpr ⟨fun x => headPiece_emb 64#32 96#32 3 2 lanes2 (k1_pay5 (k1_pay3 x0 x1 x2) x5 x6) _ (chunk3 (k1_pay5 (k1_pay3 x0 x1 x2) x5 x6)) rfl rfl inb_S4x4x128x256_S1x1x128x256_3_2_0_0 x, ?_⟩
  refine List.forall_mem_cons.mpr ⟨fun x => headPiece_emb 32#32 64#32 3 1 lanes1 (k1_pay5 (k1_pay3 x0 x1 x2) x5 x6) _ (chunk3 (k1_pay5 (k1_pay3 x0 x1 x2) x5 x6)) rfl rfl inb_S4x4x128x256_S1x1x128x256_3_1_0_0 x, ?_⟩
  refine List.forall_mem_cons.mpr ⟨fun x => headPiece_emb 0#32 32#32 3 0 lanes0 (k1_pay5 (k1_pay3 x0 x1 x2) x5 x6) _ (chunk3 (k1_pay5 (k1_pay3 x0 x1 x2) x5 x6)) rfl rfl inb_S4x4x128x256_S1x1x128x256_3_0_0_0 x, ?_⟩
  refine List.forall_mem_cons.mpr ⟨fun x => headPiece_emb 96#32 128#32 2 3 lanes3 (k1_pay5 (k1_pay3 x0 x1 x2) x5 x6) _ (chunk2 (k1_pay5 (k1_pay3 x0 x1 x2) x5 x6)) rfl rfl inb_S4x4x128x256_S1x1x128x256_2_3_0_0 x, ?_⟩
  refine List.forall_mem_cons.mpr ⟨fun x => headPiece_emb 64#32 96#32 2 2 lanes2 (k1_pay5 (k1_pay3 x0 x1 x2) x5 x6) _ (chunk2 (k1_pay5 (k1_pay3 x0 x1 x2) x5 x6)) rfl rfl inb_S4x4x128x256_S1x1x128x256_2_2_0_0 x, ?_⟩
  refine List.forall_mem_cons.mpr ⟨fun x => headPiece_emb 32#32 64#32 2 1 lanes1 (k1_pay5 (k1_pay3 x0 x1 x2) x5 x6) _ (chunk2 (k1_pay5 (k1_pay3 x0 x1 x2) x5 x6)) rfl rfl inb_S4x4x128x256_S1x1x128x256_2_1_0_0 x, ?_⟩
  refine List.forall_mem_cons.mpr ⟨fun x => headPiece_emb 0#32 32#32 2 0 lanes0 (k1_pay5 (k1_pay3 x0 x1 x2) x5 x6) _ (chunk2 (k1_pay5 (k1_pay3 x0 x1 x2) x5 x6)) rfl rfl inb_S4x4x128x256_S1x1x128x256_2_0_0_0 x, ?_⟩
  refine List.forall_mem_cons.mpr ⟨fun x => headPiece_emb 96#32 128#32 1 3 lanes3 (k1_pay5 (k1_pay3 x0 x1 x2) x5 x6) _ (chunk1 (k1_pay5 (k1_pay3 x0 x1 x2) x5 x6)) rfl rfl inb_S4x4x128x256_S1x1x128x256_1_3_0_0 x, ?_⟩
  refine List.forall_mem_cons.mpr ⟨fun x => headPiece_emb 64#32 96#32 1 2 lanes2 (k1_pay5 (k1_pay3 x0 x1 x2) x5 x6) _ (chunk1 (k1_pay5 (k1_pay3 x0 x1 x2) x5 x6)) rfl rfl inb_S4x4x128x256_S1x1x128x256_1_2_0_0 x, ?_⟩
  refine List.forall_mem_cons.mpr ⟨fun x => headPiece_emb 32#32 64#32 1 1 lanes1 (k1_pay5 (k1_pay3 x0 x1 x2) x5 x6) _ (chunk1 (k1_pay5 (k1_pay3 x0 x1 x2) x5 x6)) rfl rfl inb_S4x4x128x256_S1x1x128x256_1_1_0_0 x, ?_⟩
  refine List.forall_mem_cons.mpr ⟨fun x => headPiece_emb 0#32 32#32 1 0 lanes0 (k1_pay5 (k1_pay3 x0 x1 x2) x5 x6) _ (chunk1 (k1_pay5 (k1_pay3 x0 x1 x2) x5 x6)) rfl rfl inb_S4x4x128x256_S1x1x128x256_1_0_0_0 x, ?_⟩
  refine List.forall_mem_cons.mpr ⟨fun x => headPiece_emb 96#32 128#32 0 3 lanes3 (k1_pay5 (k1_pay3 x0 x1 x2) x5 x6) _ (chunk0 (k1_pay5 (k1_pay3 x0 x1 x2) x5 x6)) rfl rfl inb_S4x4x128x256_S1x1x128x256_0_3_0_0 x, ?_⟩
  refine List.forall_mem_cons.mpr ⟨fun x => headPiece_emb 64#32 96#32 0 2 lanes2 (k1_pay5 (k1_pay3 x0 x1 x2) x5 x6) _ (chunk0 (k1_pay5 (k1_pay3 x0 x1 x2) x5 x6)) rfl rfl inb_S4x4x128x256_S1x1x128x256_0_2_0_0 x, ?_⟩
  refine List.forall_mem_cons.mpr ⟨fun x => headPiece_emb 32#32 64#32 0 1 lanes1 (k1_pay5 (k1_pay3 x0 x1 x2) x5 x6) _ (chunk0 (k1_pay5 (k1_pay3 x0 x1 x2) x5 x6)) rfl rfl inb_S4x4x128x256_S1x1x128x256_0_1_0_0 x, ?_⟩
  refine List.forall_mem_cons.mpr ⟨fun x => headPiece_emb 0#32 32#32 0 0 lanes0 (k1_pay5 (k1_pay3 x0 x1 x2) x5 x6) _ (chunk0 (k1_pay5 (k1_pay3 x0 x1 x2) x5 x6)) rfl rfl inb_S4x4x128x256_S1x1x128x256_0_0_0_0 x, ?_⟩
  exact fun p hp => absurd hp List.not_mem_nil

theorem blk1_B_10 (hc0 : ¬cond1_0 i) (x0 : Vec F S512x128 .f32) (x1 x2 : Vec F S1x128 .f32) (x3 : Vec F S128x128 .f32) (x4 : Vec F S1x128 .f32) (x5 : Vec F S128x128 .f32) (x6 : Vec F S1x128 .f32) (xo10 : Vec F S8x128 .f32) :
    out1_B_10 c i arg1 harg1 arg2 harg2 arg3 harg3 arg4 harg4 arg5 harg5 arg6 harg6 arg7 harg7 arg8 harg8 arg9 harg9 arg10 harg10 arg11 harg11 hc0 x0 x1 x2 x3 x4 x5 x6 xo10 = k1_pay2 (k1_pay35 (k1_pay5 (k1_pay3 x0 x1 x2) x5 x6)) xo10 := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 hc0 x0 x1 x2 x3 x4 x5 x6 xo10)]
  unfold kernelRun1_B
  dsimp only
  sl_unfold_words
  simp only [View.readAt_eq_ld, harg1.read_unread, harg2.read_unread, harg3.read_unread, harg4.read_unread, harg5.read_unread, harg6.read_unread, harg7.read_unread, harg11.read_unread, ld_rows, ld_vec, ld_mat, ld_sums]
  rw [View.canon_unit_zero off_zero]

end Body

end Cert.KernelIdeal.Val

end
-- ==== Proof.NkvArr1.lean ====
/-
  What the second key and value call leaves in its four result arrays.
-/
module

public import proofs.«01_k».proof.Proof.Arr
public import proofs.«01_k».proof.Proof.Nkv1
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec
open Idealize.ShloMosaic.Pipeline (Dat Cfg Window cellOf)
open scoped BigOperators

variable (V : (c : Dev nD) → (b : Ref sig .tc) → Buf (Elt Ideal) ((c : Thread nD τ).loc b))

/-! ## The blocks' places -/

theorem at1_0 : ∀ t : Fin cfg1.N, win1_0.index t = ![t.val, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![t.val, 0] := (by decide +kernel : ∀ t : Fin grid1.N, _)
theorem at1_8 : ∀ t : Fin cfg1.N, win1_8.index t = ![t.val, 0] := (by decide +kernel : ∀ t : Fin grid1.N, _)
theorem at1_9 : ∀ t : Fin cfg1.N, win1_9.index t = ![t.val, 0, 0, 0] := (by decide +kernel : ∀ t : Fin grid1.N, _)
theorem at1_10 : ∀ t : Fin cfg1.N, win1_10.index t = ![0, 0] := (by decide +kernel : ∀ t : Fin grid1.N, _)

theorem lt1 (t : Fin cfg1.N) : t.val < 8 := Nat.lt_of_lt_of_eq t.isLt N_1

/-! ## The input blocks -/

theorem in1_0 (c : Dev nD) (t : Fin cfg1.N) (r : Fin 512) (k : Fin 128) (R : Fin 4096) (hR : R.val = 512 * t.val + r.val) :
    iblk1 V c 0 t (ix2 r k : S512x128.Idx) = V c main_arg1 (ix2 R k : S4096x128.Idx) := by
  blk_simp [iblk1]
  refine congrArg _ (funext fun a => Fin.ext ?_)
  match a with
  | ⟨0, _⟩ =>
    blk_simp [at1_0]
    show t.val * 512 + r.val = R.val
    omega
  | ⟨1, _⟩ =>
    blk_simp [at1_0]

theorem in1_1 (c : Dev nD) (t : Fin cfg1.N) : iblk1 V c 1 t = V c main_v22 := by
  funext y
  blk_simp [iblk1]
  refine congrArg _ ?_
  blk_ext [at1_1]

theorem in1_2 (c : Dev nD) (t : Fin cfg1.N) : iblk1 V c 2 t = V c main_v23 := by
  funext y
  blk_simp [iblk1]
  refine congrArg _ ?_
  blk_ext [at1_2]

theorem in1_3 (c : Dev nD) (t : Fin cfg1.N) : iblk1 V c 3 t = V c main_v15 := by
  funext y
  blk_simp [iblk1]
  refine congrArg _ ?_
  blk_ext [at1_3]

theorem in1_4 (c : Dev nD) (t : Fin cfg1.N) : iblk1 V c 4 t = V c main_v24 := by
  funext y
  blk_simp [iblk1]
  refine congrArg _ ?_
  blk_ext [at1_4]

theorem in1_5 (c : Dev nD) (t : Fin cfg1.N) : iblk1 V c 5 t = V c main_v19 := by
  funext y
  blk_simp [iblk1]
  refine congrArg _ ?_
  blk_ext [at1_5]

theorem in1_6 (c : Dev nD) (t : Fin cfg1.N) : iblk1 V c 6 t = V c main_v25 := by
  funext y
  blk_simp [iblk1]
  refine congrArg _ ?_
  blk_ext [at1_6]

/-! ## The blocks after a point -/

theorem outs1_7 (c : Dev nD) (t : Fin cfg1.N) : (outsAt1 V c t.val t.isLt).1 = k1_pay3 (iblk1 V c 0 t) (iblk1 V c 1 t) (iblk1 V c 2 t) := by
  by_cases h : t.val % 8 = 0
  · rw [outsAt1_A V c t h]
    dsimp only
    exact blk1_A_7 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t)
  · rw [outsAt1_B V c t h]
    dsimp only
    exact blk1_B_7 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t) _

theorem outs1_8 (c : Dev nD) (t : Fin cfg1.N) : (outsAt1 V c t.val t.isLt).2.1 = k1_pay4 (iblk1 V c 0 t) (iblk1 V c 1 t) (iblk1 V c 2 t) (iblk1 V c 3 t) (iblk1 V c 4 t) := by
  by_cases h : t.val % 8 = 0
  · rw [outsAt1_A V c t h]
    dsimp only
    exact blk1_A_8 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t)
  · rw [outsAt1_B V c t h]
    dsimp only
    exact blk1_B_8 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t) _

theorem outs1_9 (c : Dev nD) (t : Fin cfg1.N) : (outsAt1 V c t.val t.isLt).2.2.1 = headsOf (k1_pay5 (k1_pay3 (iblk1 V c 0 t) (iblk1 V c 1 t) (iblk1 V c 2 t)) (iblk1 V c 5 t) (iblk1 V c 6 t)) := by
  by_cases h : t.val % 8 = 0
  · rw [outsAt1_A V c t h]
    dsimp only
    exact blk1_A_9 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t)
  · rw [outsAt1_B V c t h]
    dsimp only
    exact blk1_B_9 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t) _

theorem outs1_10_A (c : Dev nD) (t : Fin cfg1.N) (h : t.val = 0) :
    (outsAt1 V c t.val t.isLt).2.2.2 = k1_pay2 (k1_pay35 (k1_pay5 (k1_pay3 (iblk1 V c 0 t) (iblk1 V c 1 t) (iblk1 V c 2 t)) (iblk1 V c 5 t) (iblk1 V c 6 t))) (k1_pay1 (F := Ideal)) := by
  rw [outsAt1_A V c t (by rw [h])]
  dsimp only
  exact blk1_A_10 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t)

theorem outs1_10_B (c : Dev nD) (t : Fin cfg1.N) (h : t.val ≠ 0) :
    (outsAt1 V c t.val t.isLt).2.2.2
      = k1_pay2 (k1_pay35 (k1_pay5 (k1_pay3 (iblk1 V c 0 t) (iblk1 V c 1 t) (iblk1 V c 2 t)) (iblk1 V c 5 t) (iblk1 V c 6 t))) (outsAt1 V c (t.val - 1) (Nat.lt_of_le_of_lt (Nat.sub_le _ _) t.isLt)).2.2.2 := by
  rw [outsAt1_B V c t (by have := lt1 t; omega)]
  dsimp only
  exact blk1_B_10 c (grid1.coords t) (hs1_0 t) (hs1_1 t) (hs1_2 t) (hs1_3 t) (hs1_4 t) (hs1_5 t) (hs1_6 t) (hs1_7 t) (hs1_8 t) (hs1_9 t) (hs1_10 t) _ (iblk1 V c 0 t) (iblk1 V c 1 t) (iblk1 V c 2 t) (iblk1 V c 3 t) (iblk1 V c 4 t) (iblk1 V c 5 t) (iblk1 V c 6 t) _

/-- A block's normalised rows are rows of the whole normalised array. -/
theorem nxRow1 (c : Dev nD) (t : Fin cfg1.N) (r : Fin 512) (k : Fin 128) (R : Fin 4096) (hR : R.val = 512 * t.val + r.val) :
    k1_pay3 (iblk1 V c 0 t) (iblk1 V c 1 t) (iblk1 V c 2 t) (ix2 r k) = (lnArr (n := 4096) (V c main_arg1) (V c main_v22) (V c main_v23)) (ix2 R k) := by
  refine (k0_pay3_apply _ _ _ r k).trans ?_
  rw [in1_1, in1_2]
  exact congrArg (fun x => lnRow x _ _ k) (funext fun l => in1_0 V c t r l R hR)

/-- A block's values are rows of the whole array of values. -/
theorem valRow1 (c : Dev nD) (t : Fin cfg1.N) (r : Fin 512) (k : Fin 128) (R : Fin 4096) (hR : R.val = 512 * t.val + r.val) :
    (k1_pay5 (k1_pay3 (iblk1 V c 0 t) (iblk1 V c 1 t) (iblk1 V c 2 t)) (iblk1 V c 5 t) (iblk1 V c 6 t)) (ix2 r k) = (linArr (lnArr (n := 4096) (V c main_arg1) (V c main_v22) (V c main_v23)) (V c main_v19) (V c main_v25)) (ix2 R k) := by
  refine (k0_pay5_apply _ _ _ r k).trans ?_
  rw [in1_5, in1_6]
  exact congrArg (fun x => lin x _ _ k) (funext fun l => nxRow1 V c t r l R hR)

/-! ## The arrays -/

theorem nxArr1 (c : Dev nD) : (dat1 V c).arrAt 7 cfg1.N = (lnArr (n := 4096) (V c main_arg1) (V c main_v22) (V c main_v23)) := by
  refine (dat1 V c).arrAt_eq_of_covers 7 _ (by decide +kernel) fun t hf y => ?_
  blk_simp
  rw [after1_7, outs1_7]
  obtain ⟨r, k, rfl⟩ : ∃ (r : Fin 512) (k : Fin 128), y = (ix2 r k : S512x128.Idx) := ⟨y 0, y 1, funext fun a => by fin_cases a <;> rfl⟩
  have hlt := lt1 t
  refine (nxRow1 V c t r k ⟨512 * t.val + r.val, by omega⟩ rfl).trans (congrArg _ ?_)
  blk_ext [at1_7]

theorem kArr1 (c : Dev nD) : (dat1 V c).arrAt 8 cfg1.N = (linArr (lnArr (n := 4096) (V c main_arg1) (V c main_v22) (V c main_v23)) (V c main_v15) (V c main_v24)) := by
  refine (dat1 V c).arrAt_eq_of_covers 8 _ (by decide +kernel) fun t hf y => ?_
  blk_simp
  rw [after1_8, outs1_8]
  obtain ⟨r, k, rfl⟩ : ∃ (r : Fin 512) (k : Fin 128), y = (ix2 r k : S512x128.Idx) := ⟨y 0, y 1, funext fun a => by fin_cases a <;> rfl⟩
  have hlt := lt1 t
  refine (k0_pay4_apply _ _ _ _ _ r k).trans ?_
  rw [in1_3, in1_4]
  refine (congrArg (fun x => lin x _ _ k) (funext fun l => nxRow1 V c t r l ⟨512 * t.val + r.val, by omega⟩ rfl)).trans ?_
  show linArr (lnArr (n := 4096) (V c main_arg1) (V c main_v22) (V c main_v23)) (V c main_v15) (V c main_v24) (ix2 (⟨512 * t.val + r.val, by omega⟩ : Fin 4096) k) = _
  refine congrArg _ ?_
  blk_ext [at1_8]

theorem headsArr1 (c : Dev nD) : (dat1 V c).arrAt 9 cfg1.N = headsArr (C := 32) (linArr (lnArr (n := 4096) (V c main_arg1) (V c main_v22) (V c main_v23)) (V c main_v19) (V c main_v25)) := by
  refine (dat1 V c).arrAt_eq_of_covers 9 _ (by decide +kernel) fun t hf y => ?_
  blk_simp
  rw [after1_9, outs1_9]
  obtain ⟨q0, q1, q2, q3, rfl⟩ : ∃ (q0 q1 : Fin 4) (q2 : Fin 128) (q3 : Fin 256), y = (ix4 q0 q1 q2 q3 : S4x4x128x256.Idx) :=
    ⟨y 0, y 1, y 2, y 3, funext fun a => by fin_cases a <;> rfl⟩
  have hlt := lt1 t
  have e : (win1_9.blk t).view.emb (ix4 q0 q1 q2 q3 : S4x4x128x256.Idx)
      = (ix4 (⟨4 * t.val + q0.val, by omega⟩ : Fin 32) q1 q2 q3 : S32x4x128x256.Idx) := by
    blk_ext [at1_9]
  refine Eq.trans ?_ (congrArg _ e.symm)
  refine headsOf_eq_headsArr _ _ q0 q1 q2 q3 (⟨4 * t.val + q0.val, by omega⟩ : Fin 32) fun j => valRow1 V c t _ j _ ?_
  show (128 * (4 * t.val + q0.val) + q2.val) % 4096 = 512 * t.val + (128 * q0.val + q2.val)
  omega

/-- The running sums after a point: the values of every row so far, by the row's remainder by 8. -/
theorem running1 (c : Dev nD) (a : Fin 8) (j : Fin 128) : ∀ (k : ℕ) (t : Fin cfg1.N), t.val = k →
    (outsAt1 V c t.val t.isLt).2.2.2 (ix2 a j) = sumsArr (64 * (k + 1)) (linArr (lnArr (n := 4096) (V c main_arg1) (V c main_v22) (V c main_v23)) (V c main_v19) (V c main_v25)) (ix2 a j) := by
  have step : ∀ t : Fin cfg1.N,
      k1_pay35 (k1_pay5 (k1_pay3 (iblk1 V c 0 t) (iblk1 V c 1 t) (iblk1 V c 2 t)) (iblk1 V c 5 t) (iblk1 V c 6 t)) (ix2 a j) = ∑ g ∈ Finset.range 64, (linArr (lnArr (n := 4096) (V c main_arg1) (V c main_v22) (V c main_v23)) (V c main_v19) (V c main_v25)) (ix2 (Fin.ofNat 4096 (8 * (64 * t.val + g) + a.val)) j) := fun t => by
    have hlt := lt1 t
    refine (k0_pay35_apply _ a j).trans ((Finset.sum_congr rfl fun g _ => ?_).trans (Finset.sum_range (fun g => _)).symm)
    refine valRow1 V c t _ j _ ?_
    show (8 * (64 * t.val + g.val) + a.val) % 4096 = 512 * t.val + (8 * g.val + a.val)
    omega
  intro k
  induction k with
  | zero =>
    intro t ht
    rw [outs1_10_A V c t ht]
    refine (k0_pay2_apply _ _ a j).trans ?_
    refine (congrArg₂ (· + ·) (k0_pay1_apply a j) (step t)).trans ?_
    rw [zero_add, ht]
    show _ = ∑ g ∈ Finset.range 64, (linArr (lnArr (n := 4096) (V c main_arg1) (V c main_v22) (V c main_v23)) (V c main_v19) (V c main_v25)) (ix2 (Fin.ofNat 4096 (8 * g + a.val)) j)
    simp only [Nat.mul_zero, Nat.zero_add]
  | succ k ih =>
    intro t ht
    rw [outs1_10_B V c t (by omega)]
    refine (k0_pay2_apply _ _ a j).trans ?_
    refine (congrArg₂ (· + ·) (ih ⟨t.val - 1, Nat.lt_of_le_of_lt (Nat.sub_le _ _) t.isLt⟩ (by show t.val - 1 = k; omega)) (step t)).trans ?_
    rw [ht]
    exact (Finset.sum_range_add (fun g => (linArr (lnArr (n := 4096) (V c main_arg1) (V c main_v22) (V c main_v23)) (V c main_v19) (V c main_v25)) (ix2 (Fin.ofNat 4096 (8 * g + a.val)) j)) (64 * (k + 1)) 64).symm

theorem sumsArr1 (c : Dev nD) : (dat1 V c).arrAt 10 cfg1.N = sumsArr 512 (linArr (lnArr (n := 4096) (V c main_arg1) (V c main_v22) (V c main_v23)) (V c main_v19) (V c main_v25)) := by
  have hw : ∀ t : Fin cfg1.N, t.val = 7 → (cfg1.win 10).WholeAt t := by decide +kernel
  obtain ⟨t, ht⟩ : ∃ t : Fin cfg1.N, t.val = 7 := ⟨⟨7, by decide +kernel⟩, rfl⟩
  refine (dat1 V c).arrAt_eq_of_after_last 10 t (hw t ht) _ fun y => ?_
  blk_simp
  rw [after1_10]
  obtain ⟨a, j, rfl⟩ : ∃ (a : Fin 8) (j : Fin 128), y = (ix2 a j : S8x128.Idx) := ⟨y 0, y 1, funext fun a => by fin_cases a <;> rfl⟩
  exact running1 V c a j 7 t ht

end Cert.KernelIdeal.Val

end
-- ==== Proof.Attn2.lean ====
/-
  The attention block that writes result 1: its passes over 16 chunks of keys are the recursion of the
  running sums, and its block of results is rows of mathematics.
-/
module

public import proofs.«01_k».proof.Proof.Nest
public import proofs.«01_k».proof.Proof.FrameIdeal.Region2

@[expose] public section

set_option maxRecDepth 16384

noncomputable section

namespace Cert.KernelIdeal.Val

open Idealize.ShloMosaic Idealize.SL.Sem Cert.KernelIdeal Cert.KernelIdeal.Gen Cert.Spec
open scoped BigOperators

variable {F : FTy → Type} [FloatOps F] [Named F]

/-- The running sums after all 16 chunks, chunk by chunk as the body reads them. -/
def acc2 (q : FVec F S2048x128 .bf16) (msk : FVec F S512x2048 .bf16) (x2 : Vec F S2048x128 .bf16) (x3 : Vec F S8192x256 .bf16) :
    FVec F S512x256 .f32 :=
  (step q (step q (step q (step q (step q (step q (step q (step q (step q (step q (step q (step q (step q (step q (step q (step q (broadcast S512x256 (Scalar.ofBits .f32 0x00000000#32))
    (View.ld x2 r2_4) (View.ld x3 r2_5) (extractStridedSlice S512x128 ![0, 0] msk slices_S512x2048_o0_0_S512x128))
    (View.ld x2 r2_6) (View.ld x3 r2_7) (extractStridedSlice S512x128 ![0, 128] msk slices_S512x2048_o0_128_S512x128))
    (View.ld x2 r2_8) (View.ld x3 r2_9) (extractStridedSlice S512x128 ![0, 256] msk slices_S512x2048_o0_256_S512x128))
    (View.ld x2 r2_10) (View.ld x3 r2_11) (extractStridedSlice S512x128 ![0, 384] msk slices_S512x2048_o0_384_S512x128))
    (View.ld x2 r2_12) (View.ld x3 r2_13) (extractStridedSlice S512x128 ![0, 512] msk slices_S512x2048_o0_512_S512x128))
    (View.ld x2 r2_14) (View.ld x3 r2_15) (extractStridedSlice S512x128 ![0, 640] msk slices_S512x2048_o0_640_S512x128))
    (View.ld x2 r2_16) (View.ld x3 r2_17) (extractStridedSlice S512x128 ![0, 768] msk slices_S512x2048_o0_768_S512x128))
    (View.ld x2 r2_18) (View.ld x3 r2_19) (extractStridedSlice S512x128 ![0, 896] msk slices_S512x2048_o0_896_S512x128))
    (View.ld x2 r2_20) (View.ld x3 r2_21) (extractStridedSlice S512x128 ![0, 1024] msk slices_S512x2048_o0_1024_S512x128))
    (View.ld x2 r2_22) (View.ld x3 r2_23) (extractStridedSlice S512x128 ![0, 1152] msk slices_S512x2048_o0_1152_S512x128))
    (View.ld x2 r2_24) (View.ld x3 r2_25) (extractStridedSlice S512x128 ![0, 1280] msk slices_S512x2048_o0_1280_S512x128))
    (View.ld x2 r2_26) (View.ld x3 r2_27) (extractStridedSlice S512x128 ![0, 1408] msk slices_S512x2048_o0_1408_S512x128))
    (View.ld x2 r2_28) (View.ld x3 r2_29) (extractStridedSlice S512x128 ![0, 1536] msk slices_S512x2048_o0_1536_S512x128))
    (View.ld x2 r2_30) (View.ld x3 r2_31) (extractStridedSlice S512x128 ![0, 1664] msk slices_S512x2048_o0_1664_S512x128))
    (View.ld x2 r2_32) (View.ld x3 r2_33) (extractStridedSlice S512x128 ![0, 1792] msk slices_S512x2048_o0_1792_S512x128))
    (View.ld x2 r2_34) (View.ld x3 r2_35) (extractStridedSlice S512x128 ![0, 1920] msk slices_S512x2048_o0_1920_S512x128))

theorem acc2_eq (q : FVec F S2048x128 .bf16) (msk : FVec F S512x2048 .bf16) (x2 : Vec F S2048x128 .bf16) (x3 : Vec F S8192x256 .bf16) :
    acc2 q msk x2 x3 = nest q (rowsAt (n := 2048) 128 x2) (rowsAt (n := 8192) 512 x3) (colsAt msk) 16 :=
  (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ rfl
    (ld_rowsAt x2 0 _) (ld_rowsAt x3 0 _) (slice_colsAt msk 0 _ (by decide)))
    (ld_rowsAt x2 1 _) (ld_rowsAt x3 1 _) (slice_colsAt msk 1 _ (by decide)))
    (ld_rowsAt x2 2 _) (ld_rowsAt x3 2 _) (slice_colsAt msk 2 _ (by decide)))
    (ld_rowsAt x2 3 _) (ld_rowsAt x3 3 _) (slice_colsAt msk 3 _ (by decide)))
    (ld_rowsAt x2 4 _) (ld_rowsAt x3 4 _) (slice_colsAt msk 4 _ (by decide)))
    (ld_rowsAt x2 5 _) (ld_rowsAt x3 5 _) (slice_colsAt msk 5 _ (by decide)))
    (ld_rowsAt x2 6 _) (ld_rowsAt x3 6 _) (slice_colsAt msk 6 _ (by decide)))
    (ld_rowsAt x2 7 _) (ld_rowsAt x3 7 _) (slice_colsAt msk 7 _ (by decide)))
    (ld_rowsAt x2 8 _) (ld_rowsAt x3 8 _) (slice_colsAt msk 8 _ (by decide)))
    (ld_rowsAt x2 9 _) (ld_rowsAt x3 9 _) (slice_colsAt msk 9 _ (by decide)))
    (ld_rowsAt x2 10 _) (ld_rowsAt x3 10 _) (slice_colsAt msk 10 _ (by decide)))
    (ld_rowsAt x2 11 _) (ld_rowsAt x3 11 _) (slice_colsAt msk 11 _ (by decide)))
    (ld_rowsAt x2 12 _) (ld_rowsAt x3 12 _) (slice_colsAt msk 12 _ (by decide)))
    (ld_rowsAt x2 13 _) (ld_rowsAt x3 13 _) (slice_colsAt msk 13 _ (by decide)))
    (ld_rowsAt x2 14 _) (ld_rowsAt x3 14 _) (slice_colsAt msk 14 _ (by decide)))
    (ld_rowsAt x2 15 _) (ld_rowsAt x3 15 _) (slice_colsAt msk 15 _ (by decide)))

/-- What the body computes, from the loads on. -/
theorem body2_eq (x0 : Vec F S512x128 .f32) (x1 : Vec F S512x128 .f32) (x2 : Vec F S2048x128 .bf16) (x3 : Vec F S8192x256 .bf16)
    (x4 : Vec F S8x128 .f32) (x5 : Vec F S512x2048 .i32) (x6 : Vec F S512x2048 .i32) (x7 : Vec F S128x128 .f32) (x8 : Vec F S1x128 .f32)
    (x9 : Vec F S128x128 .f32) (x10 x11 x12 : Vec F S1x128 .f32) (x13 : Vec F S128x256 .f32) (x14 : Vec F S1x256 .f32)
    (x15 : Vec F S256x128 .f32) (x16 : Vec F S1x128 .f32) :
  (k2_pay1 (k2_pay34 (k2_pay46 x0 x1 x2 x3 x4 x5 x6 x7 x8 x9 x10 x11 x12 x13 x14 x15 x16) (k2_pay47 x0 x1 x2 x3 x4 x5 x6 x7 x8 x9 x10 x11 x12 x13 x14 x15 x16)
      (k2_pay48 x0 x1 x2 x3 x4 x5 x6 x7 x8 x9 x10 x11 x12 x13 x14 x15 x16) (Scalar.ofBits .f32 0x00000000#32) (View.ld x0 r2_0) (View.ld x9 r2_1) (View.ld x10 r2_2))
    (k2_pay35 (k2_pay46 x0 x1 x2 x3 x4 x5 x6 x7 x8 x9 x10 x11 x12 x13 x14 x15 x16) (k2_pay47 x0 x1 x2 x3 x4 x5 x6 x7 x8 x9 x10 x11 x12 x13 x14 x15 x16)
      (k2_pay48 x0 x1 x2 x3 x4 x5 x6 x7 x8 x9 x10 x11 x12 x13 x14 x15 x16) (Scalar.ofBits .f32 0x00000000#32) (View.ld x0 r2_0) (View.ld x9 r2_1) (View.ld x10 r2_2)
      (View.ld x11 r2_2) (View.ld x12 r2_2)) (View.ld x13 r2_37) (View.ld x14 r2_38) (View.ld x15 r2_39) (View.ld x16 r2_2))
    = attnOut (acc2 (qbd (View.ld x1 r2_0) (View.ld x7 r2_1) (View.ld x8 r2_2))
        (k2_pay8 (View.ld x5 r2_3) (View.ld x6 r2_3)) x2 x3) (k2_pay33 (View.ld x4 r2_36))
      (View.ld x0 r2_0) (View.ld x9 r2_1) (View.ld x10 r2_2) (View.ld x11 r2_2) (View.ld x12 r2_2) (View.ld x13 r2_37) (View.ld x14 r2_38) (View.ld x15 r2_39) (View.ld x16 r2_2) := rfl

theorem out2_eq (x0 : Vec F S512x128 .f32) (x1 : Vec F S512x128 .f32) (x2 : Vec F S2048x128 .bf16) (x3 : Vec F S8192x256 .bf16)
    (x4 : Vec F S8x128 .f32) (x5 : Vec F S512x2048 .i32) (x6 : Vec F S512x2048 .i32) (x7 : Vec F S128x128 .f32) (x8 : Vec F S1x128 .f32)
    (x9 : Vec F S128x128 .f32) (x10 x11 x12 : Vec F S1x128 .f32) (x13 : Vec F S128x256 .f32) (x14 : Vec F S1x256 .f32)
    (x15 : Vec F S256x128 .f32) (x16 : Vec F S1x128 .f32) :
    out2_17 x0 x1 x2 x3 x4 x5 x6 x7 x8 x9 x10 x11 x12 x13 x14 x15 x16
      = attnOut (nest (qbd x1 x7 x8) (rowsAt (n := 2048) 128 x2) (rowsAt (n := 8192) 512 x3) (colsAt (k2_pay8 x5 x6)) 16)
          (k2_pay33 x4) x0 x9 x10 x11 x12 x13 x14 x15 x16 := by
  unfold out2_17
  rw [body2_eq, acc2_eq, View.canon_unit_zero off_zero]
  simp only [ld_zero]

end Cert.KernelIdeal.Val

end
-- ==== Proof.AttArr2.lean ====
/-
  What the first attention call leaves in its result array.
-/
module

public import proofs.«01_k».proof.Proof.Att
public import proofs.«01_k».proof.Proof.Attn2
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec
open Idealize.ShloMosaic.Pipeline (Dat Cfg Window cellOf)
open scoped BigOperators

variable (V : (c : Dev nD) → (b : Ref sig .tc) → Buf (Elt Ideal) ((c : Thread nD τ).loc b))

/-! ## The blocks' places -/

theorem at2_0 : ∀ t : Fin cfg2.N, win2_0.index t = ![t.val, 0] := (by decide +kernel : ∀ t : Fin grid2.N, _)
theorem at2_1 : ∀ t : Fin cfg2.N, win2_1.index t = ![t.val, 0] := (by decide +kernel : ∀ t : Fin grid2.N, _)
theorem at2_2 : ∀ t : Fin cfg2.N, win2_2.index t = ![0, 0] := (by decide +kernel : ∀ t : Fin grid2.N, _)
theorem at2_3 : ∀ t : Fin cfg2.N, win2_3.index t = ![0, 0] := (by decide +kernel : ∀ t : Fin grid2.N, _)
theorem at2_4 : ∀ t : Fin cfg2.N, win2_4.index t = ![0, 0] := (by decide +kernel : ∀ t : Fin grid2.N, _)
theorem at2_5 : ∀ t : Fin cfg2.N, win2_5.index t = ![t.val, 0] := (by decide +kernel : ∀ t : Fin grid2.N, _)
theorem at2_6 : ∀ t : Fin cfg2.N, win2_6.index t = ![t.val, 0] := (by decide +kernel : ∀ t : Fin grid2.N, _)
theorem at2_7 : ∀ t : Fin cfg2.N, win2_7.index t = ![0, 0] := (by decide +kernel : ∀ t : Fin grid2.N, _)
theorem at2_8 : ∀ t : Fin cfg2.N, win2_8.index t = ![0, 0] := (by decide +kernel : ∀ t : Fin grid2.N, _)
theorem at2_9 : ∀ t : Fin cfg2.N, win2_9.index t = ![0, 0] := (by decide +kernel : ∀ t : Fin grid2.N, _)
theorem at2_10 : ∀ t : Fin cfg2.N, win2_10.index t = ![0, 0] := (by decide +kernel : ∀ t : Fin grid2.N, _)
theorem at2_11 : ∀ t : Fin cfg2.N, win2_11.index t = ![0, 0] := (by decide +kernel : ∀ t : Fin grid2.N, _)
theorem at2_12 : ∀ t : Fin cfg2.N, win2_12.index t = ![0, 0] := (by decide +kernel : ∀ t : Fin grid2.N, _)
theorem at2_13 : ∀ t : Fin cfg2.N, win2_13.index t = ![0, 0] := (by decide +kernel : ∀ t : Fin grid2.N, _)
theorem at2_14 : ∀ t : Fin cfg2.N, win2_14.index t = ![0, 0] := (by decide +kernel : ∀ t : Fin grid2.N, _)
theorem at2_15 : ∀ t : Fin cfg2.N, win2_15.index t = ![0, 0] := (by decide +kernel : ∀ t : Fin grid2.N, _)
theorem at2_16 : ∀ t : Fin cfg2.N, win2_16.index t = ![0, 0] := (by decide +kernel : ∀ t : Fin grid2.N, _)
theorem at2_17 : ∀ t : Fin cfg2.N, win2_17.index t = ![t.val, 0] := (by decide +kernel : ∀ t : Fin grid2.N, _)

theorem lt2 (t : Fin cfg2.N) : t.val < 8 := Nat.lt_of_lt_of_eq t.isLt (by decide +kernel)

/-! ## The input blocks -/

theorem in2_0 (c : Dev nD) (t : Fin cfg2.N) (r : Fin 512) (k : Fin 128) (R : Fin 4096) (hR : R.val = 512 * t.val + r.val) :
    iblk2 V c 0 t (ix2 r k : S512x128.Idx) = V c main_arg1 (ix2 R k : S4096x128.Idx) := by
  blk_simp [iblk2]
  refine congrArg _ (funext fun a => Fin.ext ?_)
  match a with
  | ⟨0, _⟩ =>
    blk_simp [at2_0]
    show t.val * 512 + r.val = R.val
    omega
  | ⟨1, _⟩ =>
    blk_simp [at2_0]

theorem in2_1 (c : Dev nD) (t : Fin cfg2.N) (r : Fin 512) (k : Fin 128) (R : Fin 4096) (hR : R.val = 512 * t.val + r.val) :
    iblk2 V c 1 t (ix2 r k : S512x128.Idx) = V c main_v26_0 (ix2 R k : S4096x128.Idx) := by
  blk_simp [iblk2]
  refine congrArg _ (funext fun a => Fin.ext ?_)
  match a with
  | ⟨0, _⟩ =>
    blk_simp [at2_1]
    show t.val * 512 + r.val = R.val
    omega
  | ⟨1, _⟩ =>
    blk_simp [at2_1]

theorem in2_2 (c : Dev nD) (t : Fin cfg2.N) : iblk2 V c 2 t = V c main_v12_1 := by
  funext y
  blk_simp [iblk2]
  refine congrArg _ ?_
  blk_ext [at2_2]

theorem in2_3 (c : Dev nD) (t : Fin cfg2.N) : iblk2 V c 3 t = V c main_v13 := by
  funext y
  blk_simp [iblk2]
  refine congrArg _ ?_
  blk_ext [at2_3]

theorem in2_4 (c : Dev nD) (t : Fin cfg2.N) : iblk2 V c 4 t = V c main_v12_3 := by
  funext y
  blk_simp [iblk2]
  refine congrArg _ ?_
  blk_ext [at2_4]

theorem in2_5 (c : Dev nD) (t : Fin cfg2.N) (r : Fin 512) (k : Fin 2048) (R : Fin 4096) (hR : R.val = 512 * t.val + r.val) :
    iblk2 V c 5 t (ix2 r k : S512x2048.Idx) = V c main_v54 (ix2 R k : S4096x2048.Idx) := by
  blk_simp [iblk2]
  refine congrArg _ (funext fun a => Fin.ext ?_)
  match a with
  | ⟨0, _⟩ =>
    blk_simp [at2_5]
    show t.val * 512 + r.val = R.val
    omega
  | ⟨1, _⟩ =>
    blk_simp [at2_5]

theorem in2_6 (c : Dev nD) (t : Fin cfg2.N) (r : Fin 512) (k : Fin 2048) (R : Fin 4096) (hR : R.val = 512 * t.val + r.val) :
    iblk2 V c 6 t (ix2 r k : S512x2048.Idx) = V c main_v55 (ix2 R k : S4096x2048.Idx) := by
  blk_simp [iblk2]
  refine congrArg _ (funext fun a => Fin.ext ?_)
  match a with
  | ⟨0, _⟩ =>
    blk_simp [at2_6]
    show t.val * 512 + r.val = R.val
    omega
  | ⟨1, _⟩ =>
    blk_simp [at2_6]

theorem in2_7 (c : Dev nD) (t : Fin cfg2.N) : iblk2 V c 7 t = V c main_v29 := by
  funext y
  blk_simp [iblk2]
  refine congrArg _ ?_
  blk_ext [at2_7]

theorem in2_8 (c : Dev nD) (t : Fin cfg2.N) : iblk2 V c 8 t = V c main_v48 := by
  funext y
  blk_simp [iblk2]
  refine congrArg _ ?_
  blk_ext [at2_8]

theorem in2_9 (c : Dev nD) (t : Fin cfg2.N) : iblk2 V c 9 t = V c main_v33 := by
  funext y
  blk_simp [iblk2]
  refine congrArg _ ?_
  blk_ext [at2_9]

theorem in2_10 (c : Dev nD) (t : Fin cfg2.N) : iblk2 V c 10 t = V c main_v49 := by
  funext y
  blk_simp [iblk2]
  refine congrArg _ ?_
  blk_ext [at2_10]

theorem in2_11 (c : Dev nD) (t : Fin cfg2.N) : iblk2 V c 11 t = V c main_v50 := by
  funext y
  blk_simp [iblk2]
  refine congrArg _ ?_
  blk_ext [at2_11]

theorem in2_12 (c : Dev nD) (t : Fin cfg2.N) : iblk2 V c 12 t = V c main_v51 := by
  funext y
  blk_simp [iblk2]
  refine congrArg _ ?_
  blk_ext [at2_12]

theorem in2_13 (c : Dev nD) (t : Fin cfg2.N) : iblk2 V c 13 t = V c main_v41 := by
  funext y
  blk_simp [iblk2]
  refine congrArg _ ?_
  blk_ext [at2_13]

theorem in2_14 (c : Dev nD) (t : Fin cfg2.N) : iblk2 V c 14 t = V c main_v52 := by
  funext y
  blk_simp [iblk2]
  refine congrArg _ ?_
  blk_ext [at2_14]

theorem in2_15 (c : Dev nD) (t : Fin cfg2.N) : iblk2 V c 15 t = V c main_v45 := by
  funext y
  blk_simp [iblk2]
  refine congrArg _ ?_
  blk_ext [at2_15]

theorem in2_16 (c : Dev nD) (t : Fin cfg2.N) : iblk2 V c 16 t = V c main_v53 := by
  funext y
  blk_simp [iblk2]
  refine congrArg _ ?_
  blk_ext [at2_16]

set_option maxHeartbeats 2000000 in
/-- The result array: the attention layer on the arrays the call reads, once its heads' values are laid out head by head. -/
theorem outArr2 (c : Dev nD) (VV : (⟨2, ![2048, 128]⟩ : Shape).Idx → EReal)
    (h3 : V c main_v13 = flatHeads (C := 16) (n4 := 8192) VV) :
    (dat2 V c).arrAt 17 cfg2.N = attArr (m := 4096) (n := 2048) (V c main_arg1) (V c main_v26_0) (V c main_v12_1) VV (V c main_v12_3) (Ideal.ofBits .f32 0x3A000000#32) (V c main_v54) (V c main_v55) (V c main_v29) (V c main_v48) (V c main_v33) (V c main_v49) (V c main_v50) (V c main_v51) (V c main_v41) (V c main_v52) (V c main_v45) (V c main_v53) := by
  refine (dat2 V c).arrAt_eq_of_covers 17 _ (by decide +kernel) fun t hf y => ?_
  blk_simp
  rw [after2_17, out2_eq]
  obtain ⟨r, k, rfl⟩ : ∃ (r : Fin 512) (k : Fin 128), y = (ix2 r k : S512x128.Idx) := ⟨y 0, y 1, funext fun a => by fin_cases a <;> rfl⟩
  have hlt := lt2 t
  obtain ⟨R, hR⟩ : ∃ R : Fin 4096, R.val = 512 * t.val + r.val := ⟨⟨512 * t.val + r.val, by omega⟩, rfl⟩
  have e : (win2_17.blk t).view.emb (ix2 r k : S512x128.Idx) = (ix2 R k : S4096x128.Idx) := by
    blk_ext [at2_17]
  refine Eq.trans ?_ (congrArg _ e.symm)
  rw [in2_2, in2_3, in2_4, in2_7, in2_8, in2_9, in2_10, in2_11, in2_12, in2_13, in2_14, in2_15, in2_16, h3]
  refine (attnOut_nest (n := 2048) (n4 := 8192) (N := 16) rfl rfl _ _ _ _ _ _ _ _ _ _ _ _ _ _ _ _ r k (fun i l => VV (ix2 i l))
    (fun j => V c main_v54 (ix2 R j : S4096x2048.Idx) ≠ 0#32 ∧ V c main_v55 (ix2 R j : S4096x2048.Idx) ≠ 0#32) (fun i => ?_)
    (fun q hq h i l => ?_) (fun q hq h i l => ?_)).trans ?_
  · rw [k2_pay8_apply, in2_5 V c t r i R hR, in2_6 V c t r i R hR]
  · exact flatHeads_lo VV q hq h i l _ rfl _ rfl
  · exact flatHeads_hi VV q hq h i l _ rfl
  · rw [funext fun l => in2_0 V c t r l R hR, funext fun l => in2_1 V c t r l R hR]
    simp only [k2_pay33_apply]
    rfl

end Cert.KernelIdeal.Val

end
-- ==== Proof.Attn3.lean ====
/-
  The attention block that writes result 0: its passes over 32 chunks of keys are the recursion of the
  running sums, and its block of results is rows of mathematics.
-/
module

public import proofs.«01_k».proof.Proof.Nest
public import proofs.«01_k».proof.Proof.FrameIdeal.Region3

@[expose] public section

set_option maxRecDepth 16384

noncomputable section

namespace Cert.KernelIdeal.Val

open Idealize.ShloMosaic Idealize.SL.Sem Cert.KernelIdeal Cert.KernelIdeal.Gen Cert.Spec
open scoped BigOperators

variable {F : FTy → Type} [FloatOps F] [Named F]

/-- The running sums after all 32 chunks, chunk by chunk as the body reads them. -/
def acc3 (q : FVec F S2048x128 .bf16) (msk : FVec F S512x4096 .bf16) (x2 : Vec F S4096x128 .bf16) (x3 : Vec F S16384x256 .bf16) :
    FVec F S512x256 .f32 :=
  (step q (step q (step q (step q (step q (step q (step q (step q (step q (step q (step q (step q (step q (step q (step q (step q (step q (step q (step q (step q (step q (step q (step q (step q (step q (step q (step q (step q (step q (step q (step q (step q (broadcast S512x256 (Scalar.ofBits .f32 0x00000000#32))
    (View.ld x2 r3_4) (View.ld x3 r3_5) (extractStridedSlice S512x128 ![0, 0] msk slices_S512x4096_o0_0_S512x128))
    (View.ld x2 r3_6) (View.ld x3 r3_7) (extractStridedSlice S512x128 ![0, 128] msk slices_S512x4096_o0_128_S512x128))
    (View.ld x2 r3_8) (View.ld x3 r3_9) (extractStridedSlice S512x128 ![0, 256] msk slices_S512x4096_o0_256_S512x128))
    (View.ld x2 r3_10) (View.ld x3 r3_11) (extractStridedSlice S512x128 ![0, 384] msk slices_S512x4096_o0_384_S512x128))
    (View.ld x2 r3_12) (View.ld x3 r3_13) (extractStridedSlice S512x128 ![0, 512] msk slices_S512x4096_o0_512_S512x128))
    (View.ld x2 r3_14) (View.ld x3 r3_15) (extractStridedSlice S512x128 ![0, 640] msk slices_S512x4096_o0_640_S512x128))
    (View.ld x2 r3_16) (View.ld x3 r3_17) (extractStridedSlice S512x128 ![0, 768] msk slices_S512x4096_o0_768_S512x128))
    (View.ld x2 r3_18) (View.ld x3 r3_19) (extractStridedSlice S512x128 ![0, 896] msk slices_S512x4096_o0_896_S512x128))
    (View.ld x2 r3_20) (View.ld x3 r3_21) (extractStridedSlice S512x128 ![0, 1024] msk slices_S512x4096_o0_1024_S512x128))
    (View.ld x2 r3_22) (View.ld x3 r3_23) (extractStridedSlice S512x128 ![0, 1152] msk slices_S512x4096_o0_1152_S512x128))
    (View.ld x2 r3_24) (View.ld x3 r3_25) (extractStridedSlice S512x128 ![0, 1280] msk slices_S512x4096_o0_1280_S512x128))
    (View.ld x2 r3_26) (View.ld x3 r3_27) (extractStridedSlice S512x128 ![0, 1408] msk slices_S512x4096_o0_1408_S512x128))
    (View.ld x2 r3_28) (View.ld x3 r3_29) (extractStridedSlice S512x128 ![0, 1536] msk slices_S512x4096_o0_1536_S512x128))
    (View.ld x2 r3_30) (View.ld x3 r3_31) (extractStridedSlice S512x128 ![0, 1664] msk slices_S512x4096_o0_1664_S512x128))
    (View.ld x2 r3_32) (View.ld x3 r3_33) (extractStridedSlice S512x128 ![0, 1792] msk slices_S512x4096_o0_1792_S512x128))
    (View.ld x2 r3_34) (View.ld x3 r3_35) (extractStridedSlice S512x128 ![0, 1920] msk slices_S512x4096_o0_1920_S512x128))
    (View.ld x2 r3_36) (View.ld x3 r3_37) (extractStridedSlice S512x128 ![0, 2048] msk slices_S512x4096_o0_2048_S512x128))
    (View.ld x2 r3_38) (View.ld x3 r3_39) (extractStridedSlice S512x128 ![0, 2176] msk slices_S512x4096_o0_2176_S512x128))
    (View.ld x2 r3_40) (View.ld x3 r3_41) (extractStridedSlice S512x128 ![0, 2304] msk slices_S512x4096_o0_2304_S512x128))
    (View.ld x2 r3_42) (View.ld x3 r3_43) (extractStridedSlice S512x128 ![0, 2432] msk slices_S512x4096_o0_2432_S512x128))
    (View.ld x2 r3_44) (View.ld x3 r3_45) (extractStridedSlice S512x128 ![0, 2560] msk slices_S512x4096_o0_2560_S512x128))
    (View.ld x2 r3_46) (View.ld x3 r3_47) (extractStridedSlice S512x128 ![0, 2688] msk slices_S512x4096_o0_2688_S512x128))
    (View.ld x2 r3_48) (View.ld x3 r3_49) (extractStridedSlice S512x128 ![0, 2816] msk slices_S512x4096_o0_2816_S512x128))
    (View.ld x2 r3_50) (View.ld x3 r3_51) (extractStridedSlice S512x128 ![0, 2944] msk slices_S512x4096_o0_2944_S512x128))
    (View.ld x2 r3_52) (View.ld x3 r3_53) (extractStridedSlice S512x128 ![0, 3072] msk slices_S512x4096_o0_3072_S512x128))
    (View.ld x2 r3_54) (View.ld x3 r3_55) (extractStridedSlice S512x128 ![0, 3200] msk slices_S512x4096_o0_3200_S512x128))
    (View.ld x2 r3_56) (View.ld x3 r3_57) (extractStridedSlice S512x128 ![0, 3328] msk slices_S512x4096_o0_3328_S512x128))
    (View.ld x2 r3_58) (View.ld x3 r3_59) (extractStridedSlice S512x128 ![0, 3456] msk slices_S512x4096_o0_3456_S512x128))
    (View.ld x2 r3_60) (View.ld x3 r3_61) (extractStridedSlice S512x128 ![0, 3584] msk slices_S512x4096_o0_3584_S512x128))
    (View.ld x2 r3_62) (View.ld x3 r3_63) (extractStridedSlice S512x128 ![0, 3712] msk slices_S512x4096_o0_3712_S512x128))
    (View.ld x2 r3_64) (View.ld x3 r3_65) (extractStridedSlice S512x128 ![0, 3840] msk slices_S512x4096_o0_3840_S512x128))
    (View.ld x2 r3_66) (View.ld x3 r3_67) (extractStridedSlice S512x128 ![0, 3968] msk slices_S512x4096_o0_3968_S512x128))

theorem acc3_eq (q : FVec F S2048x128 .bf16) (msk : FVec F S512x4096 .bf16) (x2 : Vec F S4096x128 .bf16) (x3 : Vec F S16384x256 .bf16) :
    acc3 q msk x2 x3 = nest q (rowsAt (n := 4096) 128 x2) (rowsAt (n := 16384) 512 x3) (colsAt msk) 32 :=
  (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ (nest_step _ _ _ _ rfl
    (ld_rowsAt x2 0 _) (ld_rowsAt x3 0 _) (slice_colsAt msk 0 _ (by decide)))
    (ld_rowsAt x2 1 _) (ld_rowsAt x3 1 _) (slice_colsAt msk 1 _ (by decide)))
    (ld_rowsAt x2 2 _) (ld_rowsAt x3 2 _) (slice_colsAt msk 2 _ (by decide)))
    (ld_rowsAt x2 3 _) (ld_rowsAt x3 3 _) (slice_colsAt msk 3 _ (by decide)))
    (ld_rowsAt x2 4 _) (ld_rowsAt x3 4 _) (slice_colsAt msk 4 _ (by decide)))
    (ld_rowsAt x2 5 _) (ld_rowsAt x3 5 _) (slice_colsAt msk 5 _ (by decide)))
    (ld_rowsAt x2 6 _) (ld_rowsAt x3 6 _) (slice_colsAt msk 6 _ (by decide)))
    (ld_rowsAt x2 7 _) (ld_rowsAt x3 7 _) (slice_colsAt msk 7 _ (by decide)))
    (ld_rowsAt x2 8 _) (ld_rowsAt x3 8 _) (slice_colsAt msk 8 _ (by decide)))
    (ld_rowsAt x2 9 _) (ld_rowsAt x3 9 _) (slice_colsAt msk 9 _ (by decide)))
    (ld_rowsAt x2 10 _) (ld_rowsAt x3 10 _) (slice_colsAt msk 10 _ (by decide)))
    (ld_rowsAt x2 11 _) (ld_rowsAt x3 11 _) (slice_colsAt msk 11 _ (by decide)))
    (ld_rowsAt x2 12 _) (ld_rowsAt x3 12 _) (slice_colsAt msk 12 _ (by decide)))
    (ld_rowsAt x2 13 _) (ld_rowsAt x3 13 _) (slice_colsAt msk 13 _ (by decide)))
    (ld_rowsAt x2 14 _) (ld_rowsAt x3 14 _) (slice_colsAt msk 14 _ (by decide)))
    (ld_rowsAt x2 15 _) (ld_rowsAt x3 15 _) (slice_colsAt msk 15 _ (by decide)))
    (ld_rowsAt x2 16 _) (ld_rowsAt x3 16 _) (slice_colsAt msk 16 _ (by decide)))
    (ld_rowsAt x2 17 _) (ld_rowsAt x3 17 _) (slice_colsAt msk 17 _ (by decide)))
    (ld_rowsAt x2 18 _) (ld_rowsAt x3 18 _) (slice_colsAt msk 18 _ (by decide)))
    (ld_rowsAt x2 19 _) (ld_rowsAt x3 19 _) (slice_colsAt msk 19 _ (by decide)))
    (ld_rowsAt x2 20 _) (ld_rowsAt x3 20 _) (slice_colsAt msk 20 _ (by decide)))
    (ld_rowsAt x2 21 _) (ld_rowsAt x3 21 _) (slice_colsAt msk 21 _ (by decide)))
    (ld_rowsAt x2 22 _) (ld_rowsAt x3 22 _) (slice_colsAt msk 22 _ (by decide)))
    (ld_rowsAt x2 23 _) (ld_rowsAt x3 23 _) (slice_colsAt msk 23 _ (by decide)))
    (ld_rowsAt x2 24 _) (ld_rowsAt x3 24 _) (slice_colsAt msk 24 _ (by decide)))
    (ld_rowsAt x2 25 _) (ld_rowsAt x3 25 _) (slice_colsAt msk 25 _ (by decide)))
    (ld_rowsAt x2 26 _) (ld_rowsAt x3 26 _) (slice_colsAt msk 26 _ (by decide)))
    (ld_rowsAt x2 27 _) (ld_rowsAt x3 27 _) (slice_colsAt msk 27 _ (by decide)))
    (ld_rowsAt x2 28 _) (ld_rowsAt x3 28 _) (slice_colsAt msk 28 _ (by decide)))
    (ld_rowsAt x2 29 _) (ld_rowsAt x3 29 _) (slice_colsAt msk 29 _ (by decide)))
    (ld_rowsAt x2 30 _) (ld_rowsAt x3 30 _) (slice_colsAt msk 30 _ (by decide)))
    (ld_rowsAt x2 31 _) (ld_rowsAt x3 31 _) (slice_colsAt msk 31 _ (by decide)))

/-- The mean value row from the eight partial sums. -/
def vmean3 (x4 : Vec F S8x128 .f32) : FVec F S1x128 .f32 :=
  mulf (shapeCast S1x128 (multiReduction .add [0] S128 (shapeCast S8x128 x4 shapeCasts_S8x128_S8x128) 0x00000000#32
    reduces_S8x128_S128 (.inl rfl) rfl) shapeCasts_S128_S1x128) (broadcast S1x128 (Scalar.ofBits .f32 0x39800000#32))

theorem vmean3_apply (x4 : Vec Ideal S8x128 .f32) (j : Fin 128) :
    vmean3 x4 (ix2 0 j) = (∑ k : Fin 8, x4 (ix2 k j)) * Ideal.ofBits .f32 0x39800000#32 := by
  pointwise [vmean3]

theorem k3_pay8_apply (v42 : Vec Ideal S512x4096 .i32) (v44 : Vec Ideal S512x4096 .i32) (r : Fin 512) (j : Fin 4096) :
    k3_pay8 v42 v44 (ix2 r j) = if v42 (ix2 r j) ≠ 0#32 ∧ v44 (ix2 r j) ≠ 0#32 then 1 else 0 := by
  pointwise [k3_pay8]
  exact mask_float _ _

/-- What the body computes, from the loads on. -/
theorem body3_eq (x0 : Vec F S512x128 .f32) (x1 : Vec F S512x128 .f32) (x2 : Vec F S4096x128 .bf16) (x3 : Vec F S16384x256 .bf16)
    (x4 : Vec F S8x128 .f32) (x5 : Vec F S512x4096 .i32) (x6 : Vec F S512x4096 .i32) (x7 : Vec F S128x128 .f32) (x8 : Vec F S1x128 .f32)
    (x9 : Vec F S128x128 .f32) (x10 x11 x12 : Vec F S1x128 .f32) (x13 : Vec F S128x256 .f32) (x14 : Vec F S1x256 .f32)
    (x15 : Vec F S256x128 .f32) (x16 : Vec F S1x128 .f32) :
  (k3_pay1 (k3_pay71 x0 x1 x2 x3 x4 x5 x6 x7 x8 x9 x10 x11 x12 x13 x14 x15 x16)
    (k3_pay59 (k3_pay71 x0 x1 x2 x3 x4 x5 x6 x7 x8 x9 x10 x11 x12 x13 x14 x15 x16) (k3_pay56 (View.ld x11 r3_2)) (k3_pay57 (View.ld x12 r3_2))
      (k3_pay58 (k3_pay67 x0 x1 x2 x3 x4 x5 x6 x7 x8 x9 x10 x11 x12 x13 x14 x15 x16) (k3_pay68 x0 x1 x2 x3 x4 x5 x6 x7 x8 x9 x10 x11 x12 x13 x14 x15 x16)
        (k3_pay69 x0 x1 x2 x3 x4 x5 x6 x7 x8 x9 x10 x11 x12 x13 x14 x15 x16) (k3_pay70 x0 x1 x2 x3 x4 x5 x6 x7 x8 x9 x10 x11 x12 x13 x14 x15 x16)
        (View.ld x3 r3_67) (View.ld x4 r3_68) (View.ld x0 r3_0) (View.ld x9 r3_1) (View.ld x10 r3_2))
      (View.ld x13 r3_69) (View.ld x14 r3_70) (View.ld x15 r3_71)) (View.ld x16 r3_2))
    = attnOut (acc3 (qbd (View.ld x1 r3_0) (View.ld x7 r3_1) (View.ld x8 r3_2))
        (k3_pay8 (View.ld x5 r3_3) (View.ld x6 r3_3)) x2 x3) (vmean3 (View.ld x4 r3_68))
      (View.ld x0 r3_0) (View.ld x9 r3_1) (View.ld x10 r3_2) (View.ld x11 r3_2) (View.ld x12 r3_2) (View.ld x13 r3_69) (View.ld x14 r3_70) (View.ld x15 r3_71) (View.ld x16 r3_2) := rfl

theorem out3_eq (x0 : Vec F S512x128 .f32) (x1 : Vec F S512x128 .f32) (x2 : Vec F S4096x128 .bf16) (x3 : Vec F S16384x256 .bf16)
    (x4 : Vec F S8x128 .f32) (x5 : Vec F S512x4096 .i32) (x6 : Vec F S512x4096 .i32) (x7 : Vec F S128x128 .f32) (x8 : Vec F S1x128 .f32)
    (x9 : Vec F S128x128 .f32) (x10 x11 x12 : Vec F S1x128 .f32) (x13 : Vec F S128x256 .f32) (x14 : Vec F S1x256 .f32)
    (x15 : Vec F S256x128 .f32) (x16 : Vec F S1x128 .f32) :
    out3_17 x0 x1 x2 x3 x4 x5 x6 x7 x8 x9 x10 x11 x12 x13 x14 x15 x16
      = attnOut (nest (qbd x1 x7 x8) (rowsAt (n := 4096) 128 x2) (rowsAt (n := 16384) 512 x3) (colsAt (k3_pay8 x5 x6)) 32)
          (vmean3 x4) x0 x9 x10 x11 x12 x13 x14 x15 x16 := by
  unfold out3_17
  rw [body3_eq, acc3_eq, View.canon_unit_zero off_zero]
  simp only [ld_zero]

end Cert.KernelIdeal.Val

end
-- ==== Proof.AttArr3.lean ====
/-
  What the second attention call leaves in its result array.
-/
module

public import proofs.«01_k».proof.Proof.Att
public import proofs.«01_k».proof.Proof.Attn3
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec
open Idealize.ShloMosaic.Pipeline (Dat Cfg Window cellOf)
open scoped BigOperators

variable (V : (c : Dev nD) → (b : Ref sig .tc) → Buf (Elt Ideal) ((c : Thread nD τ).loc b))

/-! ## The blocks' places -/

theorem at3_0 : ∀ t : Fin cfg3.N, win3_0.index t = ![t.val, 0] := (by decide +kernel : ∀ t : Fin grid3.N, _)
theorem at3_1 : ∀ t : Fin cfg3.N, win3_1.index t = ![t.val, 0] := (by decide +kernel : ∀ t : Fin grid3.N, _)
theorem at3_2 : ∀ t : Fin cfg3.N, win3_2.index t = ![0, 0] := (by decide +kernel : ∀ t : Fin grid3.N, _)
theorem at3_3 : ∀ t : Fin cfg3.N, win3_3.index t = ![0, 0] := (by decide +kernel : ∀ t : Fin grid3.N, _)
theorem at3_4 : ∀ t : Fin cfg3.N, win3_4.index t = ![0, 0] := (by decide +kernel : ∀ t : Fin grid3.N, _)
theorem at3_5 : ∀ t : Fin cfg3.N, win3_5.index t = ![t.val, 0] := (by decide +kernel : ∀ t : Fin grid3.N, _)
theorem at3_6 : ∀ t : Fin cfg3.N, win3_6.index t = ![t.val, 0] := (by decide +kernel : ∀ t : Fin grid3.N, _)
theorem at3_7 : ∀ t : Fin cfg3.N, win3_7.index t = ![0, 0] := (by decide +kernel : ∀ t : Fin grid3.N, _)
theorem at3_8 : ∀ t : Fin cfg3.N, win3_8.index t = ![0, 0] := (by decide +kernel : ∀ t : Fin grid3.N, _)
theorem at3_9 : ∀ t : Fin cfg3.N, win3_9.index t = ![0, 0] := (by decide +kernel : ∀ t : Fin grid3.N, _)
theorem at3_10 : ∀ t : Fin cfg3.N, win3_10.index t = ![0, 0] := (by decide +kernel : ∀ t : Fin grid3.N, _)
theorem at3_11 : ∀ t : Fin cfg3.N, win3_11.index t = ![0, 0] := (by decide +kernel : ∀ t : Fin grid3.N, _)
theorem at3_12 : ∀ t : Fin cfg3.N, win3_12.index t = ![0, 0] := (by decide +kernel : ∀ t : Fin grid3.N, _)
theorem at3_13 : ∀ t : Fin cfg3.N, win3_13.index t = ![0, 0] := (by decide +kernel : ∀ t : Fin grid3.N, _)
theorem at3_14 : ∀ t : Fin cfg3.N, win3_14.index t = ![0, 0] := (by decide +kernel : ∀ t : Fin grid3.N, _)
theorem at3_15 : ∀ t : Fin cfg3.N, win3_15.index t = ![0, 0] := (by decide +kernel : ∀ t : Fin grid3.N, _)
theorem at3_16 : ∀ t : Fin cfg3.N, win3_16.index t = ![0, 0] := (by decide +kernel : ∀ t : Fin grid3.N, _)
theorem at3_17 : ∀ t : Fin cfg3.N, win3_17.index t = ![t.val, 0] := (by decide +kernel : ∀ t : Fin grid3.N, _)

theorem lt3 (t : Fin cfg3.N) : t.val < 4 := Nat.lt_of_lt_of_eq t.isLt (by decide +kernel)

/-! ## The input blocks -/

theorem in3_0 (c : Dev nD) (t : Fin cfg3.N) (r : Fin 512) (k : Fin 128) (R : Fin 2048) (hR : R.val = 512 * t.val + r.val) :
    iblk3 V c 0 t (ix2 r k : S512x128.Idx) = V c main_arg0 (ix2 R k : S2048x128.Idx) := by
  blk_simp [iblk3]
  refine congrArg _ (funext fun a => Fin.ext ?_)
  match a with
  | ⟨0, _⟩ =>
    blk_simp [at3_0]
    show t.val * 512 + r.val = R.val
    omega
  | ⟨1, _⟩ =>
    blk_simp [at3_0]

theorem in3_1 (c : Dev nD) (t : Fin cfg3.N) (r : Fin 512) (k : Fin 128) (R : Fin 2048) (hR : R.val = 512 * t.val + r.val) :
    iblk3 V c 1 t (ix2 r k : S512x128.Idx) = V c main_v12_0 (ix2 R k : S2048x128.Idx) := by
  blk_simp [iblk3]
  refine congrArg _ (funext fun a => Fin.ext ?_)
  match a with
  | ⟨0, _⟩ =>
    blk_simp [at3_1]
    show t.val * 512 + r.val = R.val
    omega
  | ⟨1, _⟩ =>
    blk_simp [at3_1]

theorem in3_2 (c : Dev nD) (t : Fin cfg3.N) : iblk3 V c 2 t = V c main_v26_1 := by
  funext y
  blk_simp [iblk3]
  refine congrArg _ ?_
  blk_ext [at3_2]

theorem in3_3 (c : Dev nD) (t : Fin cfg3.N) : iblk3 V c 3 t = V c main_v27 := by
  funext y
  blk_simp [iblk3]
  refine congrArg _ ?_
  blk_ext [at3_3]

theorem in3_4 (c : Dev nD) (t : Fin cfg3.N) : iblk3 V c 4 t = V c main_v26_3 := by
  funext y
  blk_simp [iblk3]
  refine congrArg _ ?_
  blk_ext [at3_4]

theorem in3_5 (c : Dev nD) (t : Fin cfg3.N) (r : Fin 512) (k : Fin 4096) (R : Fin 2048) (hR : R.val = 512 * t.val + r.val) :
    iblk3 V c 5 t (ix2 r k : S512x4096.Idx) = V c main_v83 (ix2 R k : S2048x4096.Idx) := by
  blk_simp [iblk3]
  refine congrArg _ (funext fun a => Fin.ext ?_)
  match a with
  | ⟨0, _⟩ =>
    blk_simp [at3_5]
    show t.val * 512 + r.val = R.val
    omega
  | ⟨1, _⟩ =>
    blk_simp [at3_5]

theorem in3_6 (c : Dev nD) (t : Fin cfg3.N) (r : Fin 512) (k : Fin 4096) (R : Fin 2048) (hR : R.val = 512 * t.val + r.val) :
    iblk3 V c 6 t (ix2 r k : S512x4096.Idx) = V c main_v84 (ix2 R k : S2048x4096.Idx) := by
  blk_simp [iblk3]
  refine congrArg _ (funext fun a => Fin.ext ?_)
  match a with
  | ⟨0, _⟩ =>
    blk_simp [at3_6]
    show t.val * 512 + r.val = R.val
    omega
  | ⟨1, _⟩ =>
    blk_simp [at3_6]

theorem in3_7 (c : Dev nD) (t : Fin cfg3.N) : iblk3 V c 7 t = V c main_v58 := by
  funext y
  blk_simp [iblk3]
  refine congrArg _ ?_
  blk_ext [at3_7]

theorem in3_8 (c : Dev nD) (t : Fin cfg3.N) : iblk3 V c 8 t = V c main_v77 := by
  funext y
  blk_simp [iblk3]
  refine congrArg _ ?_
  blk_ext [at3_8]

theorem in3_9 (c : Dev nD) (t : Fin cfg3.N) : iblk3 V c 9 t = V c main_v62 := by
  funext y
  blk_simp [iblk3]
  refine congrArg _ ?_
  blk_ext [at3_9]

theorem in3_10 (c : Dev nD) (t : Fin cfg3.N) : iblk3 V c 10 t = V c main_v78 := by
  funext y
  blk_simp [iblk3]
  refine congrArg _ ?_
  blk_ext [at3_10]

theorem in3_11 (c : Dev nD) (t : Fin cfg3.N) : iblk3 V c 11 t = V c main_v79 := by
  funext y
  blk_simp [iblk3]
  refine congrArg _ ?_
  blk_ext [at3_11]

theorem in3_12 (c : Dev nD) (t : Fin cfg3.N) : iblk3 V c 12 t = V c main_v80 := by
  funext y
  blk_simp [iblk3]
  refine congrArg _ ?_
  blk_ext [at3_12]

theorem in3_13 (c : Dev nD) (t : Fin cfg3.N) : iblk3 V c 13 t = V c main_v70 := by
  funext y
  blk_simp [iblk3]
  refine congrArg _ ?_
  blk_ext [at3_13]

theorem in3_14 (c : Dev nD) (t : Fin cfg3.N) : iblk3 V c 14 t = V c main_v81 := by
  funext y
  blk_simp [iblk3]
  refine congrArg _ ?_
  blk_ext [at3_14]

theorem in3_15 (c : Dev nD) (t : Fin cfg3.N) : iblk3 V c 15 t = V c main_v74 := by
  funext y
  blk_simp [iblk3]
  refine congrArg _ ?_
  blk_ext [at3_15]

theorem in3_16 (c : Dev nD) (t : Fin cfg3.N) : iblk3 V c 16 t = V c main_v82 := by
  funext y
  blk_simp [iblk3]
  refine congrArg _ ?_
  blk_ext [at3_16]

set_option maxHeartbeats 2000000 in
/-- The result array: the attention layer on the arrays the call reads, once its heads' values are laid out head by head. -/
theorem outArr3 (c : Dev nD) (VV : (⟨2, ![4096, 128]⟩ : Shape).Idx → EReal)
    (h3 : V c main_v27 = flatHeads (C := 32) (n4 := 16384) VV) :
    (dat3 V c).arrAt 17 cfg3.N = attArr (m := 2048) (n := 4096) (V c main_arg0) (V c main_v12_0) (V c main_v26_1) VV (V c main_v26_3) (Ideal.ofBits .f32 0x39800000#32) (V c main_v83) (V c main_v84) (V c main_v58) (V c main_v77) (V c main_v62) (V c main_v78) (V c main_v79) (V c main_v80) (V c main_v70) (V c main_v81) (V c main_v74) (V c main_v82) := by
  refine (dat3 V c).arrAt_eq_of_covers 17 _ (by decide +kernel) fun t hf y => ?_
  blk_simp
  rw [after3_17, out3_eq]
  obtain ⟨r, k, rfl⟩ : ∃ (r : Fin 512) (k : Fin 128), y = (ix2 r k : S512x128.Idx) := ⟨y 0, y 1, funext fun a => by fin_cases a <;> rfl⟩
  have hlt := lt3 t
  obtain ⟨R, hR⟩ : ∃ R : Fin 2048, R.val = 512 * t.val + r.val := ⟨⟨512 * t.val + r.val, by omega⟩, rfl⟩
  have e : (win3_17.blk t).view.emb (ix2 r k : S512x128.Idx) = (ix2 R k : S2048x128.Idx) := by
    blk_ext [at3_17]
  refine Eq.trans ?_ (congrArg _ e.symm)
  rw [in3_2, in3_3, in3_4, in3_7, in3_8, in3_9, in3_10, in3_11, in3_12, in3_13, in3_14, in3_15, in3_16, h3]
  refine (attnOut_nest (n := 4096) (n4 := 16384) (N := 32) rfl rfl _ _ _ _ _ _ _ _ _ _ _ _ _ _ _ _ r k (fun i l => VV (ix2 i l))
    (fun j => V c main_v83 (ix2 R j : S2048x4096.Idx) ≠ 0#32 ∧ V c main_v84 (ix2 R j : S2048x4096.Idx) ≠ 0#32) (fun i => ?_)
    (fun q hq h i l => ?_) (fun q hq h i l => ?_)).trans ?_
  · rw [k3_pay8_apply, in3_5 V c t r i R hR, in3_6 V c t r i R hR]
  · exact flatHeads_lo VV q hq h i l _ rfl _ rfl
  · exact flatHeads_hi VV q hq h i l _ rfl
  · rw [funext fun l => in3_0 V c t r l R hR, funext fun l => in3_1 V c t r l R hR]
    simp only [vmean3_apply]
    rfl

end Cert.KernelIdeal.Val

end
-- ==== Proof.KernelOut.lean ====
/-
  The kernel's two results, entry by entry, from the entries of its arguments.
-/
module

public import proofs.«01_k».proof.Proof.Hosts
public import proofs.«01_k».proof.Proof.Layer
public import proofs.«01_k».proof.Proof.NkvArr0
public import proofs.«01_k».proof.Proof.NkvArr1
public import proofs.«01_k».proof.Proof.AttArr2
public import proofs.«01_k».proof.Proof.AttArr3

@[expose] public section

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen Cert.Spec

variable (m : (ℓ : Loc nD τ sig) → Buf (Elt Ideal) ℓ) (ρ : Dev nD → PrngReg) (c : Dev nD)

/-- An argument array at the launch. -/
abbrev ar (b : Ref sig .tc) : Buf (Elt Ideal) ((c : Thread nD τ).loc b) := m ((c : Thread nD τ).loc b)

/-! ## The first key and value call's results -/

theorem ln0_at (r : Fin 2048) (j : Fin 128) :
    (lnArr (n := 2048) (V1 m ρ c main_arg0) (V1 m ρ c main_v8) (V1 m ρ c main_v9)) (ix2 r j) = lnRow (seq (ar m c main_arg0) r) (vec (ar m c main_arg6)) (vec (ar m c main_arg7)) j :=
  lnArr_at _ _ _ r j (fun k => congrFun (W1_args m ρ c main_arg0 (by decide)) (ix2 r k : S2048x128.Idx))
    (fun k => (h0_8 (W0 m ρ c) k).trans (congrFun (W0_args m ρ c main_arg6 (by decide)) _)) (fun k => (h0_9 (W0 m ρ c) k).trans (congrFun (W0_args m ρ c main_arg7 (by decide)) _))

/-- The values of the first sequence. -/
def vals0 : (⟨2, ![2048, 128]⟩ : Shape).Idx → EReal := linArr (lnArr (n := 2048) (V1 m ρ c main_arg0) (V1 m ρ c main_v8) (V1 m ρ c main_v9)) (V1 m ρ c main_v5) (V1 m ρ c main_v11)

theorem vals0_at (r : Fin 2048) (j : Fin 128) :
    vals0 m ρ c (ix2 r j) = proj 0 (ar m c main_arg0) (ar m c main_arg6) (ar m c main_arg7) (ar m c main_arg14) (ar m c main_arg15) r j :=
  linArr_at _ _ _ r j (fun k => ln0_at m ρ c r k) (fun k l => (h0_5 (W0 m ρ c) k l).trans (congrFun (W0_args m ρ c main_arg14 (by decide)) _)) (fun k => (h0_11 (W0 m ρ c) k).trans (congrFun (W0_args m ρ c main_arg15 (by decide)) _))

theorem nxW0 (r : Fin 2048) (j : Fin 128) : W2 m ρ c (Proc.devRef .tc main_v12_0) (ix2 r j : S2048x128.Idx)
    = lnRow (seq (ar m c main_arg0) r) (vec (ar m c main_arg6)) (vec (ar m c main_arg7)) j :=
  (congrFun ((W2_arr m ρ c 7).trans (nxArr0 (V1 m ρ) c)) (ix2 r j : S2048x128.Idx)).trans (ln0_at m ρ c r j)

theorem kW0 (r : Fin 2048) (j : Fin 128) : W2 m ρ c (Proc.devRef .tc main_v12_1) (ix2 r j : S2048x128.Idx)
    = proj 0 (ar m c main_arg0) (ar m c main_arg6) (ar m c main_arg7) (ar m c main_arg12) (ar m c main_arg13) r j :=
  (congrFun ((W2_arr m ρ c 8).trans (kArr0 (V1 m ρ) c)) (ix2 r j : S2048x128.Idx)).trans
    (linArr_at _ _ _ r j (fun k => ln0_at m ρ c r k) (fun k l => (h0_1 (W0 m ρ c) k l).trans (congrFun (W0_args m ρ c main_arg12 (by decide)) _)) (fun k => (h0_10 (W0 m ρ c) k).trans (congrFun (W0_args m ρ c main_arg13 (by decide)) _)))

theorem headsW0 : W2 m ρ c (Proc.devRef .tc main_v12_2) = headsArr (C := 16) (vals0 m ρ c) :=
  (W2_arr m ρ c 9).trans (headsArr0 (V1 m ρ) c)

theorem sumsW0 : W2 m ρ c (Proc.devRef .tc main_v12_3) = sumsArr 256 (vals0 m ρ c) :=
  (W2_arr m ρ c 10).trans (sumsArr0 (V1 m ρ) c)

/-! ## The second key and value call's results -/

theorem ln1_at (r : Fin 4096) (j : Fin 128) :
    (lnArr (n := 4096) (V3 m ρ c main_arg1) (V3 m ρ c main_v22) (V3 m ρ c main_v23)) (ix2 r j) = lnRow (seq (ar m c main_arg1) r) (vec (ar m c main_arg8)) (vec (ar m c main_arg9)) j :=
  lnArr_at _ _ _ r j (fun k => congrFun (W3_args m ρ c main_arg1 (by decide)) (ix2 r k : S4096x128.Idx))
    (fun k => (h1_22 (W2 m ρ c) k).trans (congrFun (W2_args m ρ c main_arg8 (by decide)) _)) (fun k => (h1_23 (W2 m ρ c) k).trans (congrFun (W2_args m ρ c main_arg9 (by decide)) _))

/-- The values of the second sequence. -/
def vals1 : (⟨2, ![4096, 128]⟩ : Shape).Idx → EReal := linArr (lnArr (n := 4096) (V3 m ρ c main_arg1) (V3 m ρ c main_v22) (V3 m ρ c main_v23)) (V3 m ρ c main_v19) (V3 m ρ c main_v25)

theorem vals1_at (r : Fin 4096) (j : Fin 128) :
    vals1 m ρ c (ix2 r j) = proj 1 (ar m c main_arg1) (ar m c main_arg8) (ar m c main_arg9) (ar m c main_arg14) (ar m c main_arg15) r j :=
  linArr_at _ _ _ r j (fun k => ln1_at m ρ c r k) (fun k l => (h1_19 (W2 m ρ c) k l).trans (congrFun (W2_args m ρ c main_arg14 (by decide)) _)) (fun k => (h1_25 (W2 m ρ c) k).trans (congrFun (W2_args m ρ c main_arg15 (by decide)) _))

theorem nxW1 (r : Fin 4096) (j : Fin 128) : W4 m ρ c (Proc.devRef .tc main_v26_0) (ix2 r j : S4096x128.Idx)
    = lnRow (seq (ar m c main_arg1) r) (vec (ar m c main_arg8)) (vec (ar m c main_arg9)) j :=
  (congrFun ((W4_arr m ρ c 7).trans (nxArr1 (V3 m ρ) c)) (ix2 r j : S4096x128.Idx)).trans (ln1_at m ρ c r j)

theorem kW1 (r : Fin 4096) (j : Fin 128) : W4 m ρ c (Proc.devRef .tc main_v26_1) (ix2 r j : S4096x128.Idx)
    = proj 1 (ar m c main_arg1) (ar m c main_arg8) (ar m c main_arg9) (ar m c main_arg12) (ar m c main_arg13) r j :=
  (congrFun ((W4_arr m ρ c 8).trans (kArr1 (V3 m ρ) c)) (ix2 r j : S4096x128.Idx)).trans
    (linArr_at _ _ _ r j (fun k => ln1_at m ρ c r k) (fun k l => (h1_15 (W2 m ρ c) k l).trans (congrFun (W2_args m ρ c main_arg12 (by decide)) _)) (fun k => (h1_24 (W2 m ρ c) k).trans (congrFun (W2_args m ρ c main_arg13 (by decide)) _)))

theorem headsW1 : W4 m ρ c (Proc.devRef .tc main_v26_2) = headsArr (C := 32) (vals1 m ρ c) :=
  (W4_arr m ρ c 9).trans (headsArr1 (V3 m ρ) c)

theorem sumsW1 : W4 m ρ c (Proc.devRef .tc main_v26_3) = sumsArr 512 (vals1 m ρ c) :=
  (W4_arr m ρ c 10).trans (sumsArr1 (V3 m ρ) c)

/-! ## What the attention calls read of them -/

theorem V5_k0 : V5 m ρ c main_v12_1 = W2 m ρ c (Proc.devRef .tc main_v12_1) := (((W5_of m ρ c main_v12_1 (by decide)).trans (W4_of m ρ c main_v12_1 (by decide))).trans (W3_of m ρ c main_v12_1 (by decide)))
theorem V5_s0 : V5 m ρ c main_v12_3 = W2 m ρ c (Proc.devRef .tc main_v12_3) := (((W5_of m ρ c main_v12_3 (by decide)).trans (W4_of m ρ c main_v12_3 (by decide))).trans (W3_of m ρ c main_v12_3 (by decide)))
theorem W3_h0 : W3 m ρ c (Proc.devRef .tc main_v13) = flatHeads (C := 16) (n4 := 8192) (vals0 m ρ c) := (funext fun q => by
  obtain ⟨a, b, rfl⟩ : ∃ (a : Fin 8192) (b : Fin 256), q = (ix2 a b : S8192x256.Idx) := ⟨q 0, q 1, funext fun a => by fin_cases a <;> rfl⟩
  exact (h1_13 (W2 m ρ c) a b).trans (congrFun (headsW0 m ρ c) _))
theorem V5_h0 : V5 m ρ c main_v13 = flatHeads (C := 16) (n4 := 8192) (vals0 m ρ c) := ((W5_of m ρ c main_v13 (by decide)).trans (W4_of m ρ c main_v13 (by decide))).trans (W3_h0 m ρ c)
theorem V7_nx0 : V7 m ρ c main_v12_0 = W2 m ρ c (Proc.devRef .tc main_v12_0) := (((((W7_of m ρ c main_v12_0 (by decide)).trans (W6_of m ρ c main_v12_0 (by decide))).trans (W5_of m ρ c main_v12_0 (by decide))).trans (W4_of m ρ c main_v12_0 (by decide))).trans (W3_of m ρ c main_v12_0 (by decide)))
theorem V5_nx1 : V5 m ρ c main_v26_0 = W4 m ρ c (Proc.devRef .tc main_v26_0) := (W5_of m ρ c main_v26_0 (by decide))
theorem V7_k1 : V7 m ρ c main_v26_1 = W4 m ρ c (Proc.devRef .tc main_v26_1) := (((W7_of m ρ c main_v26_1 (by decide)).trans (W6_of m ρ c main_v26_1 (by decide))).trans (W5_of m ρ c main_v26_1 (by decide)))
theorem V7_s1 : V7 m ρ c main_v26_3 = W4 m ρ c (Proc.devRef .tc main_v26_3) := (((W7_of m ρ c main_v26_3 (by decide)).trans (W6_of m ρ c main_v26_3 (by decide))).trans (W5_of m ρ c main_v26_3 (by decide)))
theorem W5_h1 : W5 m ρ c (Proc.devRef .tc main_v27) = flatHeads (C := 32) (n4 := 16384) (vals1 m ρ c) := (funext fun q => by
  obtain ⟨a, b, rfl⟩ : ∃ (a : Fin 16384) (b : Fin 256), q = (ix2 a b : S16384x256.Idx) := ⟨q 0, q 1, funext fun a => by fin_cases a <;> rfl⟩
  exact (h2_27 (W4 m ρ c) a b).trans (congrFun (headsW1 m ρ c) _))
theorem V7_h1 : V7 m ρ c main_v27 = flatHeads (C := 32) (n4 := 16384) (vals1 m ρ c) := ((W7_of m ρ c main_v27 (by decide)).trans (W6_of m ρ c main_v27 (by decide))).trans (W5_h1 m ρ c)

/-! ## The results -/

theorem out1_at (i : Fin 4096) (j : Fin 128) : W8 m ρ c (Proc.devRef .tc main_v56) (ix2 i j : S4096x128.Idx)
    = layerK 0 (ar m c main_arg1) (ar m c main_arg0) (ar m c main_arg8) (ar m c main_arg9) (ar m c main_arg6) (ar m c main_arg7) (ar m c main_arg10) (ar m c main_arg11) (ar m c main_arg12) (ar m c main_arg13) (ar m c main_arg14) (ar m c main_arg15) (ar m c main_arg16) (ar m c main_arg17) (ar m c main_arg18) (ar m c main_arg19) (ar m c main_arg20) (ar m c main_arg21) (ar m c main_arg22) (ar m c main_arg23) (ar m c main_arg2) (ar m c main_arg3) (Ideal.ofBits .f32 0x3A000000#32) i j := by
  have e : W6 m ρ c (Proc.devRef .tc main_v56) = _ := (W6_arr m ρ c 17).trans (outArr2 (V5 m ρ) c (vals0 m ρ c) (V5_h0 m ρ c))
  refine (congrFun (((W8_of m ρ c main_v56 (by decide)).trans (W7_of m ρ c main_v56 (by decide))).trans e) (ix2 i j : S4096x128.Idx)).trans ?_
  exact attArr_at (m := 4096) (n := 2048) _ _ _ _ _ _ _ _ _ _ _ _ _ _ _ _ _ _ i j
    (fun l => congrFun (W5_args m ρ c main_arg1 (by decide)) (ix2 i l : S4096x128.Idx))
    (fun l => (congrFun (V5_nx1 m ρ c) (ix2 i l : S4096x128.Idx)).trans (nxW1 m ρ c i l))
    (fun l d => (congrFun (V5_k0 m ρ c) (ix2 l d : S2048x128.Idx)).trans (kW0 m ρ c l d))
    (fun l d => vals0_at m ρ c l d)
    (fun d => sums_of rfl ((V5_s0 m ρ c).trans (sumsW0 m ρ c)) d fun l => vals0_at m ρ c l d)
    (fun l => (h2_54 (W4 m ρ c) i l).trans (congrArg (fun x : BitVec 1 => x.setWidth 32) (congrFun (W4_args m ρ c main_arg2 (by decide)) _)))
    (fun l => (h2_55 (W4 m ρ c) i l).trans (congrArg (fun x : BitVec 1 => x.setWidth 32) (congrFun (W4_args m ρ c main_arg3 (by decide)) _)))
    (fun k l => (h2_29 (W4 m ρ c) k l).trans (congrFun (W4_args m ρ c main_arg10 (by decide)) _)) (fun k => (h2_48 (W4 m ρ c) k).trans (congrFun (W4_args m ρ c main_arg11 (by decide)) _))
    (fun k l => (h2_33 (W4 m ρ c) k l).trans (congrFun (W4_args m ρ c main_arg16 (by decide)) _)) (fun k => (h2_49 (W4 m ρ c) k).trans (congrFun (W4_args m ρ c main_arg17 (by decide)) _))
    (fun k => (h2_50 (W4 m ρ c) k).trans (congrFun (W4_args m ρ c main_arg18 (by decide)) _)) (fun k => (h2_51 (W4 m ρ c) k).trans (congrFun (W4_args m ρ c main_arg19 (by decide)) _))
    (fun k l => (h2_41 (W4 m ρ c) k l).trans (congrFun (W4_args m ρ c main_arg20 (by decide)) _)) (fun k => (h2_52 (W4 m ρ c) k).trans (congrFun (W4_args m ρ c main_arg21 (by decide)) _))
    (fun k l => (h2_45 (W4 m ρ c) k l).trans (congrFun (W4_args m ρ c main_arg22 (by decide)) _)) (fun k => (h2_53 (W4 m ρ c) k).trans (congrFun (W4_args m ρ c main_arg23 (by decide)) _))

theorem out0_at (i : Fin 2048) (j : Fin 128) : W8 m ρ c (Proc.devRef .tc main_v85) (ix2 i j : S2048x128.Idx)
    = layerK 1 (ar m c main_arg0) (ar m c main_arg1) (ar m c main_arg6) (ar m c main_arg7) (ar m c main_arg8) (ar m c main_arg9) (ar m c main_arg10) (ar m c main_arg11) (ar m c main_arg12) (ar m c main_arg13) (ar m c main_arg14) (ar m c main_arg15) (ar m c main_arg16) (ar m c main_arg17) (ar m c main_arg18) (ar m c main_arg19) (ar m c main_arg20) (ar m c main_arg21) (ar m c main_arg22) (ar m c main_arg23) (ar m c main_arg4) (ar m c main_arg5) (Ideal.ofBits .f32 0x39800000#32) i j := by
  have e : W8 m ρ c (Proc.devRef .tc main_v85) = _ := (W8_arr m ρ c 17).trans (outArr3 (V7 m ρ) c (vals1 m ρ c) (V7_h1 m ρ c))
  refine (congrFun (e) (ix2 i j : S2048x128.Idx)).trans ?_
  exact attArr_at (m := 2048) (n := 4096) _ _ _ _ _ _ _ _ _ _ _ _ _ _ _ _ _ _ i j
    (fun l => congrFun (W7_args m ρ c main_arg0 (by decide)) (ix2 i l : S2048x128.Idx))
    (fun l => (congrFun (V7_nx0 m ρ c) (ix2 i l : S2048x128.Idx)).trans (nxW0 m ρ c i l))
    (fun l d => (congrFun (V7_k1 m ρ c) (ix2 l d : S4096x128.Idx)).trans (kW1 m ρ c l d))
    (fun l d => vals1_at m ρ c l d)
    (fun d => sums_of rfl ((V7_s1 m ρ c).trans (sumsW1 m ρ c)) d fun l => vals1_at m ρ c l d)
    (fun l => (h3_83 (W6 m ρ c) i l).trans (congrArg (fun x : BitVec 1 => x.setWidth 32) (congrFun (W6_args m ρ c main_arg4 (by decide)) _)))
    (fun l => (h3_84 (W6 m ρ c) i l).trans (congrArg (fun x : BitVec 1 => x.setWidth 32) (congrFun (W6_args m ρ c main_arg5 (by decide)) _)))
    (fun k l => (h3_58 (W6 m ρ c) k l).trans (congrFun (W6_args m ρ c main_arg10 (by decide)) _)) (fun k => (h3_77 (W6 m ρ c) k).trans (congrFun (W6_args m ρ c main_arg11 (by decide)) _))
    (fun k l => (h3_62 (W6 m ρ c) k l).trans (congrFun (W6_args m ρ c main_arg16 (by decide)) _)) (fun k => (h3_78 (W6 m ρ c) k).trans (congrFun (W6_args m ρ c main_arg17 (by decide)) _))
    (fun k => (h3_79 (W6 m ρ c) k).trans (congrFun (W6_args m ρ c main_arg18 (by decide)) _)) (fun k => (h3_80 (W6 m ρ c) k).trans (congrFun (W6_args m ρ c main_arg19 (by decide)) _))
    (fun k l => (h3_70 (W6 m ρ c) k l).trans (congrFun (W6_args m ρ c main_arg20 (by decide)) _)) (fun k => (h3_81 (W6 m ρ c) k).trans (congrFun (W6_args m ρ c main_arg21 (by decide)) _))
    (fun k l => (h3_74 (W6 m ρ c) k l).trans (congrFun (W6_args m ρ c main_arg22 (by decide)) _)) (fun k => (h3_82 (W6 m ρ c) k).trans (congrFun (W6_args m ρ c main_arg23 (by decide)) _))

end Cert.KernelIdeal.Val

end
-- ==== Proof.RefNorm.lean ====
/-
  The reference's layer normalisations and projections, read at an index.
-/
module

public import proofs.«01_k».proof.Proof.Layer
public import proofs.«01_k».proof.Proof.Gen.ReferenceIdeal.Read
public import Idealize.ShloMosaic.Lib.Pointwise

@[expose] public section

set_option maxRecDepth 16384

noncomputable section

namespace Cert.ReferenceIdeal.Val

open Idealize.ShloMosaic
open Cert.ReferenceIdeal Cert.ReferenceIdeal.Read Cert.Spec
open scoped BigOperators

/-- The reference divides by `128 - 0` where that is positive. -/
theorem var_eq (S z : EReal) :
    (if (0 : EReal) < Ideal.ofBits FTy.f32 0x43000000#32 - FloatOps.sitofp (F := Ideal) FTy.f32 0#32 then
      Ideal.div S (Ideal.ofBits FTy.f32 0x43000000#32 - FloatOps.sitofp (F := Ideal) FTy.f32 0#32) else z) = Ideal.div S c128 := by
  have e : (FloatOps.sitofp (F := Ideal) FTy.f32 0#32 : EReal) = 0 := by
    show (((0#32 : BitVec 32).toInt : ℝ) : EReal) = 0
    simp
  rw [e, sub_zero]
  refine if_pos ?_
  show (0 : EReal) < c128
  rw [c128_eq]
  norm_num

theorem v4_at (x0 : (⟨S2048x128, .f32⟩ : BufTy).Contents (Elt Ideal)) (r : Fin 2048) :
    val_main_v4 (F := Ideal) x0 (ix2 r (0 : Fin 1) : S2048x1.Idx) = mean (fun k => (seq x0 r k - mean (seq x0 r)) * (seq x0 r k - mean (seq x0 r))) := by
  pointwise [val_main_v4, val_main_call0_v13, val_main_call0_v12, val_main_call0_call0_v1, val_main_call0_call0_v0, val_main_call0_cst_4, val_main_call0_v10, val_main_call0_v11, val_main_call0_v8, val_main_call0_cst_1, val_main_call0_v7, val_main_c, val_main_call0_v9, val_main_call0_v6, val_main_call0_cst_2, val_main_call0_v5, val_main_call0_v4, val_main_call0_v3, val_main_call0_v1, val_main_call0_v2, val_main_call0_cst_0, val_main_call0_v0, val_main_call0_cst, val_main_call0_cst_3]
  exact var_eq _ _

theorem v17_at (x0 : (⟨S2048x128, .f32⟩ : BufTy).Contents (Elt Ideal)) (x6 : (⟨S128, .f32⟩ : BufTy).Contents (Elt Ideal)) (x7 : (⟨S128, .f32⟩ : BufTy).Contents (Elt Ideal)) (r : Fin 2048) (j : Fin 128) :
    val_main_v17 (F := Ideal) x0 x6 x7 (ix2 r j : S2048x128.Idx) = lnRow (seq x0 r) (vec x6) (vec x7) j := by
  pointwise [val_main_v17, val_main_v14, val_main_v16, val_main_v15, val_main_v11, val_main_v13, val_main_v12, val_main_v6, val_main_v10, val_main_v9, val_main_v8, val_main_v7, val_main_cst_1, val_main_v5, val_main_v3, val_main_v1, val_main_v2, val_main_cst_0, val_main_v0, val_main_cst]
  rw [v4_at]
  rfl

theorem v22_at (x1 : (⟨S4096x128, .f32⟩ : BufTy).Contents (Elt Ideal)) (r : Fin 4096) :
    val_main_v22 (F := Ideal) x1 (ix2 r (0 : Fin 1) : S4096x1.Idx) = mean (fun k => (seq x1 r k - mean (seq x1 r)) * (seq x1 r k - mean (seq x1 r))) := by
  pointwise [val_main_v22, val_main_call1_v13, val_main_call1_v12, val_main_call1_call0_v1, val_main_call1_call0_v0, val_main_call1_cst_4, val_main_call1_v10, val_main_call1_v11, val_main_call1_v8, val_main_call1_cst_1, val_main_call1_v7, val_main_c_4, val_main_call1_v9, val_main_call1_v6, val_main_call1_cst_2, val_main_call1_v5, val_main_call1_v4, val_main_call1_v3, val_main_call1_v1, val_main_call1_v2, val_main_call1_cst_0, val_main_call1_v0, val_main_call1_cst, val_main_call1_cst_3]
  exact var_eq _ _

theorem v35_at (x1 : (⟨S4096x128, .f32⟩ : BufTy).Contents (Elt Ideal)) (x8 : (⟨S128, .f32⟩ : BufTy).Contents (Elt Ideal)) (x9 : (⟨S128, .f32⟩ : BufTy).Contents (Elt Ideal)) (r : Fin 4096) (j : Fin 128) :
    val_main_v35 (F := Ideal) x1 x8 x9 (ix2 r j : S4096x128.Idx) = lnRow (seq x1 r) (vec x8) (vec x9) j := by
  pointwise [val_main_v35, val_main_v32, val_main_v34, val_main_v33, val_main_v29, val_main_v31, val_main_v30, val_main_v24, val_main_v28, val_main_v27, val_main_v26, val_main_v25, val_main_cst_5, val_main_v23, val_main_v21, val_main_v19, val_main_v20, val_main_cst_3, val_main_v18, val_main_cst_2]
  rw [v22_at]
  rfl

theorem v67_at (x1 : (⟨S4096x128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (r : Fin 4096) (j : Fin 128) :
    val_main_v67 (F := Ideal) x1 x8 x9 x10 x11 (ix2 r j : S4096x128.Idx) = proj 0 x1 x8 x9 x10 x11 r j := by
  pointwise [val_main_v67, val_main_v64, val_main_v66, val_main_v65, val_main_v39, val_main_v38, val_main_v37, val_main_v36]
  simp only [v35_at]
  rfl

theorem v73_at (x0 : (⟨S2048x128, .f32⟩ : BufTy).Contents (Elt Ideal)) (x6 : (⟨S128, .f32⟩ : BufTy).Contents (Elt Ideal)) (x7 : (⟨S128, .f32⟩ : BufTy).Contents (Elt Ideal)) (x12 : (⟨S2x128x128, .f32⟩ : BufTy).Contents (Elt Ideal)) (x13 : (⟨S2x128, .f32⟩ : BufTy).Contents (Elt Ideal)) (r : Fin 2048) (j : Fin 128) :
    val_main_v73 (F := Ideal) x0 x6 x7 x12 x13 (ix2 r j : S2048x128.Idx) = proj 0 x0 x6 x7 x12 x13 r j := by
  pointwise [val_main_v73, val_main_v70, val_main_v72, val_main_v71, val_main_v43, val_main_v42, val_main_v41, val_main_v40]
  simp only [v17_at]
  rfl

theorem v79_at (x0 : (⟨S2048x128, .f32⟩ : BufTy).Contents (Elt Ideal)) (x6 : (⟨S128, .f32⟩ : BufTy).Contents (Elt Ideal)) (x7 : (⟨S128, .f32⟩ : BufTy).Contents (Elt Ideal)) (x14 : (⟨S2x128x128, .f32⟩ : BufTy).Contents (Elt Ideal)) (x15 : (⟨S2x128, .f32⟩ : BufTy).Contents (Elt Ideal)) (r : Fin 2048) (j : Fin 128) :
    val_main_v79 (F := Ideal) x0 x6 x7 x14 x15 (ix2 r j : S2048x128.Idx) = proj 0 x0 x6 x7 x14 x15 r j := by
  pointwise [val_main_v79, val_main_v76, val_main_v78, val_main_v77, val_main_v47, val_main_v46, val_main_v45, val_main_v44]
  simp only [v17_at]
  rfl

theorem v183_at (x0 : (⟨S2048x128, .f32⟩ : BufTy).Contents (Elt Ideal)) (x6 : (⟨S128, .f32⟩ : BufTy).Contents (Elt Ideal)) (x7 : (⟨S128, .f32⟩ : BufTy).Contents (Elt Ideal)) (x10 : (⟨S2x128x128, .f32⟩ : BufTy).Contents (Elt Ideal)) (x11 : (⟨S2x128, .f32⟩ : BufTy).Contents (Elt Ideal)) (r : Fin 2048) (j : Fin 128) :
    val_main_v183 (F := Ideal) x0 x6 x7 x10 x11 (ix2 r j : S2048x128.Idx) = proj 1 x0 x6 x7 x10 x11 r j := by
  pointwise [val_main_v183, val_main_v180, val_main_v182, val_main_v181, val_main_v155, val_main_v154, val_main_v153, val_main_v152]
  simp only [v17_at]
  rfl

theorem v189_at (x1 : (⟨S4096x128, .f32⟩ : BufTy).Contents (Elt Ideal)) (x8 : (⟨S128, .f32⟩ : BufTy).Contents (Elt Ideal)) (x9 : (⟨S128, .f32⟩ : BufTy).Contents (Elt Ideal)) (x12 : (⟨S2x128x128, .f32⟩ : BufTy).Contents (Elt Ideal)) (x13 : (⟨S2x128, .f32⟩ : BufTy).Contents (Elt Ideal)) (r : Fin 4096) (j : Fin 128) :
    val_main_v189 (F := Ideal) x1 x8 x9 x12 x13 (ix2 r j : S4096x128.Idx) = proj 1 x1 x8 x9 x12 x13 r j := by
  pointwise [val_main_v189, val_main_v186, val_main_v188, val_main_v187, val_main_v159, val_main_v158, val_main_v157, val_main_v156]
  simp only [v35_at]
  rfl

theorem v195_at (x1 : (⟨S4096x128, .f32⟩ : BufTy).Contents (Elt Ideal)) (x8 : (⟨S128, .f32⟩ : BufTy).Contents (Elt Ideal)) (x9 : (⟨S128, .f32⟩ : BufTy).Contents (Elt Ideal)) (x14 : (⟨S2x128x128, .f32⟩ : BufTy).Contents (Elt Ideal)) (x15 : (⟨S2x128, .f32⟩ : BufTy).Contents (Elt Ideal)) (r : Fin 4096) (j : Fin 128) :
    val_main_v195 (F := Ideal) x1 x8 x9 x14 x15 (ix2 r j : S4096x128.Idx) = proj 1 x1 x8 x9 x14 x15 r j := by
  pointwise [val_main_v195, val_main_v192, val_main_v194, val_main_v193, val_main_v163, val_main_v162, val_main_v161, val_main_v160]
  simp only [v35_at]
  rfl

end Cert.ReferenceIdeal.Val

end
-- ==== Proof.RefAtt.lean ====
/-
  The reference's attention, read at an index.
-/
module

public import proofs.«01_k».proof.Proof.Layer
public import proofs.«01_k».proof.Proof.RefNorm
public import Idealize.ShloMosaic.Lib.Pointwise

@[expose] public section

set_option maxRecDepth 16384

noncomputable section

namespace Cert.ReferenceIdeal.Val

open Idealize.ShloMosaic
open Cert.ReferenceIdeal Cert.ReferenceIdeal.Read Cert.Spec
open scoped BigOperators

/-- The word of minus infinity. -/
theorem bot_bits : (FloatOps.ofBits .f32 0xFF800000#32 : Ideal .f32) = (⊥ : EReal) := by
  show Ideal.ofBits .f32 0xFF800000#32 = ⊥
  simp only [Ideal.ofBits, Ideal.ieee]
  rw [if_pos (by decide), if_pos (by decide), if_pos (by decide)]

/-- A fold of "or" over bits is set when one of the bits is. -/
theorem foldOr {n : ℕ} (p : Fin n → BitVec 1) (P : Fin n → Prop) (hp : ∀ l, p l = 1#1 ↔ P l) (s : Finset (Fin n)) :
    Finset.fold IntOp.ori 0#1 p s = 1#1 ↔ ∃ l ∈ s, P l := by
  classical
  induction s using Finset.induction_on with
  | empty => simp
  | insert a s ha ih =>
    rw [Finset.fold_insert ha, Finset.exists_mem_insert, ← ih, ← hp]
    generalize p a = x
    generalize Finset.fold IntOp.ori 0#1 p s = y
    clear ih hp ha
    revert x y
    decide

/-- A fold of the maximum from minus infinity is the supremum. -/
theorem foldMax {n : ℕ} (f : Fin n → EReal) (s : Finset (Fin n)) :
    Finset.fold (max : EReal → EReal → EReal) ⊥ f s = s.sup f := by
  classical
  induction s using Finset.induction_on with
  | empty => simp
  | insert a s ha ih => rw [Finset.fold_insert ha, ih, Finset.sup_insert]

/-- A row's maximum, over any array. -/
theorem rowMax {m n : ℕ} (r : (⟨3, ![4, m, n]⟩ : Shape).ReducesTo [2] ⟨2, ![4, m]⟩) (u)
    (y : (⟨3, ![4, m, n]⟩ : Shape).Idx → EReal) (z : S_.Idx → EReal) (h : Fin 4) (i : Fin m) :
    Host.reduce (t := ⟨2, ![4, m]⟩) (FloatOps.maximumf (F := Ideal) (φ := .f32)) y z r u (ix2 h i)
      = Finset.fold max (z (Shape.Idx.first u)) (fun x : Fin n => y (ix3 h i x)) Finset.univ := by
  pointwise []

theorem andi_iff (x y : BitVec 1) : IntOp.andi x y = 1#1 ↔ x = 1#1 ∧ y = 1#1 := by
  revert x y; decide

/-- Whether a query sees any key, from the masks. -/
theorem any_of {m n : ℕ} (A1 A2 : (⟨2, ![m, n]⟩ : Shape).Idx → BitVec 1) (i : Fin m) :
    Finset.fold IntOp.ori 0#1 (fun x => IntOp.andi (A1 (ix2 i x)) (A2 (ix2 i x))) Finset.univ = 1#1 ↔ ∃ l, allowed A1 A2 i l := by
  rw [foldOr _ (allowed A1 A2 i) fun l => andi_iff _ _]
  simp

/-- A masked score, from the masks and the score. -/
theorem masked_of {m n : ℕ} (A1 A2 : (⟨2, ![m, n]⟩ : Shape).Idx → BitVec 1) (i : Fin m) (s : Fin n → EReal) (l : Fin n) (x : BitVec 1)
    (hx : x = 1#1 ↔ ∃ l, allowed A1 A2 i l) (y : EReal) (hy : y = s l) :
    Scalar.select (α := EReal) (IntOp.andi (A1 (ix2 i l)) (A2 (ix2 i l))) y
      (Scalar.select (α := EReal) x (Ideal.ofBits .f32 0xFF800000#32) 0) = masked s (allowed A1 A2 i) l := by
  rw [hy]
  by_cases ha : allowed A1 A2 i l
  · rw [(andi_iff _ _).2 ha]
    exact (if_pos ha).symm
  · rw [masked, if_neg ha]
    have h0 : IntOp.andi (A1 (ix2 i l)) (A2 (ix2 i l)) = 0#1 :=
      (BitVec.eq_zero_or_eq_one _).resolve_right fun h => ha ((andi_iff _ _).1 h)
    rw [h0]
    by_cases he : ∃ l, allowed A1 A2 i l
    · rw [if_pos he, hx.2 he]
      exact bot_bits
    · rw [if_neg he, (BitVec.eq_zero_or_eq_one x).resolve_right fun h => he (hx.1 h)]
      rfl

theorem v85_at (x0 : (⟨S2048x128, .f32⟩ : BufTy).Contents (Elt Ideal)) (x1 : (⟨S4096x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 4096) (l : Fin 2048) :
    val_main_v85 (F := Ideal) x0 x1 x6 x7 x8 x9 x10 x11 x12 x13 (ix3 h i l : S4x4096x2048.Idx) = (fun l => score (proj 0 x1 x8 x9 x10 x11 i) (proj 0 x0 x6 x7 x12 x13 l) h) l := by
  pointwise [val_main_v85, val_main_v82, val_main_v84, val_main_v83, val_main_cst_6, val_main_v69, val_main_v75, val_main_v74, val_main_v68]
  simp only [v67_at, v73_at]
  refine congrArg (fun z => Ideal.div z _) (Finset.sum_congr rfl fun d _ => ?_)
  rw [show (⟨h.val * 32 + d.val, _⟩ : Fin 128) = feat h d from Fin.ext (by show h.val * 32 + d.val = 32 * h.val + d.val; omega)]

theorem v87_at (x2 : (⟨S4096x2048, .i1⟩ : BufTy).Contents (Elt Ideal)) (x3 : (⟨S4096x2048, .i1⟩ : BufTy).Contents (Elt Ideal)) (i : Fin 4096) :
    val_main_v87 (F := Ideal) x2 x3 (ix1 i : S4096.Idx) = 1#1 ↔ ∃ l, allowed x2 x3 i l := by
  refine Eq.to_iff ?_ |>.trans (any_of x2 x3 i)
  refine congrArg (fun z : BitVec 1 => z = 1#1) ?_
  pointwise [val_main_v87, val_main_v86, val_main_c_7]

theorem v92_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 4096) (l : Fin 2048) :
    val_main_v92 (F := Ideal) x0 x1 x2 x3 x6 x7 x8 x9 x10 x11 x12 x13 (ix3 h i l : S4x4096x2048.Idx) = masked (fun l => score (proj 0 x1 x8 x9 x10 x11 i) (proj 0 x0 x6 x7 x12 x13 l) h) (allowed x2 x3 i) l := by
  pointwise [val_main_v92, val_main_call3_v0, val_main_call3_v1, val_main_v91, val_main_v89, val_main_v88, val_main_call2_v0, val_main_call2_v1, val_main_cst_9, val_main_cst_8, val_main_v90, val_main_v86]
  exact masked_of x2 x3 i (fun l => score (proj 0 x1 x8 x9 x10 x11 i) (proj 0 x0 x6 x7 x12 x13 l) h) l _ (v87_at x2 x3 i) _ (v85_at x0 x1 x6 x7 x8 x9 x10 x11 x12 x13 h i l)

theorem v95_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 4096) :
    val_main_v95 (F := Ideal) x0 x1 x2 x3 x6 x7 x8 x9 x10 x11 x12 x13 (ix2 h i : S4x4096.Idx) = Finset.univ.sup (masked (fun l => score (proj 0 x1 x8 x9 x10 x11 i) (proj 0 x0 x6 x7 x12 x13 l) h) (allowed x2 x3 i)) := by
  refine Eq.trans ?_ (congrArg _ (funext fun l => v92_at x0 x1 x2 x3 x6 x7 x8 x9 x10 x11 x12 x13 h i l))
  rw [val_main_v95_apply]
  unfold val_main_v93
  generalize val_main_v92 (F := Ideal) x0 x1 x2 x3 x6 x7 x8 x9 x10 x11 x12 x13 = y
  refine (congrArg (FloatOps.maximumf (F := Ideal) (φ := .f32) _) (rowMax _ _ y _ h i)).trans ?_
  rw [val_main_cst_10_apply, bot_bits, foldMax]
  refine max_eq_right ?_
  refine (le_of_eq ?_).trans bot_le
  exact (val_main_v94_apply _).trans bot_bits

theorem v103_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 4096) (l : Fin 2048) :
    val_main_v103 (F := Ideal) x0 x1 x2 x3 x6 x7 x8 x9 x10 x11 x12 x13 (ix3 h i l : S4x4096x2048.Idx)
      = Ideal.div (Ideal.exp (masked (fun l => score (proj 0 x1 x8 x9 x10 x11 i) (proj 0 x0 x6 x7 x12 x13 l) h) (allowed x2 x3 i) l - Finset.univ.sup (masked (fun l => score (proj 0 x1 x8 x9 x10 x11 i) (proj 0 x0 x6 x7 x12 x13 l) h) (allowed x2 x3 i))))
          (∑ x, Ideal.exp (masked (fun l => score (proj 0 x1 x8 x9 x10 x11 i) (proj 0 x0 x6 x7 x12 x13 l) h) (allowed x2 x3 i) x - Finset.univ.sup (masked (fun l => score (proj 0 x1 x8 x9 x10 x11 i) (proj 0 x0 x6 x7 x12 x13 l) h) (allowed x2 x3 i)))) := by
  pointwise [val_main_v103, val_main_v99, val_main_v102, val_main_v101, val_main_v100, val_main_cst_12, val_main_v98, val_main_v97, val_main_v96]
  simp only [v92_at, v95_at]

theorem v106_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (i : Fin 4096) (j : Fin 128) :
    val_main_v106 (F := Ideal) x0 x1 x2 x3 x6 x7 x8 x9 x10 x11 x12 x13 x14 x15 (ix2 i j : S4096x128.Idx)
      = softmax (masked (fun l => score (proj 0 x1 x8 x9 x10 x11 i) (proj 0 x0 x6 x7 x12 x13 l) (head j)) (allowed x2 x3 i)) (fun l => proj 0 x0 x6 x7 x14 x15 l j) := by
  pointwise [val_main_v106, val_main_v105, val_main_v104, val_main_v81, val_main_v80]
  simp only [v103_at, v79_at]
  rfl

theorem v201_at (x0 : (⟨S2048x128, .f32⟩ : BufTy).Contents (Elt Ideal)) (x1 : (⟨S4096x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 2048) (l : Fin 4096) :
    val_main_v201 (F := Ideal) x0 x1 x6 x7 x8 x9 x10 x11 x12 x13 (ix3 h i l : S4x2048x4096.Idx) = (fun l => score (proj 1 x0 x6 x7 x10 x11 i) (proj 1 x1 x8 x9 x12 x13 l) h) l := by
  pointwise [val_main_v201, val_main_v198, val_main_v200, val_main_v199, val_main_cst_21, val_main_v185, val_main_v191, val_main_v190, val_main_v184]
  simp only [v183_at, v189_at]
  refine congrArg (fun z => Ideal.div z _) (Finset.sum_congr rfl fun d _ => ?_)
  rw [show (⟨h.val * 32 + d.val, _⟩ : Fin 128) = feat h d from Fin.ext (by show h.val * 32 + d.val = 32 * h.val + d.val; omega)]

theorem v203_at (x4 : (⟨S2048x4096, .i1⟩ : BufTy).Contents (Elt Ideal)) (x5 : (⟨S2048x4096, .i1⟩ : BufTy).Contents (Elt Ideal)) (i : Fin 2048) :
    val_main_v203 (F := Ideal) x4 x5 (ix1 i : S2048.Idx) = 1#1 ↔ ∃ l, allowed x4 x5 i l := by
  refine Eq.to_iff ?_ |>.trans (any_of x4 x5 i)
  refine congrArg (fun z : BitVec 1 => z = 1#1) ?_
  pointwise [val_main_v203, val_main_v202, val_main_c_22]

theorem v208_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 2048) (l : Fin 4096) :
    val_main_v208 (F := Ideal) x0 x1 x4 x5 x6 x7 x8 x9 x10 x11 x12 x13 (ix3 h i l : S4x2048x4096.Idx) = masked (fun l => score (proj 1 x0 x6 x7 x10 x11 i) (proj 1 x1 x8 x9 x12 x13 l) h) (allowed x4 x5 i) l := by
  pointwise [val_main_v208, val_main_call6_v0, val_main_call6_v1, val_main_v207, val_main_v205, val_main_v204, val_main_call5_v0, val_main_call5_v1, val_main_cst_24, val_main_cst_23, val_main_v206, val_main_v202]
  exact masked_of x4 x5 i (fun l => score (proj 1 x0 x6 x7 x10 x11 i) (proj 1 x1 x8 x9 x12 x13 l) h) l _ (v203_at x4 x5 i) _ (v201_at x0 x1 x6 x7 x8 x9 x10 x11 x12 x13 h i l)

theorem v211_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 2048) :
    val_main_v211 (F := Ideal) x0 x1 x4 x5 x6 x7 x8 x9 x10 x11 x12 x13 (ix2 h i : S4x2048.Idx) = Finset.univ.sup (masked (fun l => score (proj 1 x0 x6 x7 x10 x11 i) (proj 1 x1 x8 x9 x12 x13 l) h) (allowed x4 x5 i)) := by
  refine Eq.trans ?_ (congrArg _ (funext fun l => v208_at x0 x1 x4 x5 x6 x7 x8 x9 x10 x11 x12 x13 h i l))
  rw [val_main_v211_apply]
  unfold val_main_v209
  generalize val_main_v208 (F := Ideal) x0 x1 x4 x5 x6 x7 x8 x9 x10 x11 x12 x13 = y
  refine (congrArg (FloatOps.maximumf (F := Ideal) (φ := .f32) _) (rowMax _ _ y _ h i)).trans ?_
  rw [val_main_cst_25_apply, bot_bits, foldMax]
  refine max_eq_right ?_
  refine (le_of_eq ?_).trans bot_le
  exact (val_main_v210_apply _).trans bot_bits

theorem v219_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (h : Fin 4) (i : Fin 2048) (l : Fin 4096) :
    val_main_v219 (F := Ideal) x0 x1 x4 x5 x6 x7 x8 x9 x10 x11 x12 x13 (ix3 h i l : S4x2048x4096.Idx)
      = Ideal.div (Ideal.exp (masked (fun l => score (proj 1 x0 x6 x7 x10 x11 i) (proj 1 x1 x8 x9 x12 x13 l) h) (allowed x4 x5 i) l - Finset.univ.sup (masked (fun l => score (proj 1 x0 x6 x7 x10 x11 i) (proj 1 x1 x8 x9 x12 x13 l) h) (allowed x4 x5 i))))
          (∑ x, Ideal.exp (masked (fun l => score (proj 1 x0 x6 x7 x10 x11 i) (proj 1 x1 x8 x9 x12 x13 l) h) (allowed x4 x5 i) x - Finset.univ.sup (masked (fun l => score (proj 1 x0 x6 x7 x10 x11 i) (proj 1 x1 x8 x9 x12 x13 l) h) (allowed x4 x5 i)))) := by
  pointwise [val_main_v219, val_main_v215, val_main_v218, val_main_v217, val_main_v216, val_main_cst_27, val_main_v214, val_main_v213, val_main_v212]
  simp only [v208_at, v211_at]

theorem v222_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (i : Fin 2048) (j : Fin 128) :
    val_main_v222 (F := Ideal) x0 x1 x4 x5 x6 x7 x8 x9 x10 x11 x12 x13 x14 x15 (ix2 i j : S2048x128.Idx)
      = softmax (masked (fun l => score (proj 1 x0 x6 x7 x10 x11 i) (proj 1 x1 x8 x9 x12 x13 l) (head j)) (allowed x4 x5 i)) (fun l => proj 1 x1 x8 x9 x14 x15 l j) := by
  pointwise [val_main_v222, val_main_v221, val_main_v220, val_main_v197, val_main_v196]
  simp only [v219_at, v195_at]
  rfl

end Cert.ReferenceIdeal.Val

end
-- ==== Proof.RefPost.lean ====
/-
  What follows the reference's attention, read at an index: the two results.
-/
module

public import proofs.«01_k».proof.Proof.Layer
public import proofs.«01_k».proof.Proof.RefAtt
public import Idealize.ShloMosaic.Lib.Pointwise

@[expose] public section

set_option maxRecDepth 16384

noncomputable section

namespace Cert.ReferenceIdeal.Val

open Idealize.ShloMosaic
open Cert.ReferenceIdeal Cert.ReferenceIdeal.Read Cert.Spec
open scoped BigOperators

/-- The attention's row as the reference computes it. -/
def ctxR {m n : ℕ} (L : Fin 2) (X : (⟨2, ![m, 128]⟩ : Shape).Idx → EReal) (Y : (⟨2, ![n, 128]⟩ : Shape).Idx → EReal)
    (gx bx gy by' : (⟨1, ![128]⟩ : Shape).Idx → EReal)
    (Wq : (⟨3, ![2, 128, 128]⟩ : Shape).Idx → EReal) (bq : (⟨2, ![2, 128]⟩ : Shape).Idx → EReal)
    (Wk : (⟨3, ![2, 128, 128]⟩ : Shape).Idx → EReal) (bk : (⟨2, ![2, 128]⟩ : Shape).Idx → EReal)
    (Wv : (⟨3, ![2, 128, 128]⟩ : Shape).Idx → EReal) (bv : (⟨2, ![2, 128]⟩ : Shape).Idx → EReal)
    (A1 A2 : (⟨2, ![m, n]⟩ : Shape).Idx → BitVec 1) (i : Fin m) (k : Fin 128) : EReal :=
  softmax (masked (fun l => score (proj L X gx bx Wq bq i) (proj L Y gy by' Wk bk l) (head k)) (allowed A1 A2 i))
    (fun l => proj L Y gy by' Wv bv l k)

/-- The row after the output projection and the residual. -/
def resid (h ctx : Fin 128 → EReal) (Wo : Fin 128 → Fin 128 → EReal) (bo : Fin 128 → EReal) (j : Fin 128) : EReal :=
  h j + (∑ k, ctx k * Wo k j) + bo j

/-- The reference multiplies the cube of gelu's argument from the left. -/
theorem gelu_eq (x : EReal) :
    x * (Ideal.ofBits .f32 0x3F000000#32 * (1 + Ideal.tanh (Ideal.ofBits .f32 0x3F4C422A#32
      * (x + Ideal.ofBits .f32 0x3D372713#32 * (x * x * x))))) = gelu x := by
  have e : Ideal.ofBits .f32 0x3F800000#32 = (1 : EReal) := by
    simp [Ideal.ofBits, Ideal.ieee, -EReal.coe_mul]; norm_num
  rw [gelu, e, mul_assoc x x x]

/-- The mean over a stack of one. -/
theorem mean_one (x : Fin 1 → EReal) : Ideal.div (∑ k, x k) 1 = x 0 := by
  have e : (1 : EReal) = ((1 : ℝ) : EReal) := by norm_cast
  rw [Fin.sum_univ_one, e, Ideal.div_coe (by norm_num)]
  norm_num

theorem v111_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (i : Fin 4096) (j : Fin 128) :
    val_main_v111 (F := Ideal) x0 x1 x2 x3 x6 x7 x8 x9 x10 x11 x12 x13 x14 x15 x16 x17 (ix2 i j : S4096x128.Idx) = (resid (seq x1 i) (ctxR 0 x1 x0 x8 x9 x6 x7 x10 x11 x12 x13 x14 x15 x2 x3 i) (mat x16 0) (row x17 0)) j := by
  pointwise [val_main_v111, val_main_v108, val_main_v110, val_main_v109, val_main_v51, val_main_v50, val_main_v107, val_main_v49, val_main_v48]
  simp only [v106_at]
  rfl

theorem v116_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (i : Fin 4096) (j : Fin 1) :
    val_main_v116 (F := Ideal) x0 x1 x2 x3 x6 x7 x8 x9 x10 x11 x12 x13 x14 x15 x16 x17 (ix2 i j : S4096x1.Idx) = mean (fun k => ((resid (seq x1 i) (ctxR 0 x1 x0 x8 x9 x6 x7 x10 x11 x12 x13 x14 x15 x2 x3 i) (mat x16 0) (row x17 0)) k - mean (resid (seq x1 i) (ctxR 0 x1 x0 x8 x9 x6 x7 x10 x11 x12 x13 x14 x15 x2 x3 i) (mat x16 0) (row x17 0))) * ((resid (seq x1 i) (ctxR 0 x1 x0 x8 x9 x6 x7 x10 x11 x12 x13 x14 x15 x2 x3 i) (mat x16 0) (row x17 0)) k - mean (resid (seq x1 i) (ctxR 0 x1 x0 x8 x9 x6 x7 x10 x11 x12 x13 x14 x15 x2 x3 i) (mat x16 0) (row x17 0)))) := by
  obtain rfl : j = 0 := Subsingleton.elim _ _
  pointwise [val_main_v116, val_main_call4_v13, val_main_call4_v12, val_main_call4_call0_v1, val_main_call4_call0_v0, val_main_call4_cst_4, val_main_call4_v10, val_main_call4_v11, val_main_call4_v8, val_main_call4_cst_1, val_main_call4_v7, val_main_c_15, val_main_call4_v9, val_main_call4_v6, val_main_call4_cst_2, val_main_call4_v5, val_main_call4_v4, val_main_call4_v3, val_main_call4_v1, val_main_call4_v2, val_main_call4_cst_0, val_main_call4_v0, val_main_call4_cst, val_main_call4_cst_3]
  simp only [v111_at]
  exact var_eq _ _

theorem v129_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (i : Fin 4096) (j : Fin 128) :
    val_main_v129 (F := Ideal) x0 x1 x2 x3 x6 x7 x8 x9 x10 x11 x12 x13 x14 x15 x16 x17 x18 x19 (ix2 i j : S4096x128.Idx) = (lnRow (resid (seq x1 i) (ctxR 0 x1 x0 x8 x9 x6 x7 x10 x11 x12 x13 x14 x15 x2 x3 i) (mat x16 0) (row x17 0)) (row x18 0) (row x19 0)) j := by
  pointwise [val_main_v129, val_main_v126, val_main_v128, val_main_v127, val_main_v55, val_main_v54, val_main_v123, val_main_v125, val_main_v124, val_main_v53, val_main_v52, val_main_v118, val_main_v122, val_main_v121, val_main_v120, val_main_v119, val_main_cst_16, val_main_v117, val_main_v115, val_main_v113, val_main_v114, val_main_cst_14, val_main_v112, val_main_cst_13]
  simp only [v111_at, v116_at]
  rfl

theorem v133_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (i : Fin 4096) (j : Fin 256) :
    val_main_v133 (F := Ideal) x0 x1 x2 x3 x6 x7 x8 x9 x10 x11 x12 x13 x14 x15 x16 x17 x18 x19 x20 x21 (ix2 i j : S4096x256.Idx) = (lin (lnRow (resid (seq x1 i) (ctxR 0 x1 x0 x8 x9 x6 x7 x10 x11 x12 x13 x14 x15 x2 x3 i) (mat x16 0) (row x17 0)) (row x18 0) (row x19 0)) (mat x20 0) (row x21 0)) j := by
  pointwise [val_main_v133, val_main_v130, val_main_v132, val_main_v131, val_main_v59, val_main_v58, val_main_v57, val_main_v56]
  simp only [v129_at]
  rfl

theorem v146_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (i : Fin 4096) (j : Fin 256) :
    val_main_v146 (F := Ideal) x0 x1 x2 x3 x6 x7 x8 x9 x10 x11 x12 x13 x14 x15 x16 x17 x18 x19 x20 x21 (ix2 i j : S4096x256.Idx) = gelu ((lin (lnRow (resid (seq x1 i) (ctxR 0 x1 x0 x8 x9 x6 x7 x10 x11 x12 x13 x14 x15 x2 x3 i) (mat x16 0) (row x17 0)) (row x18 0) (row x19 0)) (mat x20 0) (row x21 0)) j) := by
  pointwise [val_main_v146, val_main_v145, val_main_v144, val_main_v143, val_main_v142, val_main_v141, val_main_v140, val_main_v139, val_main_v138, val_main_v137, val_main_v136, val_main_v135, val_main_v134, val_main_cst_17, val_main_cst_18, val_main_cst_19, val_main_cst_20]
  rw [v133_at]
  exact gelu_eq _

theorem v151_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (x22 : (⟨S2x256x128, .f32⟩ : BufTy).Contents (Elt Ideal)) (x23 : (⟨S2x128, .f32⟩ : BufTy).Contents (Elt Ideal)) (i : Fin 4096) (j : Fin 128) :
    val_main_v151 (F := Ideal) x0 x1 x2 x3 x6 x7 x8 x9 x10 x11 x12 x13 x14 x15 x16 x17 x18 x19 x20 x21 x22 x23 (ix2 i j : S4096x128.Idx) = layerR 0 x1 x0 x8 x9 x6 x7 x10 x11 x12 x13 x14 x15 x16 x17 x18 x19 x20 x21 x22 x23 x2 x3 i j := by
  pointwise [val_main_v151, val_main_v148, val_main_v150, val_main_v149, val_main_v63, val_main_v62, val_main_v147, val_main_v61, val_main_v60]
  simp only [v111_at, v146_at]
  rfl

theorem v275_at (x0 : (⟨S2048x128, .f32⟩ : BufTy).Contents (Elt Ideal)) (x1 : (⟨S4096x128, .f32⟩ : BufTy).Contents (Elt Ideal)) (x2 : (⟨S4096x2048, .i1⟩ : BufTy).Contents (Elt Ideal)) (x3 : (⟨S4096x2048, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (x22 : (⟨S2x256x128, .f32⟩ : BufTy).Contents (Elt Ideal)) (x23 : (⟨S2x128, .f32⟩ : BufTy).Contents (Elt Ideal)) (i : Fin 4096) (j : Fin 128) :
    val_main_v275 (F := Ideal) x0 x1 x2 x3 x6 x7 x8 x9 x10 x11 x12 x13 x14 x15 x16 x17 x18 x19 x20 x21 x22 x23 (ix2 i j : S4096x128.Idx) = layerR 0 x1 x0 x8 x9 x6 x7 x10 x11 x12 x13 x14 x15 x16 x17 x18 x19 x20 x21 x22 x23 x2 x3 i j := by
  pointwise [val_main_v275, val_main_v273, val_main_v274, val_main_cst_39, val_main_v272, val_main_cst_38]
  rw [← v151_at x0 x1 x2 x3 x6 x7 x8 x9 x10 x11 x12 x13 x14 x15 x16 x17 x18 x19 x20 x21 x22 x23 i j]
  exact mean_one _

theorem v227_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (i : Fin 2048) (j : Fin 128) :
    val_main_v227 (F := Ideal) x0 x1 x4 x5 x6 x7 x8 x9 x10 x11 x12 x13 x14 x15 x16 x17 (ix2 i j : S2048x128.Idx) = (resid (seq x0 i) (ctxR 1 x0 x1 x6 x7 x8 x9 x10 x11 x12 x13 x14 x15 x4 x5 i) (mat x16 1) (row x17 1)) j := by
  pointwise [val_main_v227, val_main_v224, val_main_v226, val_main_v225, val_main_v167, val_main_v166, val_main_v223, val_main_v165, val_main_v164]
  simp only [v222_at]
  rfl

theorem v232_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (i : Fin 2048) (j : Fin 1) :
    val_main_v232 (F := Ideal) x0 x1 x4 x5 x6 x7 x8 x9 x10 x11 x12 x13 x14 x15 x16 x17 (ix2 i j : S2048x1.Idx) = mean (fun k => ((resid (seq x0 i) (ctxR 1 x0 x1 x6 x7 x8 x9 x10 x11 x12 x13 x14 x15 x4 x5 i) (mat x16 1) (row x17 1)) k - mean (resid (seq x0 i) (ctxR 1 x0 x1 x6 x7 x8 x9 x10 x11 x12 x13 x14 x15 x4 x5 i) (mat x16 1) (row x17 1))) * ((resid (seq x0 i) (ctxR 1 x0 x1 x6 x7 x8 x9 x10 x11 x12 x13 x14 x15 x4 x5 i) (mat x16 1) (row x17 1)) k - mean (resid (seq x0 i) (ctxR 1 x0 x1 x6 x7 x8 x9 x10 x11 x12 x13 x14 x15 x4 x5 i) (mat x16 1) (row x17 1)))) := by
  obtain rfl : j = 0 := Subsingleton.elim _ _
  pointwise [val_main_v232, val_main_call7_v13, val_main_call7_v12, val_main_call7_call0_v1, val_main_call7_call0_v0, val_main_call7_cst_4, val_main_call7_v10, val_main_call7_v11, val_main_call7_v8, val_main_call7_cst_1, val_main_call7_v7, val_main_c_30, val_main_call7_v9, val_main_call7_v6, val_main_call7_cst_2, val_main_call7_v5, val_main_call7_v4, val_main_call7_v3, val_main_call7_v1, val_main_call7_v2, val_main_call7_cst_0, val_main_call7_v0, val_main_call7_cst, val_main_call7_cst_3]
  simp only [v227_at]
  exact var_eq _ _

theorem v245_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (i : Fin 2048) (j : Fin 128) :
    val_main_v245 (F := Ideal) x0 x1 x4 x5 x6 x7 x8 x9 x10 x11 x12 x13 x14 x15 x16 x17 x18 x19 (ix2 i j : S2048x128.Idx) = (lnRow (resid (seq x0 i) (ctxR 1 x0 x1 x6 x7 x8 x9 x10 x11 x12 x13 x14 x15 x4 x5 i) (mat x16 1) (row x17 1)) (row x18 1) (row x19 1)) j := by
  pointwise [val_main_v245, val_main_v242, val_main_v244, val_main_v243, val_main_v171, val_main_v170, val_main_v239, val_main_v241, val_main_v240, val_main_v169, val_main_v168, val_main_v234, val_main_v238, val_main_v237, val_main_v236, val_main_v235, val_main_cst_31, val_main_v233, val_main_v231, val_main_v229, val_main_v230, val_main_cst_29, val_main_v228, val_main_cst_28]
  simp only [v227_at, v232_at]
  rfl

theorem v249_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (i : Fin 2048) (j : Fin 256) :
    val_main_v249 (F := Ideal) x0 x1 x4 x5 x6 x7 x8 x9 x10 x11 x12 x13 x14 x15 x16 x17 x18 x19 x20 x21 (ix2 i j : S2048x256.Idx) = (lin (lnRow (resid (seq x0 i) (ctxR 1 x0 x1 x6 x7 x8 x9 x10 x11 x12 x13 x14 x15 x4 x5 i) (mat x16 1) (row x17 1)) (row x18 1) (row x19 1)) (mat x20 1) (row x21 1)) j := by
  pointwise [val_main_v249, val_main_v246, val_main_v248, val_main_v247, val_main_v175, val_main_v174, val_main_v173, val_main_v172]
  simp only [v245_at]
  rfl

theorem v262_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (i : Fin 2048) (j : Fin 256) :
    val_main_v262 (F := Ideal) x0 x1 x4 x5 x6 x7 x8 x9 x10 x11 x12 x13 x14 x15 x16 x17 x18 x19 x20 x21 (ix2 i j : S2048x256.Idx) = gelu ((lin (lnRow (resid (seq x0 i) (ctxR 1 x0 x1 x6 x7 x8 x9 x10 x11 x12 x13 x14 x15 x4 x5 i) (mat x16 1) (row x17 1)) (row x18 1) (row x19 1)) (mat x20 1) (row x21 1)) j) := by
  pointwise [val_main_v262, val_main_v261, val_main_v260, val_main_v259, val_main_v258, val_main_v257, val_main_v256, val_main_v255, val_main_v254, val_main_v253, val_main_v252, val_main_v251, val_main_v250, val_main_cst_32, val_main_cst_33, val_main_cst_34, val_main_cst_35]
  rw [v249_at]
  exact gelu_eq _

theorem v267_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (x22 : (⟨S2x256x128, .f32⟩ : BufTy).Contents (Elt Ideal)) (x23 : (⟨S2x128, .f32⟩ : BufTy).Contents (Elt Ideal)) (i : Fin 2048) (j : Fin 128) :
    val_main_v267 (F := Ideal) x0 x1 x4 x5 x6 x7 x8 x9 x10 x11 x12 x13 x14 x15 x16 x17 x18 x19 x20 x21 x22 x23 (ix2 i j : S2048x128.Idx) = layerR 1 x0 x1 x6 x7 x8 x9 x10 x11 x12 x13 x14 x15 x16 x17 x18 x19 x20 x21 x22 x23 x4 x5 i j := by
  pointwise [val_main_v267, val_main_v264, val_main_v266, val_main_v265, val_main_v179, val_main_v178, val_main_v263, val_main_v177, val_main_v176]
  simp only [v227_at, v262_at]
  rfl

theorem v271_at (x0 : (⟨S2048x128, .f32⟩ : BufTy).Contents (Elt Ideal)) (x1 : (⟨S4096x128, .f32⟩ : BufTy).Contents (Elt Ideal)) (x4 : (⟨S2048x4096, .i1⟩ : BufTy).Contents (Elt Ideal)) (x5 : (⟨S2048x4096, .i1⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S2x128x128, .f32⟩ : BufTy).Contents (Elt Ideal)) (x11 : (⟨S2x128, .f32⟩ : BufTy).Contents (Elt Ideal)) (x12 : (⟨S2x128x128, .f32⟩ : BufTy).Contents (Elt Ideal)) (x13 : (⟨S2x128, .f32⟩ : BufTy).Contents (Elt Ideal)) (x14 : (⟨S2x128x128, .f32⟩ : BufTy).Contents (Elt Ideal)) (x15 : (⟨S2x128, .f32⟩ : BufTy).Contents (Elt Ideal)) (x16 : (⟨S2x128x128, .f32⟩ : BufTy).Contents (Elt Ideal)) (x17 : (⟨S2x128, .f32⟩ : BufTy).Contents (Elt Ideal)) (x18 : (⟨S2x128, .f32⟩ : BufTy).Contents (Elt Ideal)) (x19 : (⟨S2x128, .f32⟩ : BufTy).Contents (Elt Ideal)) (x20 : (⟨S2x128x256, .f32⟩ : BufTy).Contents (Elt Ideal)) (x21 : (⟨S2x256, .f32⟩ : BufTy).Contents (Elt Ideal)) (x22 : (⟨S2x256x128, .f32⟩ : BufTy).Contents (Elt Ideal)) (x23 : (⟨S2x128, .f32⟩ : BufTy).Contents (Elt Ideal)) (i : Fin 2048) (j : Fin 128) :
    val_main_v271 (F := Ideal) x0 x1 x4 x5 x6 x7 x8 x9 x10 x11 x12 x13 x14 x15 x16 x17 x18 x19 x20 x21 x22 x23 (ix2 i j : S2048x128.Idx) = layerR 1 x0 x1 x6 x7 x8 x9 x10 x11 x12 x13 x14 x15 x16 x17 x18 x19 x20 x21 x22 x23 x4 x5 i j := by
  pointwise [val_main_v271, val_main_v269, val_main_v270, val_main_cst_37, val_main_v268, val_main_cst_36]
  rw [← v267_at x0 x1 x4 x5 x6 x7 x8 x9 x10 x11 x12 x13 x14 x15 x16 x17 x18 x19 x20 x21 x22 x23 i j]
  exact mean_one _

end Cert.ReferenceIdeal.Val

end
-- ==== Proof.Pre.lean ====
/-
  The precondition read at its entries: every visible score is finite and at most 80.
-/
module

public import proofs.«01_k».proof.Proof.Layer
public import proofs.«01_k».proof.Proof.Gen.Pre_tame
public import Idealize.ShloMosaic.Lib.Pointwise

@[expose] public section

set_option maxRecDepth 16384

noncomputable section

namespace Cert.Pre_tame.Val

open Idealize.ShloMosaic
open Cert.Pre_tame Cert.Spec
open scoped BigOperators

/-- A visible score is finite and at most 80. -/
theorem low_of (s : EReal) (b c : BitVec 1) (hb : b = 1#1 ∧ c = 1#1)
    (h : IntOp.ori (IntOp.andi (BitVec.ofBool (decide (Ideal.ofBits .f32 0xFF800000#32 < s)))
      (BitVec.ofBool (decide (s ≤ Ideal.ofBits .f32 0x42A00000#32)))) (~~~ IntOp.andi b c) = 1#1) :
    Real' s ∧ s ≤ ((80 : ℝ) : EReal) := by
  have e : Ideal.ofBits .f32 0xFF800000#32 = (⊥ : EReal) := by
    simp only [Ideal.ofBits, Ideal.ieee]
    rw [if_pos (by decide), if_pos (by decide), if_pos (by decide)]
  rw [e, c80_eq, hb.1, hb.2] at h
  have h2 : s ≤ ((80 : ℝ) : EReal) := by
    by_contra hc
    rw [decide_eq_false hc] at h
    revert h
    cases decide ((⊥ : EReal) < s) <;> decide
  have h1 : (⊥ : EReal) < s := by
    by_contra hc
    rw [decide_eq_false hc] at h
    revert h
    cases decide (s ≤ ((80 : ℝ) : EReal)) <;> decide
  exact ⟨⟨s.toReal, (EReal.coe_toReal (h2.trans_lt (EReal.coe_lt_top _)).ne h1.ne').symm⟩, h2⟩

variable (x0 : FVec Ideal S2048x128 .f32) (x1 : FVec Ideal S4096x128 .f32) (x2 : IVec S4096x2048 1) (x3 : IVec S4096x2048 1)
  (x4 : IVec S2048x4096 1) (x5 : IVec S2048x4096 1) (x6 : FVec Ideal S128 .f32) (x7 : FVec Ideal S128 .f32) (x8 : FVec Ideal S128 .f32) (x9 : FVec Ideal S128 .f32)
  (x10 : FVec Ideal S2x128x128 .f32) (x11 : FVec Ideal S2x128 .f32) (x12 : FVec Ideal S2x128x128 .f32) (x13 : FVec Ideal S2x128 .f32) (x14 : FVec Ideal S2x128x128 .f32) (x15 : FVec Ideal S2x128 .f32) (x16 : FVec Ideal S2x128x128 .f32)
  (x17 : FVec Ideal S2x128 .f32) (x18 : FVec Ideal S2x128 .f32) (x19 : FVec Ideal S2x128 .f32) (x20 : FVec Ideal S2x128x256 .f32) (x21 : FVec Ideal S2x256 .f32) (x22 : FVec Ideal S2x256x128 .f32) (x23 : FVec Ideal S2x128 .f32)

theorem low0 (hp : (fn (F := Ideal) x0 x1 x2 x3 x4 x5 x6 x7 x8 x9 x10 x11 x12 x13 x14 x15 x16 x17 x18 x19 x20 x21 x22 x23).1 = fun _ => 1#1)
    (h : Fin 4) (i : Fin 4096) (l : Fin 2048) (ha : allowed x2 x3 i l) :
    Real' (score (proj 0 x1 x8 x9 x10 x11 i) (proj 0 x0 x6 x7 x12 x13 l) h)
      ∧ score (proj 0 x1 x8 x9 x10 x11 i) (proj 0 x0 x6 x7 x12 x13 l) h ≤ ((80 : ℝ) : EReal) := by
  refine low_of _ _ _ ha (Eq.trans ?_ (congrFun hp (ix3 h i l : S4x4096x2048.Idx)))
  symm
  unfold fn fn_part1 fn_part2 fn_part3 fn_part4 fn_part5 fn_part6 fn_part7
  pointwise []
  refine congrArg (fun z : EReal => IntOp.ori (IntOp.andi (BitVec.ofBool (decide (Ideal.ofBits .f32 0xFF800000#32 < z)))
    (BitVec.ofBool (decide (z ≤ Ideal.ofBits .f32 0x42A00000#32)))) _) ?_
  refine congrArg (fun z => Ideal.div z _) (Finset.sum_congr rfl fun d _ => ?_)
  rw [show feat h d = ⟨h.val * 32 + d.val, by omega⟩ from Fin.ext (by show 32 * h.val + d.val = h.val * 32 + d.val; omega)]
  rfl

theorem low1 (hp : (fn (F := Ideal) x0 x1 x2 x3 x4 x5 x6 x7 x8 x9 x10 x11 x12 x13 x14 x15 x16 x17 x18 x19 x20 x21 x22 x23).2 = fun _ => 1#1)
    (h : Fin 4) (i : Fin 2048) (l : Fin 4096) (ha : allowed x4 x5 i l) :
    Real' (score (proj 1 x0 x6 x7 x10 x11 i) (proj 1 x1 x8 x9 x12 x13 l) h)
      ∧ score (proj 1 x0 x6 x7 x10 x11 i) (proj 1 x1 x8 x9 x12 x13 l) h ≤ ((80 : ℝ) : EReal) := by
  refine low_of _ _ _ ha (Eq.trans ?_ (congrFun hp (ix3 h i l : S4x2048x4096.Idx)))
  symm
  unfold fn fn_part1 fn_part2 fn_part3 fn_part4 fn_part5 fn_part6 fn_part7
  pointwise []
  refine congrArg (fun z : EReal => IntOp.ori (IntOp.andi (BitVec.ofBool (decide (Ideal.ofBits .f32 0xFF800000#32 < z)))
    (BitVec.ofBool (decide (z ≤ Ideal.ofBits .f32 0x42A00000#32)))) _) ?_
  refine congrArg (fun z => Ideal.div z _) (Finset.sum_congr rfl fun d _ => ?_)
  rw [show feat h d = ⟨h.val * 32 + d.val, by omega⟩ from Fin.ext (by show 32 * h.val + d.val = h.val * 32 + d.val; omega)]
  rfl

end Cert.Pre_tame.Val

end
-- ==== Proof.LayerEq.lean ====
/-
  The two forms of an update agree where every visible score is finite and at most 80.
-/
module

public import proofs.«01_k».proof.Proof.Layer

@[expose] public section

set_option maxRecDepth 16384

noncomputable section

namespace Cert.Spec

open Idealize.ShloMosaic
open scoped BigOperators

theorem layerK_eq {m n : ℕ} (hn : 0 < n) (L : Fin 2) (X : (⟨2, ![m, 128]⟩ : Shape).Idx → EReal) (Y : (⟨2, ![n, 128]⟩ : Shape).Idx → EReal)
    (gx bx gy by' : (⟨1, ![128]⟩ : Shape).Idx → EReal)
    (Wq : (⟨3, ![2, 128, 128]⟩ : Shape).Idx → EReal) (bq : (⟨2, ![2, 128]⟩ : Shape).Idx → EReal)
    (Wk : (⟨3, ![2, 128, 128]⟩ : Shape).Idx → EReal) (bk : (⟨2, ![2, 128]⟩ : Shape).Idx → EReal)
    (Wv : (⟨3, ![2, 128, 128]⟩ : Shape).Idx → EReal) (bv : (⟨2, ![2, 128]⟩ : Shape).Idx → EReal)
    (Wo : (⟨3, ![2, 128, 128]⟩ : Shape).Idx → EReal) (bo g b : (⟨2, ![2, 128]⟩ : Shape).Idx → EReal)
    (W1 : (⟨3, ![2, 128, 256]⟩ : Shape).Idx → EReal) (b1 : (⟨2, ![2, 256]⟩ : Shape).Idx → EReal)
    (W2 : (⟨3, ![2, 256, 128]⟩ : Shape).Idx → EReal) (b2 : (⟨2, ![2, 128]⟩ : Shape).Idx → EReal)
    (A1 A2 : (⟨2, ![m, n]⟩ : Shape).Idx → BitVec 1) {w : EReal} (hw : w = ((1 / (n : ℝ) : ℝ) : EReal)) (i : Fin m) (j : Fin 128)
    (hs : ∀ h i l, allowed A1 A2 i l → Real' (score (proj L X gx bx Wq bq i) (proj L Y gy by' Wk bk l) h)
      ∧ score (proj L X gx bx Wq bq i) (proj L Y gy by' Wk bk l) h ≤ ((80 : ℝ) : EReal)) :
    layerK L X Y gx bx gy by' Wq bq Wk bk Wv bv Wo bo g b W1 b1 W2 b2 A1 A2 w i j
      = layerR L X Y gx bx gy by' Wq bq Wk bk Wv bv Wo bo g b W1 b1 W2 b2 A1 A2 i j := by
  refine congrArg (fun ctx => post _ ctx _ _ _ _ _ _ _ _ j) (funext fun k => ?_)
  rw [funext fun l => kscore_eq _ _ (head k)]
  exact ratio_eq_softmax hn _ _ _ _ (fun l ha => hs _ i l ha) (by rw [hw])

end Cert.Spec

end
-- ==== Proof.Algebraic.lean ====
/-
  The two programs end with equal results: the kernel's results are the reference's values of the same arguments, and the
  reference ends with these values.
-/
module

public import proofs.«01_k».proof.Defs
public import proofs.«01_k».proof.Proof.KernelOut
public import proofs.«01_k».proof.Proof.RefPost
public import proofs.«01_k».proof.Proof.Pre
public import proofs.«01_k».proof.Proof.LayerEq
public import proofs.«01_k».proof.Proof.FrameIdeal.Run
public import proofs.«01_k».proof.Proof.Gen.ReferenceIdeal.Run
public import Idealize.ShloMosaic.Lib.Claim

@[expose] public section

set_option maxRecDepth 16384
set_option maxHeartbeats 1000000

noncomputable section

namespace Cert.Algebraic

open Idealize.ShloMosaic Idealize.ShloMosaic.TcCoe Idealize.SL.Sem
open Cert.Spec Cert.KernelIdeal.Val
open Cert.KernelIdeal.Gen (W8)

/-- Under the precondition the two forms of update 1 agree. -/
theorem forms0 (x0 : FVec Ideal Cert.Pre_tame.S2048x128 .f32) (x1 : FVec Ideal Cert.Pre_tame.S4096x128 .f32) (x2 : IVec Cert.Pre_tame.S4096x2048 1) (x3 : IVec Cert.Pre_tame.S4096x2048 1) (x4 : IVec Cert.Pre_tame.S2048x4096 1) (x5 : IVec Cert.Pre_tame.S2048x4096 1) (x6 : FVec Ideal Cert.Pre_tame.S128 .f32) (x7 : FVec Ideal Cert.Pre_tame.S128 .f32) (x8 : FVec Ideal Cert.Pre_tame.S128 .f32) (x9 : FVec Ideal Cert.Pre_tame.S128 .f32) (x10 : FVec Ideal Cert.Pre_tame.S2x128x128 .f32) (x11 : FVec Ideal Cert.Pre_tame.S2x128 .f32) (x12 : FVec Ideal Cert.Pre_tame.S2x128x128 .f32) (x13 : FVec Ideal Cert.Pre_tame.S2x128 .f32) (x14 : FVec Ideal Cert.Pre_tame.S2x128x128 .f32) (x15 : FVec Ideal Cert.Pre_tame.S2x128 .f32) (x16 : FVec Ideal Cert.Pre_tame.S2x128x128 .f32) (x17 : FVec Ideal Cert.Pre_tame.S2x128 .f32) (x18 : FVec Ideal Cert.Pre_tame.S2x128 .f32) (x19 : FVec Ideal Cert.Pre_tame.S2x128 .f32) (x20 : FVec Ideal Cert.Pre_tame.S2x128x256 .f32) (x21 : FVec Ideal Cert.Pre_tame.S2x256 .f32) (x22 : FVec Ideal Cert.Pre_tame.S2x256x128 .f32) (x23 : FVec Ideal Cert.Pre_tame.S2x128 .f32) (h0 : (Cert.Pre_tame.fn (F := Ideal) x0 x1 x2 x3 x4 x5 x6 x7 x8 x9 x10 x11 x12 x13 x14 x15 x16 x17 x18 x19 x20 x21 x22 x23).1 = fun _ => 1#1) (h1 : (Cert.Pre_tame.fn (F := Ideal) x0 x1 x2 x3 x4 x5 x6 x7 x8 x9 x10 x11 x12 x13 x14 x15 x16 x17 x18 x19 x20 x21 x22 x23).2 = fun _ => 1#1) (i : Fin 2048) (j : Fin 128) :
    layerK 1 x0 x1 x6 x7 x8 x9 x10 x11 x12 x13 x14 x15 x16 x17 x18 x19 x20 x21 x22 x23 x4 x5 (Ideal.ofBits .f32 0x39800000#32) i j = layerR 1 x0 x1 x6 x7 x8 x9 x10 x11 x12 x13 x14 x15 x16 x17 x18 x19 x20 x21 x22 x23 x4 x5 i j :=
  layerK_eq (by norm_num) 1 x0 x1 x6 x7 x8 x9 x10 x11 x12 x13 x14 x15 x16 x17 x18 x19 x20 x21 x22 x23 x4 x5
    (inv4096_eq.trans (by norm_num)) i j
    (Cert.Pre_tame.Val.low1 x0 x1 x2 x3 x4 x5 x6 x7 x8 x9 x10 x11 x12 x13 x14 x15 x16 x17 x18 x19 x20 x21 x22 x23 h1)

/-- The kernel's result 0 is the reference's value of the same arguments. -/
theorem same0 (m : (ℓ : Loc Cert.KernelIdeal.nD Cert.KernelIdeal.τ Cert.KernelIdeal.sig) → Buf (Elt Ideal) ℓ) (ρ : Dev Cert.KernelIdeal.nD → PrngReg) (hp : Cert.Pre_KernelIdeal_tame m) (c : Dev Cert.KernelIdeal.nD) :
    W8 m ρ c (Proc.devRef .tc Cert.KernelIdeal.main_v85) = Cert.ReferenceIdeal.Read.val_main_v271 (F := Ideal) (ar m c Cert.KernelIdeal.main_arg0) (ar m c Cert.KernelIdeal.main_arg1) (ar m c Cert.KernelIdeal.main_arg4) (ar m c Cert.KernelIdeal.main_arg5) (ar m c Cert.KernelIdeal.main_arg6) (ar m c Cert.KernelIdeal.main_arg7) (ar m c Cert.KernelIdeal.main_arg8) (ar m c Cert.KernelIdeal.main_arg9) (ar m c Cert.KernelIdeal.main_arg10) (ar m c Cert.KernelIdeal.main_arg11) (ar m c Cert.KernelIdeal.main_arg12) (ar m c Cert.KernelIdeal.main_arg13) (ar m c Cert.KernelIdeal.main_arg14) (ar m c Cert.KernelIdeal.main_arg15) (ar m c Cert.KernelIdeal.main_arg16) (ar m c Cert.KernelIdeal.main_arg17) (ar m c Cert.KernelIdeal.main_arg18) (ar m c Cert.KernelIdeal.main_arg19) (ar m c Cert.KernelIdeal.main_arg20) (ar m c Cert.KernelIdeal.main_arg21) (ar m c Cert.KernelIdeal.main_arg22) (ar m c Cert.KernelIdeal.main_arg23) := by
  refine funext fun (ix : (⟨2, ![2048, 128]⟩ : Shape).Idx) => ?_
  rw [eq_ix2 ix]
  refine (out0_at m ρ c (ix 0) (ix 1)).trans (Eq.trans ?_ (Cert.ReferenceIdeal.Val.v271_at (ar m c Cert.KernelIdeal.main_arg0) (ar m c Cert.KernelIdeal.main_arg1) (ar m c Cert.KernelIdeal.main_arg4) (ar m c Cert.KernelIdeal.main_arg5) (ar m c Cert.KernelIdeal.main_arg6) (ar m c Cert.KernelIdeal.main_arg7) (ar m c Cert.KernelIdeal.main_arg8) (ar m c Cert.KernelIdeal.main_arg9) (ar m c Cert.KernelIdeal.main_arg10) (ar m c Cert.KernelIdeal.main_arg11) (ar m c Cert.KernelIdeal.main_arg12) (ar m c Cert.KernelIdeal.main_arg13) (ar m c Cert.KernelIdeal.main_arg14) (ar m c Cert.KernelIdeal.main_arg15) (ar m c Cert.KernelIdeal.main_arg16) (ar m c Cert.KernelIdeal.main_arg17) (ar m c Cert.KernelIdeal.main_arg18) (ar m c Cert.KernelIdeal.main_arg19) (ar m c Cert.KernelIdeal.main_arg20) (ar m c Cert.KernelIdeal.main_arg21) (ar m c Cert.KernelIdeal.main_arg22) (ar m c Cert.KernelIdeal.main_arg23) (ix 0) (ix 1)).symm)
  have h := hp c
  exact forms0 (ar m c Cert.KernelIdeal.main_arg0) (ar m c Cert.KernelIdeal.main_arg1) (ar m c Cert.KernelIdeal.main_arg2) (ar m c Cert.KernelIdeal.main_arg3) (ar m c Cert.KernelIdeal.main_arg4) (ar m c Cert.KernelIdeal.main_arg5) (ar m c Cert.KernelIdeal.main_arg6) (ar m c Cert.KernelIdeal.main_arg7) (ar m c Cert.KernelIdeal.main_arg8) (ar m c Cert.KernelIdeal.main_arg9) (ar m c Cert.KernelIdeal.main_arg10) (ar m c Cert.KernelIdeal.main_arg11) (ar m c Cert.KernelIdeal.main_arg12) (ar m c Cert.KernelIdeal.main_arg13) (ar m c Cert.KernelIdeal.main_arg14) (ar m c Cert.KernelIdeal.main_arg15) (ar m c Cert.KernelIdeal.main_arg16) (ar m c Cert.KernelIdeal.main_arg17) (ar m c Cert.KernelIdeal.main_arg18) (ar m c Cert.KernelIdeal.main_arg19) (ar m c Cert.KernelIdeal.main_arg20) (ar m c Cert.KernelIdeal.main_arg21) (ar m c Cert.KernelIdeal.main_arg22) (ar m c Cert.KernelIdeal.main_arg23) h.1 h.2 (ix 0) (ix 1)

/-- Equal arguments give equal values. -/
theorem v271_congr {x0 y0 : (⟨Cert.ReferenceIdeal.S2048x128, .f32⟩ : BufTy).Contents (Elt Ideal)} (e0 : x0 = y0) {x1 y1 : (⟨Cert.ReferenceIdeal.S4096x128, .f32⟩ : BufTy).Contents (Elt Ideal)} (e1 : x1 = y1) {x4 y4 : (⟨Cert.ReferenceIdeal.S2048x4096, .i1⟩ : BufTy).Contents (Elt Ideal)} (e4 : x4 = y4) {x5 y5 : (⟨Cert.ReferenceIdeal.S2048x4096, .i1⟩ : BufTy).Contents (Elt Ideal)} (e5 : x5 = y5) {x6 y6 : (⟨Cert.ReferenceIdeal.S128, .f32⟩ : BufTy).Contents (Elt Ideal)} (e6 : x6 = y6) {x7 y7 : (⟨Cert.ReferenceIdeal.S128, .f32⟩ : BufTy).Contents (Elt Ideal)} (e7 : x7 = y7) {x8 y8 : (⟨Cert.ReferenceIdeal.S128, .f32⟩ : BufTy).Contents (Elt Ideal)} (e8 : x8 = y8) {x9 y9 : (⟨Cert.ReferenceIdeal.S128, .f32⟩ : BufTy).Contents (Elt Ideal)} (e9 : x9 = y9) {x10 y10 : (⟨Cert.ReferenceIdeal.S2x128x128, .f32⟩ : BufTy).Contents (Elt Ideal)} (e10 : x10 = y10) {x11 y11 : (⟨Cert.ReferenceIdeal.S2x128, .f32⟩ : BufTy).Contents (Elt Ideal)} (e11 : x11 = y11) {x12 y12 : (⟨Cert.ReferenceIdeal.S2x128x128, .f32⟩ : BufTy).Contents (Elt Ideal)} (e12 : x12 = y12) {x13 y13 : (⟨Cert.ReferenceIdeal.S2x128, .f32⟩ : BufTy).Contents (Elt Ideal)} (e13 : x13 = y13) {x14 y14 : (⟨Cert.ReferenceIdeal.S2x128x128, .f32⟩ : BufTy).Contents (Elt Ideal)} (e14 : x14 = y14) {x15 y15 : (⟨Cert.ReferenceIdeal.S2x128, .f32⟩ : BufTy).Contents (Elt Ideal)} (e15 : x15 = y15) {x16 y16 : (⟨Cert.ReferenceIdeal.S2x128x128, .f32⟩ : BufTy).Contents (Elt Ideal)} (e16 : x16 = y16) {x17 y17 : (⟨Cert.ReferenceIdeal.S2x128, .f32⟩ : BufTy).Contents (Elt Ideal)} (e17 : x17 = y17) {x18 y18 : (⟨Cert.ReferenceIdeal.S2x128, .f32⟩ : BufTy).Contents (Elt Ideal)} (e18 : x18 = y18) {x19 y19 : (⟨Cert.ReferenceIdeal.S2x128, .f32⟩ : BufTy).Contents (Elt Ideal)} (e19 : x19 = y19) {x20 y20 : (⟨Cert.ReferenceIdeal.S2x128x256, .f32⟩ : BufTy).Contents (Elt Ideal)} (e20 : x20 = y20) {x21 y21 : (⟨Cert.ReferenceIdeal.S2x256, .f32⟩ : BufTy).Contents (Elt Ideal)} (e21 : x21 = y21) {x22 y22 : (⟨Cert.ReferenceIdeal.S2x256x128, .f32⟩ : BufTy).Contents (Elt Ideal)} (e22 : x22 = y22) {x23 y23 : (⟨Cert.ReferenceIdeal.S2x128, .f32⟩ : BufTy).Contents (Elt Ideal)} (e23 : x23 = y23) :
    Cert.ReferenceIdeal.Read.val_main_v271 (F := Ideal) x0 x1 x4 x5 x6 x7 x8 x9 x10 x11 x12 x13 x14 x15 x16 x17 x18 x19 x20 x21 x22 x23 = Cert.ReferenceIdeal.Read.val_main_v271 (F := Ideal) y0 y1 y4 y5 y6 y7 y8 y9 y10 y11 y12 y13 y14 y15 y16 y17 y18 y19 y20 y21 y22 y23 := by
  rw [e0, e1, e4, e5, e6, e7, e8, e9, e10, e11, e12, e13, e14, e15, e16, e17, e18, e19, e20, e21, e22, e23]

/-- Under the precondition the two forms of update 0 agree. -/
theorem forms1 (x0 : FVec Ideal Cert.Pre_tame.S2048x128 .f32) (x1 : FVec Ideal Cert.Pre_tame.S4096x128 .f32) (x2 : IVec Cert.Pre_tame.S4096x2048 1) (x3 : IVec Cert.Pre_tame.S4096x2048 1) (x4 : IVec Cert.Pre_tame.S2048x4096 1) (x5 : IVec Cert.Pre_tame.S2048x4096 1) (x6 : FVec Ideal Cert.Pre_tame.S128 .f32) (x7 : FVec Ideal Cert.Pre_tame.S128 .f32) (x8 : FVec Ideal Cert.Pre_tame.S128 .f32) (x9 : FVec Ideal Cert.Pre_tame.S128 .f32) (x10 : FVec Ideal Cert.Pre_tame.S2x128x128 .f32) (x11 : FVec Ideal Cert.Pre_tame.S2x128 .f32) (x12 : FVec Ideal Cert.Pre_tame.S2x128x128 .f32) (x13 : FVec Ideal Cert.Pre_tame.S2x128 .f32) (x14 : FVec Ideal Cert.Pre_tame.S2x128x128 .f32) (x15 : FVec Ideal Cert.Pre_tame.S2x128 .f32) (x16 : FVec Ideal Cert.Pre_tame.S2x128x128 .f32) (x17 : FVec Ideal Cert.Pre_tame.S2x128 .f32) (x18 : FVec Ideal Cert.Pre_tame.S2x128 .f32) (x19 : FVec Ideal Cert.Pre_tame.S2x128 .f32) (x20 : FVec Ideal Cert.Pre_tame.S2x128x256 .f32) (x21 : FVec Ideal Cert.Pre_tame.S2x256 .f32) (x22 : FVec Ideal Cert.Pre_tame.S2x256x128 .f32) (x23 : FVec Ideal Cert.Pre_tame.S2x128 .f32) (h0 : (Cert.Pre_tame.fn (F := Ideal) x0 x1 x2 x3 x4 x5 x6 x7 x8 x9 x10 x11 x12 x13 x14 x15 x16 x17 x18 x19 x20 x21 x22 x23).1 = fun _ => 1#1) (h1 : (Cert.Pre_tame.fn (F := Ideal) x0 x1 x2 x3 x4 x5 x6 x7 x8 x9 x10 x11 x12 x13 x14 x15 x16 x17 x18 x19 x20 x21 x22 x23).2 = fun _ => 1#1) (i : Fin 4096) (j : Fin 128) :
    layerK 0 x1 x0 x8 x9 x6 x7 x10 x11 x12 x13 x14 x15 x16 x17 x18 x19 x20 x21 x22 x23 x2 x3 (Ideal.ofBits .f32 0x3A000000#32) i j = layerR 0 x1 x0 x8 x9 x6 x7 x10 x11 x12 x13 x14 x15 x16 x17 x18 x19 x20 x21 x22 x23 x2 x3 i j :=
  layerK_eq (by norm_num) 0 x1 x0 x8 x9 x6 x7 x10 x11 x12 x13 x14 x15 x16 x17 x18 x19 x20 x21 x22 x23 x2 x3
    (inv2048_eq.trans (by norm_num)) i j
    (Cert.Pre_tame.Val.low0 x0 x1 x2 x3 x4 x5 x6 x7 x8 x9 x10 x11 x12 x13 x14 x15 x16 x17 x18 x19 x20 x21 x22 x23 h0)

/-- The kernel's result 1 is the reference's value of the same arguments. -/
theorem same1 (m : (ℓ : Loc Cert.KernelIdeal.nD Cert.KernelIdeal.τ Cert.KernelIdeal.sig) → Buf (Elt Ideal) ℓ) (ρ : Dev Cert.KernelIdeal.nD → PrngReg) (hp : Cert.Pre_KernelIdeal_tame m) (c : Dev Cert.KernelIdeal.nD) :
    W8 m ρ c (Proc.devRef .tc Cert.KernelIdeal.main_v56) = Cert.ReferenceIdeal.Read.val_main_v275 (F := Ideal) (ar m c Cert.KernelIdeal.main_arg0) (ar m c Cert.KernelIdeal.main_arg1) (ar m c Cert.KernelIdeal.main_arg2) (ar m c Cert.KernelIdeal.main_arg3) (ar m c Cert.KernelIdeal.main_arg6) (ar m c Cert.KernelIdeal.main_arg7) (ar m c Cert.KernelIdeal.main_arg8) (ar m c Cert.KernelIdeal.main_arg9) (ar m c Cert.KernelIdeal.main_arg10) (ar m c Cert.KernelIdeal.main_arg11) (ar m c Cert.KernelIdeal.main_arg12) (ar m c Cert.KernelIdeal.main_arg13) (ar m c Cert.KernelIdeal.main_arg14) (ar m c Cert.KernelIdeal.main_arg15) (ar m c Cert.KernelIdeal.main_arg16) (ar m c Cert.KernelIdeal.main_arg17) (ar m c Cert.KernelIdeal.main_arg18) (ar m c Cert.KernelIdeal.main_arg19) (ar m c Cert.KernelIdeal.main_arg20) (ar m c Cert.KernelIdeal.main_arg21) (ar m c Cert.KernelIdeal.main_arg22) (ar m c Cert.KernelIdeal.main_arg23) := by
  refine funext fun (ix : (⟨2, ![4096, 128]⟩ : Shape).Idx) => ?_
  rw [eq_ix2 ix]
  refine (out1_at m ρ c (ix 0) (ix 1)).trans (Eq.trans ?_ (Cert.ReferenceIdeal.Val.v275_at (ar m c Cert.KernelIdeal.main_arg0) (ar m c Cert.KernelIdeal.main_arg1) (ar m c Cert.KernelIdeal.main_arg2) (ar m c Cert.KernelIdeal.main_arg3) (ar m c Cert.KernelIdeal.main_arg6) (ar m c Cert.KernelIdeal.main_arg7) (ar m c Cert.KernelIdeal.main_arg8) (ar m c Cert.KernelIdeal.main_arg9) (ar m c Cert.KernelIdeal.main_arg10) (ar m c Cert.KernelIdeal.main_arg11) (ar m c Cert.KernelIdeal.main_arg12) (ar m c Cert.KernelIdeal.main_arg13) (ar m c Cert.KernelIdeal.main_arg14) (ar m c Cert.KernelIdeal.main_arg15) (ar m c Cert.KernelIdeal.main_arg16) (ar m c Cert.KernelIdeal.main_arg17) (ar m c Cert.KernelIdeal.main_arg18) (ar m c Cert.KernelIdeal.main_arg19) (ar m c Cert.KernelIdeal.main_arg20) (ar m c Cert.KernelIdeal.main_arg21) (ar m c Cert.KernelIdeal.main_arg22) (ar m c Cert.KernelIdeal.main_arg23) (ix 0) (ix 1)).symm)
  have h := hp c
  exact forms1 (ar m c Cert.KernelIdeal.main_arg0) (ar m c Cert.KernelIdeal.main_arg1) (ar m c Cert.KernelIdeal.main_arg2) (ar m c Cert.KernelIdeal.main_arg3) (ar m c Cert.KernelIdeal.main_arg4) (ar m c Cert.KernelIdeal.main_arg5) (ar m c Cert.KernelIdeal.main_arg6) (ar m c Cert.KernelIdeal.main_arg7) (ar m c Cert.KernelIdeal.main_arg8) (ar m c Cert.KernelIdeal.main_arg9) (ar m c Cert.KernelIdeal.main_arg10) (ar m c Cert.KernelIdeal.main_arg11) (ar m c Cert.KernelIdeal.main_arg12) (ar m c Cert.KernelIdeal.main_arg13) (ar m c Cert.KernelIdeal.main_arg14) (ar m c Cert.KernelIdeal.main_arg15) (ar m c Cert.KernelIdeal.main_arg16) (ar m c Cert.KernelIdeal.main_arg17) (ar m c Cert.KernelIdeal.main_arg18) (ar m c Cert.KernelIdeal.main_arg19) (ar m c Cert.KernelIdeal.main_arg20) (ar m c Cert.KernelIdeal.main_arg21) (ar m c Cert.KernelIdeal.main_arg22) (ar m c Cert.KernelIdeal.main_arg23) h.1 h.2 (ix 0) (ix 1)

/-- Equal arguments give equal values. -/
theorem v275_congr {x0 y0 : (⟨Cert.ReferenceIdeal.S2048x128, .f32⟩ : BufTy).Contents (Elt Ideal)} (e0 : x0 = y0) {x1 y1 : (⟨Cert.ReferenceIdeal.S4096x128, .f32⟩ : BufTy).Contents (Elt Ideal)} (e1 : x1 = y1) {x2 y2 : (⟨Cert.ReferenceIdeal.S4096x2048, .i1⟩ : BufTy).Contents (Elt Ideal)} (e2 : x2 = y2) {x3 y3 : (⟨Cert.ReferenceIdeal.S4096x2048, .i1⟩ : BufTy).Contents (Elt Ideal)} (e3 : x3 = y3) {x6 y6 : (⟨Cert.ReferenceIdeal.S128, .f32⟩ : BufTy).Contents (Elt Ideal)} (e6 : x6 = y6) {x7 y7 : (⟨Cert.ReferenceIdeal.S128, .f32⟩ : BufTy).Contents (Elt Ideal)} (e7 : x7 = y7) {x8 y8 : (⟨Cert.ReferenceIdeal.S128, .f32⟩ : BufTy).Contents (Elt Ideal)} (e8 : x8 = y8) {x9 y9 : (⟨Cert.ReferenceIdeal.S128, .f32⟩ : BufTy).Contents (Elt Ideal)} (e9 : x9 = y9) {x10 y10 : (⟨Cert.ReferenceIdeal.S2x128x128, .f32⟩ : BufTy).Contents (Elt Ideal)} (e10 : x10 = y10) {x11 y11 : (⟨Cert.ReferenceIdeal.S2x128, .f32⟩ : BufTy).Contents (Elt Ideal)} (e11 : x11 = y11) {x12 y12 : (⟨Cert.ReferenceIdeal.S2x128x128, .f32⟩ : BufTy).Contents (Elt Ideal)} (e12 : x12 = y12) {x13 y13 : (⟨Cert.ReferenceIdeal.S2x128, .f32⟩ : BufTy).Contents (Elt Ideal)} (e13 : x13 = y13) {x14 y14 : (⟨Cert.ReferenceIdeal.S2x128x128, .f32⟩ : BufTy).Contents (Elt Ideal)} (e14 : x14 = y14) {x15 y15 : (⟨Cert.ReferenceIdeal.S2x128, .f32⟩ : BufTy).Contents (Elt Ideal)} (e15 : x15 = y15) {x16 y16 : (⟨Cert.ReferenceIdeal.S2x128x128, .f32⟩ : BufTy).Contents (Elt Ideal)} (e16 : x16 = y16) {x17 y17 : (⟨Cert.ReferenceIdeal.S2x128, .f32⟩ : BufTy).Contents (Elt Ideal)} (e17 : x17 = y17) {x18 y18 : (⟨Cert.ReferenceIdeal.S2x128, .f32⟩ : BufTy).Contents (Elt Ideal)} (e18 : x18 = y18) {x19 y19 : (⟨Cert.ReferenceIdeal.S2x128, .f32⟩ : BufTy).Contents (Elt Ideal)} (e19 : x19 = y19) {x20 y20 : (⟨Cert.ReferenceIdeal.S2x128x256, .f32⟩ : BufTy).Contents (Elt Ideal)} (e20 : x20 = y20) {x21 y21 : (⟨Cert.ReferenceIdeal.S2x256, .f32⟩ : BufTy).Contents (Elt Ideal)} (e21 : x21 = y21) {x22 y22 : (⟨Cert.ReferenceIdeal.S2x256x128, .f32⟩ : BufTy).Contents (Elt Ideal)} (e22 : x22 = y22) {x23 y23 : (⟨Cert.ReferenceIdeal.S2x128, .f32⟩ : BufTy).Contents (Elt Ideal)} (e23 : x23 = y23) :
    Cert.ReferenceIdeal.Read.val_main_v275 (F := Ideal) x0 x1 x2 x3 x6 x7 x8 x9 x10 x11 x12 x13 x14 x15 x16 x17 x18 x19 x20 x21 x22 x23 = Cert.ReferenceIdeal.Read.val_main_v275 (F := Ideal) y0 y1 y2 y3 y6 y7 y8 y9 y10 y11 y12 y13 y14 y15 y16 y17 y18 y19 y20 y21 y22 y23 := by
  rw [e0, e1, e2, e3, e6, e7, e8, e9, e10, e11, e12, e13, e14, e15, e16, e17, e18, e19, e20, e21, e22, e23]

/-- The algebraic claim. -/
theorem algebraic : Cert.algebraic_KernelIdeal_ReferenceIdeal_pre_tame := by
  intro m g m' g' hp hm
  refine ⟨fun c => W8 m g c (Proc.devRef .tc Cert.KernelIdeal.main_v85), fun c => W8 m g c (Proc.devRef .tc Cert.KernelIdeal.main_v56), ?_, ?_⟩
  · refine (θ_run _ _ _).mono (fun r h c => ?_) (Cert.KernelIdeal.Gen.run_ends m g)
    refine ⟨h.1 c _ (Cert.KernelIdeal.Gen.mem_uc Cert.KernelIdeal.main_v85 (by decide)), h.1 c _ (Cert.KernelIdeal.Gen.mem_uc Cert.KernelIdeal.main_v56 (by decide)), ?_⟩
    exact ⟨(h.1 c _ (Cert.KernelIdeal.Gen.mem_uc Cert.KernelIdeal.main_arg0 (by decide))).trans (Cert.KernelIdeal.Gen.W8_main_arg0 m g c),
      (h.1 c _ (Cert.KernelIdeal.Gen.mem_uc Cert.KernelIdeal.main_arg1 (by decide))).trans (Cert.KernelIdeal.Gen.W8_main_arg1 m g c),
      (h.1 c _ (Cert.KernelIdeal.Gen.mem_uc Cert.KernelIdeal.main_arg2 (by decide))).trans (Cert.KernelIdeal.Gen.W8_main_arg2 m g c),
      (h.1 c _ (Cert.KernelIdeal.Gen.mem_uc Cert.KernelIdeal.main_arg3 (by decide))).trans (Cert.KernelIdeal.Gen.W8_main_arg3 m g c),
      (h.1 c _ (Cert.KernelIdeal.Gen.mem_uc Cert.KernelIdeal.main_arg4 (by decide))).trans (Cert.KernelIdeal.Gen.W8_main_arg4 m g c),
      (h.1 c _ (Cert.KernelIdeal.Gen.mem_uc Cert.KernelIdeal.main_arg5 (by decide))).trans (Cert.KernelIdeal.Gen.W8_main_arg5 m g c),
      (h.1 c _ (Cert.KernelIdeal.Gen.mem_uc Cert.KernelIdeal.main_arg6 (by decide))).trans (Cert.KernelIdeal.Gen.W8_main_arg6 m g c),
      (h.1 c _ (Cert.KernelIdeal.Gen.mem_uc Cert.KernelIdeal.main_arg7 (by decide))).trans (Cert.KernelIdeal.Gen.W8_main_arg7 m g c),
      (h.1 c _ (Cert.KernelIdeal.Gen.mem_uc Cert.KernelIdeal.main_arg8 (by decide))).trans (Cert.KernelIdeal.Gen.W8_main_arg8 m g c),
      (h.1 c _ (Cert.KernelIdeal.Gen.mem_uc Cert.KernelIdeal.main_arg9 (by decide))).trans (Cert.KernelIdeal.Gen.W8_main_arg9 m g c),
      (h.1 c _ (Cert.KernelIdeal.Gen.mem_uc Cert.KernelIdeal.main_arg10 (by decide))).trans (Cert.KernelIdeal.Gen.W8_main_arg10 m g c),
      (h.1 c _ (Cert.KernelIdeal.Gen.mem_uc Cert.KernelIdeal.main_arg11 (by decide))).trans (Cert.KernelIdeal.Gen.W8_main_arg11 m g c),
      (h.1 c _ (Cert.KernelIdeal.Gen.mem_uc Cert.KernelIdeal.main_arg12 (by decide))).trans (Cert.KernelIdeal.Gen.W8_main_arg12 m g c),
      (h.1 c _ (Cert.KernelIdeal.Gen.mem_uc Cert.KernelIdeal.main_arg13 (by decide))).trans (Cert.KernelIdeal.Gen.W8_main_arg13 m g c),
      (h.1 c _ (Cert.KernelIdeal.Gen.mem_uc Cert.KernelIdeal.main_arg14 (by decide))).trans (Cert.KernelIdeal.Gen.W8_main_arg14 m g c),
      (h.1 c _ (Cert.KernelIdeal.Gen.mem_uc Cert.KernelIdeal.main_arg15 (by decide))).trans (Cert.KernelIdeal.Gen.W8_main_arg15 m g c),
      (h.1 c _ (Cert.KernelIdeal.Gen.mem_uc Cert.KernelIdeal.main_arg16 (by decide))).trans (Cert.KernelIdeal.Gen.W8_main_arg16 m g c),
      (h.1 c _ (Cert.KernelIdeal.Gen.mem_uc Cert.KernelIdeal.main_arg17 (by decide))).trans (Cert.KernelIdeal.Gen.W8_main_arg17 m g c),
      (h.1 c _ (Cert.KernelIdeal.Gen.mem_uc Cert.KernelIdeal.main_arg18 (by decide))).trans (Cert.KernelIdeal.Gen.W8_main_arg18 m g c),
      (h.1 c _ (Cert.KernelIdeal.Gen.mem_uc Cert.KernelIdeal.main_arg19 (by decide))).trans (Cert.KernelIdeal.Gen.W8_main_arg19 m g c),
      (h.1 c _ (Cert.KernelIdeal.Gen.mem_uc Cert.KernelIdeal.main_arg20 (by decide))).trans (Cert.KernelIdeal.Gen.W8_main_arg20 m g c),
      (h.1 c _ (Cert.KernelIdeal.Gen.mem_uc Cert.KernelIdeal.main_arg21 (by decide))).trans (Cert.KernelIdeal.Gen.W8_main_arg21 m g c),
      (h.1 c _ (Cert.KernelIdeal.Gen.mem_uc Cert.KernelIdeal.main_arg22 (by decide))).trans (Cert.KernelIdeal.Gen.W8_main_arg22 m g c),
      (h.1 c _ (Cert.KernelIdeal.Gen.mem_uc Cert.KernelIdeal.main_arg23 (by decide))).trans (Cert.KernelIdeal.Gen.W8_main_arg23 m g c)⟩
  · refine (θ_run _ _ _).mono (fun r h c => ?_) (Cert.ReferenceIdeal.Value.run m' g')
    obtain ⟨e0, e1, e2, e3, e4, e5, e6, e7, e8, e9, e10, e11, e12, e13, e14, e15, e16, e17, e18, e19, e20, e21, e22, e23⟩ := hm c
    refine ⟨(h c).1.trans ((Cert.ReferenceIdeal.Read.val_main_v271_eq (StableHlo.launchContents m' c)).trans ?_), (h c).2.1.trans ((Cert.ReferenceIdeal.Read.val_main_v275_eq (StableHlo.launchContents m' c)).trans ?_), (h c).2.2⟩
    · exact (v271_congr e0 e1 e4 e5 e6 e7 e8 e9 e10 e11 e12 e13 e14 e15 e16 e17 e18 e19 e20 e21 e22 e23).trans (same0 m g hp c).symm
    · exact (v275_congr e0 e1 e2 e3 e6 e7 e8 e9 e10 e11 e12 e13 e14 e15 e16 e17 e18 e19 e20 e21 e22 e23).trans (same1 m g hp c).symm

end Cert.Algebraic

end
-- ==== Proof.lean ====
/- Proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.FrameBase.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.FrameIdeal.Run
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and no counter raised. -/
theorem reference_frame : Cert.quiescent_ReferenceIdeal :=
  fun m ρ _ => (θ_run Cert.ReferenceIdeal.defs _ _).mono (fun r h => ⟨fun c => (h c).2.2, Idealize.ShloMosaic.sem_eq_zero_of_no_sems rfl _⟩) (Cert.ReferenceIdeal.Value.run m ρ)

theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    IdealRules.named_const.statement Cert.KernelIdeal.κ "scale" .f32 0x3E3504F3#32 (((Real.sqrt 32)⁻¹ : ℝ) : EReal) rfl,
    Cert.Algebraic.algebraic⟩

end Cert.Proof

end
